-- ==== Defs.lean ====
def Pre_Kernel (m : (ℓ : Loc Cert.Kernel.nD Cert.Kernel.τ Cert.Kernel.sig) → Buf (Elt Bits) ℓ) : Prop :=
  True

def Pre_Kernel_finite_and_no_tie [hPre_finite_and_no_tie : Cert.Pre_finite_and_no_tie.Facts] (m : (ℓ : Loc Cert.Kernel.nD Cert.Kernel.τ Cert.Kernel.sig) → Buf (Elt Bits) ℓ) : Prop :=
  ∀ c : Dev Cert.Kernel.nD,
    (Cert.Pre_finite_and_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_and_no_tie : Cert.Pre_finite_and_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_tie [hPre_finite_and_no_tie : Cert.Pre_finite_and_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_Kernel_pre_finite_and_no_tie [hKernel : Cert.Kernel.Facts] [hPre_finite_and_no_tie : Cert.Pre_finite_and_no_tie.Facts] : Prop :=
  ∀ (m : (ℓ : Loc Cert.Kernel.nD Cert.Kernel.τ Cert.Kernel.sig) → Buf (Elt Bits) ℓ) (g : Dev Cert.Kernel.nD → PrngReg), Pre_Kernel_finite_and_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_and_no_tie [hReferenceIdeal : Cert.ReferenceIdeal.Facts] [hPre_finite_and_no_tie : Cert.Pre_finite_and_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "loss_scale" .f32 0x38555555#32 ((5 / 98304 : ℝ) : EReal)

def algebraic_KernelIdeal_ReferenceIdeal [hKernelIdeal : Cert.KernelIdeal.Facts] [hReferenceIdeal : Cert.ReferenceIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v59)) (v3 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_v57) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v520) = v0 c
          ∧ r.2.mem ((c.tc : Thread Cert.ReferenceIdeal.nD Cert.ReferenceIdeal.τ).loc Cert.ReferenceIdeal.main_v485) = v1 c
          ∧ r.2.mem ((c.tc : Thread Cert.ReferenceIdeal.nD Cert.ReferenceIdeal.τ).loc Cert.ReferenceIdeal.main_v518) = v2 c
          ∧ r.2.mem ((c.tc : Thread Cert.ReferenceIdeal.nD Cert.ReferenceIdeal.τ).loc Cert.ReferenceIdeal.main_v464) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_and_no_tie : Cert.Pre_finite_and_no_tie.Facts),
    quiescent_Kernel (hKernel := hKernel)
    ∧ quiescent_Kernel_pre_finite_and_no_tie (hKernel := hKernel) (hPre_finite_and_no_tie := hPre_finite_and_no_tie)
    ∧ quiescent_KernelIdeal (hKernelIdeal := hKernelIdeal) (hPre_finite_and_no_tie := hPre_finite_and_no_tie)
    ∧ quiescent_ReferenceIdeal (hReferenceIdeal := hReferenceIdeal)
    ∧ quiescent_ReferenceIdeal_pre_finite_and_no_tie (hReferenceIdeal := hReferenceIdeal) (hPre_finite_and_no_tie := hPre_finite_and_no_tie)
    ∧ preserves_Kernel_KernelIdeal
    ∧ algebraic_KernelIdeal_ReferenceIdeal (hKernelIdeal := hKernelIdeal) (hReferenceIdeal := hReferenceIdeal) (hPre_finite_and_no_tie := hPre_finite_and_no_tie)
-- ==== Pre_finite_and_no_tie.lean ====
abbrev S256x3x64x64 : Shape := ⟨4, ![256, 3, 64, 64]⟩
abbrev S32x3x4x4 : Shape := ⟨4, ![32, 3, 4, 4]⟩
abbrev S32 : Shape := ⟨1, ![32]⟩
abbrev S64x32x4x4 : Shape := ⟨4, ![64, 32, 4, 4]⟩
abbrev S64 : Shape := ⟨1, ![64]⟩
abbrev S128x64x4x4 : Shape := ⟨4, ![128, 64, 4, 4]⟩
abbrev S128 : Shape := ⟨1, ![128]⟩
abbrev S256x128x4x4 : Shape := ⟨4, ![256, 128, 4, 4]⟩
abbrev S256 : Shape := ⟨1, ![256]⟩
abbrev S256x4096 : Shape := ⟨2, ![256, 4096]⟩
abbrev S3x256x32 : Shape := ⟨3, ![3, 256, 32]⟩
abbrev S3x32 : Shape := ⟨2, ![3, 32]⟩
abbrev S_ : Shape := ⟨0, ![]⟩
abbrev S256x3x66x66 : Shape := ⟨4, ![256, 3, 66, 66]⟩
abbrev S256x32x32x32 : Shape := ⟨4, ![256, 32, 32, 32]⟩
abbrev S256x3x32x32 : Shape := ⟨4, ![256, 3, 32, 32]⟩
abbrev S32x3x1x1 : Shape := ⟨4, ![32, 3, 1, 1]⟩
abbrev S32x3 : Shape := ⟨2, ![32, 3]⟩
abbrev S256x32x34x34 : Shape := ⟨4, ![256, 32, 34, 34]⟩
abbrev S256x64x16x16 : Shape := ⟨4, ![256, 64, 16, 16]⟩
abbrev S256x32x16x16 : Shape := ⟨4, ![256, 32, 16, 16]⟩
abbrev S64x32x1x1 : Shape := ⟨4, ![64, 32, 1, 1]⟩
abbrev S64x32 : Shape := ⟨2, ![64, 32]⟩
abbrev S256x16x16x64 : Shape := ⟨4, ![256, 16, 16, 64]⟩
abbrev S256x64x18x18 : Shape := ⟨4, ![256, 64, 18, 18]⟩
abbrev S256x128x8x8 : Shape := ⟨4, ![256, 128, 8, 8]⟩
abbrev S256x64x8x8 : Shape := ⟨4, ![256, 64, 8, 8]⟩
abbrev S128x64x1x1 : Shape := ⟨4, ![128, 64, 1, 1]⟩
abbrev S128x64 : Shape := ⟨2, ![128, 64]⟩
abbrev S256x8x8x128 : Shape := ⟨4, ![256, 8, 8, 128]⟩
abbrev S256x128x10x10 : Shape := ⟨4, ![256, 128, 10, 10]⟩
abbrev S256x256x4x4 : Shape := ⟨4, ![256, 256, 4, 4]⟩
abbrev S256x128x1x1 : Shape := ⟨4, ![256, 128, 1, 1]⟩
abbrev S256x128 : Shape := ⟨2, ![256, 128]⟩
abbrev S256x4x4x256 : Shape := ⟨4, ![256, 4, 4, 256]⟩
abbrev S256x256 : Shape := ⟨2, ![256, 256]⟩
abbrev S1x256 : Shape := ⟨2, ![1, 256]⟩
abbrev S256x3x32 : Shape := ⟨3, ![256, 3, 32]⟩
abbrev S1x3x32 : Shape := ⟨3, ![1, 3, 32]⟩
abbrev S256x3x1x32 : Shape := ⟨4, ![256, 3, 1, 32]⟩
abbrev S1x3x256x32 : Shape := ⟨4, ![1, 3, 256, 32]⟩
abbrev S256x3x256x32 : Shape := ⟨4, ![256, 3, 256, 32]⟩
abbrev S256x3x256 : Shape := ⟨3, ![256, 3, 256]⟩
abbrev S3x256 : Shape := ⟨2, ![3, 256]⟩
abbrev S1x3x256 : Shape := ⟨3, ![1, 3, 256]⟩
abbrev S256x3 : Shape := ⟨2, ![256, 3]⟩
abbrev S256x3x1 : Shape := ⟨3, ![256, 3, 1]⟩

class Facts : Prop where
  bcast_S_S256x3x64x64 : S_.BroadcastsInDim S256x3x64x64 (![] : Fin 0 → Fin S256x3x64x64.rank)
  reducesTo_S256x3x64x64_S_d0_1_2_3 : S256x3x64x64.ReducesTo [0, 1, 2, 3] S_
  h_S_ : 0 < S_.numel
  bcast_S_S32x3x4x4 : S_.BroadcastsInDim S32x3x4x4 (![] : Fin 0 → Fin S32x3x4x4.rank)
  reducesTo_S32x3x4x4_S_d0_1_2_3 : S32x3x4x4.ReducesTo [0, 1, 2, 3] S_
  bcast_S_S32 : S_.BroadcastsInDim S32 (![] : Fin 0 → Fin S32.rank)
  reducesTo_S32_S_d0 : S32.ReducesTo [0] S_
  bcast_S_S64x32x4x4 : S_.BroadcastsInDim S64x32x4x4 (![] : Fin 0 → Fin S64x32x4x4.rank)
  reducesTo_S64x32x4x4_S_d0_1_2_3 : S64x32x4x4.ReducesTo [0, 1, 2, 3] S_
  bcast_S_S64 : S_.BroadcastsInDim S64 (![] : Fin 0 → Fin S64.rank)
  reducesTo_S64_S_d0 : S64.ReducesTo [0] S_
  bcast_S_S128x64x4x4 : S_.BroadcastsInDim S128x64x4x4 (![] : Fin 0 → Fin S128x64x4x4.rank)
  reducesTo_S128x64x4x4_S_d0_1_2_3 : S128x64x4x4.ReducesTo [0, 1, 2, 3] S_
  bcast_S_S128 : S_.BroadcastsInDim S128 (![] : Fin 0 → Fin S128.rank)
  reducesTo_S128_S_d0 : S128.ReducesTo [0] S_
  bcast_S_S256x128x4x4 : S_.BroadcastsInDim S256x128x4x4 (![] : Fin 0 → Fin S256x128x4x4.rank)
  reducesTo_S256x128x4x4_S_d0_1_2_3 : S256x128x4x4.ReducesTo [0, 1, 2, 3] S_
  bcast_S_S256 : S_.BroadcastsInDim S256 (![] : Fin 0 → Fin S256.rank)
  reducesTo_S256_S_d0 : S256.ReducesTo [0] S_
  bcast_S_S256x4096 : S_.BroadcastsInDim S256x4096 (![] : Fin 0 → Fin S256x4096.rank)
  reducesTo_S256x4096_S_d0_1 : S256x4096.ReducesTo [0, 1] S_
  bcast_S_S3x256x32 : S_.BroadcastsInDim S3x256x32 (![] : Fin 0 → Fin S3x256x32.rank)
  reducesTo_S3x256x32_S_d0_1_2 : S3x256x32.ReducesTo [0, 1, 2] S_
  bcast_S_S3x32 : S_.BroadcastsInDim S3x32 (![] : Fin 0 → Fin S3x32.rank)
  reducesTo_S3x32_S_d0_1 : S3x32.ReducesTo [0, 1] S_
  pads_S256x3x64x64_S256x3x66x66_000_000_110_110 : S256x3x64x64.Pads (![0, 0, 1, 1] : Fin 4 → Nat) ![0, 0, 1, 1] ![0, 0, 0, 0] S256x3x66x66
  bcast_S32_S256x32x32x32_1 : S32.BroadcastsInDim S256x32x32x32 (![1] : Fin 1 → Fin S256x32x32x32.rank)
  slicesBy_S256x3x66x66_S256x3x32x32_0s1_0s1_0s2_0s2 : S256x3x66x66.SlicesBy (![0, 0, 0, 0] : Fin 4 → Nat) ![1, 1, 2, 2] S256x3x32x32
  slices_S32x3x4x4_S32x3x1x1_0_0_0_0 : S32x3x4x4.Slices ![0, 0, 0, 0] S32x3x1x1
  shapeCasts_S32x3x1x1_S32x3 : S32x3x1x1.ShapeCasts S32x3
  transposes_S256x32x32x32_S256x32x32x32_0_3_1_2 : S256x32x32x32.Transposes [0, 3, 1, 2] S256x32x32x32
  slicesBy_S256x3x66x66_S256x3x32x32_0s1_0s1_0s2_1s2 : S256x3x66x66.SlicesBy (![0, 0, 0, 1] : Fin 4 → Nat) ![1, 1, 2, 2] S256x3x32x32
  slices_S32x3x4x4_S32x3x1x1_0_0_0_1 : S32x3x4x4.Slices ![0, 0, 0, 1] S32x3x1x1
  slicesBy_S256x3x66x66_S256x3x32x32_0s1_0s1_0s2_2s2 : S256x3x66x66.SlicesBy (![0, 0, 0, 2] : Fin 4 → Nat) ![1, 1, 2, 2] S256x3x32x32
  slices_S32x3x4x4_S32x3x1x1_0_0_0_2 : S32x3x4x4.Slices ![0, 0, 0, 2] S32x3x1x1
  slicesBy_S256x3x66x66_S256x3x32x32_0s1_0s1_0s2_3s2 : S256x3x66x66.SlicesBy (![0, 0, 0, 3] : Fin 4 → Nat) ![1, 1, 2, 2] S256x3x32x32
  slices_S32x3x4x4_S32x3x1x1_0_0_0_3 : S32x3x4x4.Slices ![0, 0, 0, 3] S32x3x1x1
  slicesBy_S256x3x66x66_S256x3x32x32_0s1_0s1_1s2_0s2 : S256x3x66x66.SlicesBy (![0, 0, 1, 0] : Fin 4 → Nat) ![1, 1, 2, 2] S256x3x32x32
  slices_S32x3x4x4_S32x3x1x1_0_0_1_0 : S32x3x4x4.Slices ![0, 0, 1, 0] S32x3x1x1
  slicesBy_S256x3x66x66_S256x3x32x32_0s1_0s1_1s2_1s2 : S256x3x66x66.SlicesBy (![0, 0, 1, 1] : Fin 4 → Nat) ![1, 1, 2, 2] S256x3x32x32
  slices_S32x3x4x4_S32x3x1x1_0_0_1_1 : S32x3x4x4.Slices ![0, 0, 1, 1] S32x3x1x1
  slicesBy_S256x3x66x66_S256x3x32x32_0s1_0s1_1s2_2s2 : S256x3x66x66.SlicesBy (![0, 0, 1, 2] : Fin 4 → Nat) ![1, 1, 2, 2] S256x3x32x32
  slices_S32x3x4x4_S32x3x1x1_0_0_1_2 : S32x3x4x4.Slices ![0, 0, 1, 2] S32x3x1x1
  slicesBy_S256x3x66x66_S256x3x32x32_0s1_0s1_1s2_3s2 : S256x3x66x66.SlicesBy (![0, 0, 1, 3] : Fin 4 → Nat) ![1, 1, 2, 2] S256x3x32x32
  slices_S32x3x4x4_S32x3x1x1_0_0_1_3 : S32x3x4x4.Slices ![0, 0, 1, 3] S32x3x1x1
  slicesBy_S256x3x66x66_S256x3x32x32_0s1_0s1_2s2_0s2 : S256x3x66x66.SlicesBy (![0, 0, 2, 0] : Fin 4 → Nat) ![1, 1, 2, 2] S256x3x32x32
  slices_S32x3x4x4_S32x3x1x1_0_0_2_0 : S32x3x4x4.Slices ![0, 0, 2, 0] S32x3x1x1
  slicesBy_S256x3x66x66_S256x3x32x32_0s1_0s1_2s2_1s2 : S256x3x66x66.SlicesBy (![0, 0, 2, 1] : Fin 4 → Nat) ![1, 1, 2, 2] S256x3x32x32
  slices_S32x3x4x4_S32x3x1x1_0_0_2_1 : S32x3x4x4.Slices ![0, 0, 2, 1] S32x3x1x1
  slicesBy_S256x3x66x66_S256x3x32x32_0s1_0s1_2s2_2s2 : S256x3x66x66.SlicesBy (![0, 0, 2, 2] : Fin 4 → Nat) ![1, 1, 2, 2] S256x3x32x32
  slices_S32x3x4x4_S32x3x1x1_0_0_2_2 : S32x3x4x4.Slices ![0, 0, 2, 2] S32x3x1x1
  slicesBy_S256x3x66x66_S256x3x32x32_0s1_0s1_2s2_3s2 : S256x3x66x66.SlicesBy (![0, 0, 2, 3] : Fin 4 → Nat) ![1, 1, 2, 2] S256x3x32x32
  slices_S32x3x4x4_S32x3x1x1_0_0_2_3 : S32x3x4x4.Slices ![0, 0, 2, 3] S32x3x1x1
  slicesBy_S256x3x66x66_S256x3x32x32_0s1_0s1_3s2_0s2 : S256x3x66x66.SlicesBy (![0, 0, 3, 0] : Fin 4 → Nat) ![1, 1, 2, 2] S256x3x32x32
  slices_S32x3x4x4_S32x3x1x1_0_0_3_0 : S32x3x4x4.Slices ![0, 0, 3, 0] S32x3x1x1
  slicesBy_S256x3x66x66_S256x3x32x32_0s1_0s1_3s2_1s2 : S256x3x66x66.SlicesBy (![0, 0, 3, 1] : Fin 4 → Nat) ![1, 1, 2, 2] S256x3x32x32
  slices_S32x3x4x4_S32x3x1x1_0_0_3_1 : S32x3x4x4.Slices ![0, 0, 3, 1] S32x3x1x1
  slicesBy_S256x3x66x66_S256x3x32x32_0s1_0s1_3s2_2s2 : S256x3x66x66.SlicesBy (![0, 0, 3, 2] : Fin 4 → Nat) ![1, 1, 2, 2] S256x3x32x32
  slices_S32x3x4x4_S32x3x1x1_0_0_3_2 : S32x3x4x4.Slices ![0, 0, 3, 2] S32x3x1x1
  slicesBy_S256x3x66x66_S256x3x32x32_0s1_0s1_3s2_3s2 : S256x3x66x66.SlicesBy (![0, 0, 3, 3] : Fin 4 → Nat) ![1, 1, 2, 2] S256x3x32x32
  slices_S32x3x4x4_S32x3x1x1_0_0_3_3 : S32x3x4x4.Slices ![0, 0, 3, 3] S32x3x1x1
  bcast_S_S256x32x32x32 : S_.BroadcastsInDim S256x32x32x32 (![] : Fin 0 → Fin S256x32x32x32.rank)
  pads_S256x32x32x32_S256x32x34x34_000_000_110_110 : S256x32x32x32.Pads (![0, 0, 1, 1] : Fin 4 → Nat) ![0, 0, 1, 1] ![0, 0, 0, 0] S256x32x34x34
  bcast_S64_S256x64x16x16_1 : S64.BroadcastsInDim S256x64x16x16 (![1] : Fin 1 → Fin S256x64x16x16.rank)
  slicesBy_S256x32x34x34_S256x32x16x16_0s1_0s1_0s2_0s2 : S256x32x34x34.SlicesBy (![0, 0, 0, 0] : Fin 4 → Nat) ![1, 1, 2, 2] S256x32x16x16
  slices_S64x32x4x4_S64x32x1x1_0_0_0_0 : S64x32x4x4.Slices ![0, 0, 0, 0] S64x32x1x1
  shapeCasts_S64x32x1x1_S64x32 : S64x32x1x1.ShapeCasts S64x32
  transposes_S256x16x16x64_S256x64x16x16_0_3_1_2 : S256x16x16x64.Transposes [0, 3, 1, 2] S256x64x16x16
  slicesBy_S256x32x34x34_S256x32x16x16_0s1_0s1_0s2_1s2 : S256x32x34x34.SlicesBy (![0, 0, 0, 1] : Fin 4 → Nat) ![1, 1, 2, 2] S256x32x16x16
  slices_S64x32x4x4_S64x32x1x1_0_0_0_1 : S64x32x4x4.Slices ![0, 0, 0, 1] S64x32x1x1
  slicesBy_S256x32x34x34_S256x32x16x16_0s1_0s1_0s2_2s2 : S256x32x34x34.SlicesBy (![0, 0, 0, 2] : Fin 4 → Nat) ![1, 1, 2, 2] S256x32x16x16
  slices_S64x32x4x4_S64x32x1x1_0_0_0_2 : S64x32x4x4.Slices ![0, 0, 0, 2] S64x32x1x1
  slicesBy_S256x32x34x34_S256x32x16x16_0s1_0s1_0s2_3s2 : S256x32x34x34.SlicesBy (![0, 0, 0, 3] : Fin 4 → Nat) ![1, 1, 2, 2] S256x32x16x16
  slices_S64x32x4x4_S64x32x1x1_0_0_0_3 : S64x32x4x4.Slices ![0, 0, 0, 3] S64x32x1x1
  slicesBy_S256x32x34x34_S256x32x16x16_0s1_0s1_1s2_0s2 : S256x32x34x34.SlicesBy (![0, 0, 1, 0] : Fin 4 → Nat) ![1, 1, 2, 2] S256x32x16x16
  slices_S64x32x4x4_S64x32x1x1_0_0_1_0 : S64x32x4x4.Slices ![0, 0, 1, 0] S64x32x1x1
  slicesBy_S256x32x34x34_S256x32x16x16_0s1_0s1_1s2_1s2 : S256x32x34x34.SlicesBy (![0, 0, 1, 1] : Fin 4 → Nat) ![1, 1, 2, 2] S256x32x16x16
  slices_S64x32x4x4_S64x32x1x1_0_0_1_1 : S64x32x4x4.Slices ![0, 0, 1, 1] S64x32x1x1
  slicesBy_S256x32x34x34_S256x32x16x16_0s1_0s1_1s2_2s2 : S256x32x34x34.SlicesBy (![0, 0, 1, 2] : Fin 4 → Nat) ![1, 1, 2, 2] S256x32x16x16
  slices_S64x32x4x4_S64x32x1x1_0_0_1_2 : S64x32x4x4.Slices ![0, 0, 1, 2] S64x32x1x1
  slicesBy_S256x32x34x34_S256x32x16x16_0s1_0s1_1s2_3s2 : S256x32x34x34.SlicesBy (![0, 0, 1, 3] : Fin 4 → Nat) ![1, 1, 2, 2] S256x32x16x16
  slices_S64x32x4x4_S64x32x1x1_0_0_1_3 : S64x32x4x4.Slices ![0, 0, 1, 3] S64x32x1x1
  slicesBy_S256x32x34x34_S256x32x16x16_0s1_0s1_2s2_0s2 : S256x32x34x34.SlicesBy (![0, 0, 2, 0] : Fin 4 → Nat) ![1, 1, 2, 2] S256x32x16x16
  slices_S64x32x4x4_S64x32x1x1_0_0_2_0 : S64x32x4x4.Slices ![0, 0, 2, 0] S64x32x1x1
  slicesBy_S256x32x34x34_S256x32x16x16_0s1_0s1_2s2_1s2 : S256x32x34x34.SlicesBy (![0, 0, 2, 1] : Fin 4 → Nat) ![1, 1, 2, 2] S256x32x16x16
  slices_S64x32x4x4_S64x32x1x1_0_0_2_1 : S64x32x4x4.Slices ![0, 0, 2, 1] S64x32x1x1
  slicesBy_S256x32x34x34_S256x32x16x16_0s1_0s1_2s2_2s2 : S256x32x34x34.SlicesBy (![0, 0, 2, 2] : Fin 4 → Nat) ![1, 1, 2, 2] S256x32x16x16
  slices_S64x32x4x4_S64x32x1x1_0_0_2_2 : S64x32x4x4.Slices ![0, 0, 2, 2] S64x32x1x1
  slicesBy_S256x32x34x34_S256x32x16x16_0s1_0s1_2s2_3s2 : S256x32x34x34.SlicesBy (![0, 0, 2, 3] : Fin 4 → Nat) ![1, 1, 2, 2] S256x32x16x16
  slices_S64x32x4x4_S64x32x1x1_0_0_2_3 : S64x32x4x4.Slices ![0, 0, 2, 3] S64x32x1x1
  slicesBy_S256x32x34x34_S256x32x16x16_0s1_0s1_3s2_0s2 : S256x32x34x34.SlicesBy (![0, 0, 3, 0] : Fin 4 → Nat) ![1, 1, 2, 2] S256x32x16x16
  slices_S64x32x4x4_S64x32x1x1_0_0_3_0 : S64x32x4x4.Slices ![0, 0, 3, 0] S64x32x1x1
  slicesBy_S256x32x34x34_S256x32x16x16_0s1_0s1_3s2_1s2 : S256x32x34x34.SlicesBy (![0, 0, 3, 1] : Fin 4 → Nat) ![1, 1, 2, 2] S256x32x16x16
  slices_S64x32x4x4_S64x32x1x1_0_0_3_1 : S64x32x4x4.Slices ![0, 0, 3, 1] S64x32x1x1
  slicesBy_S256x32x34x34_S256x32x16x16_0s1_0s1_3s2_2s2 : S256x32x34x34.SlicesBy (![0, 0, 3, 2] : Fin 4 → Nat) ![1, 1, 2, 2] S256x32x16x16
  slices_S64x32x4x4_S64x32x1x1_0_0_3_2 : S64x32x4x4.Slices ![0, 0, 3, 2] S64x32x1x1
  slicesBy_S256x32x34x34_S256x32x16x16_0s1_0s1_3s2_3s2 : S256x32x34x34.SlicesBy (![0, 0, 3, 3] : Fin 4 → Nat) ![1, 1, 2, 2] S256x32x16x16
  slices_S64x32x4x4_S64x32x1x1_0_0_3_3 : S64x32x4x4.Slices ![0, 0, 3, 3] S64x32x1x1
  bcast_S_S256x64x16x16 : S_.BroadcastsInDim S256x64x16x16 (![] : Fin 0 → Fin S256x64x16x16.rank)
  pads_S256x64x16x16_S256x64x18x18_000_000_110_110 : S256x64x16x16.Pads (![0, 0, 1, 1] : Fin 4 → Nat) ![0, 0, 1, 1] ![0, 0, 0, 0] S256x64x18x18
  bcast_S128_S256x128x8x8_1 : S128.BroadcastsInDim S256x128x8x8 (![1] : Fin 1 → Fin S256x128x8x8.rank)
  slicesBy_S256x64x18x18_S256x64x8x8_0s1_0s1_0s2_0s2 : S256x64x18x18.SlicesBy (![0, 0, 0, 0] : Fin 4 → Nat) ![1, 1, 2, 2] S256x64x8x8
  slices_S128x64x4x4_S128x64x1x1_0_0_0_0 : S128x64x4x4.Slices ![0, 0, 0, 0] S128x64x1x1
  shapeCasts_S128x64x1x1_S128x64 : S128x64x1x1.ShapeCasts S128x64
  transposes_S256x8x8x128_S256x128x8x8_0_3_1_2 : S256x8x8x128.Transposes [0, 3, 1, 2] S256x128x8x8
  slicesBy_S256x64x18x18_S256x64x8x8_0s1_0s1_0s2_1s2 : S256x64x18x18.SlicesBy (![0, 0, 0, 1] : Fin 4 → Nat) ![1, 1, 2, 2] S256x64x8x8
  slices_S128x64x4x4_S128x64x1x1_0_0_0_1 : S128x64x4x4.Slices ![0, 0, 0, 1] S128x64x1x1
  slicesBy_S256x64x18x18_S256x64x8x8_0s1_0s1_0s2_2s2 : S256x64x18x18.SlicesBy (![0, 0, 0, 2] : Fin 4 → Nat) ![1, 1, 2, 2] S256x64x8x8
  slices_S128x64x4x4_S128x64x1x1_0_0_0_2 : S128x64x4x4.Slices ![0, 0, 0, 2] S128x64x1x1
  slicesBy_S256x64x18x18_S256x64x8x8_0s1_0s1_0s2_3s2 : S256x64x18x18.SlicesBy (![0, 0, 0, 3] : Fin 4 → Nat) ![1, 1, 2, 2] S256x64x8x8
  slices_S128x64x4x4_S128x64x1x1_0_0_0_3 : S128x64x4x4.Slices ![0, 0, 0, 3] S128x64x1x1
  slicesBy_S256x64x18x18_S256x64x8x8_0s1_0s1_1s2_0s2 : S256x64x18x18.SlicesBy (![0, 0, 1, 0] : Fin 4 → Nat) ![1, 1, 2, 2] S256x64x8x8
  slices_S128x64x4x4_S128x64x1x1_0_0_1_0 : S128x64x4x4.Slices ![0, 0, 1, 0] S128x64x1x1
  slicesBy_S256x64x18x18_S256x64x8x8_0s1_0s1_1s2_1s2 : S256x64x18x18.SlicesBy (![0, 0, 1, 1] : Fin 4 → Nat) ![1, 1, 2, 2] S256x64x8x8
  slices_S128x64x4x4_S128x64x1x1_0_0_1_1 : S128x64x4x4.Slices ![0, 0, 1, 1] S128x64x1x1
  slicesBy_S256x64x18x18_S256x64x8x8_0s1_0s1_1s2_2s2 : S256x64x18x18.SlicesBy (![0, 0, 1, 2] : Fin 4 → Nat) ![1, 1, 2, 2] S256x64x8x8
  slices_S128x64x4x4_S128x64x1x1_0_0_1_2 : S128x64x4x4.Slices ![0, 0, 1, 2] S128x64x1x1
  slicesBy_S256x64x18x18_S256x64x8x8_0s1_0s1_1s2_3s2 : S256x64x18x18.SlicesBy (![0, 0, 1, 3] : Fin 4 → Nat) ![1, 1, 2, 2] S256x64x8x8
  slices_S128x64x4x4_S128x64x1x1_0_0_1_3 : S128x64x4x4.Slices ![0, 0, 1, 3] S128x64x1x1
  slicesBy_S256x64x18x18_S256x64x8x8_0s1_0s1_2s2_0s2 : S256x64x18x18.SlicesBy (![0, 0, 2, 0] : Fin 4 → Nat) ![1, 1, 2, 2] S256x64x8x8
  slices_S128x64x4x4_S128x64x1x1_0_0_2_0 : S128x64x4x4.Slices ![0, 0, 2, 0] S128x64x1x1
  slicesBy_S256x64x18x18_S256x64x8x8_0s1_0s1_2s2_1s2 : S256x64x18x18.SlicesBy (![0, 0, 2, 1] : Fin 4 → Nat) ![1, 1, 2, 2] S256x64x8x8
  slices_S128x64x4x4_S128x64x1x1_0_0_2_1 : S128x64x4x4.Slices ![0, 0, 2, 1] S128x64x1x1
  slicesBy_S256x64x18x18_S256x64x8x8_0s1_0s1_2s2_2s2 : S256x64x18x18.SlicesBy (![0, 0, 2, 2] : Fin 4 → Nat) ![1, 1, 2, 2] S256x64x8x8
  slices_S128x64x4x4_S128x64x1x1_0_0_2_2 : S128x64x4x4.Slices ![0, 0, 2, 2] S128x64x1x1
  slicesBy_S256x64x18x18_S256x64x8x8_0s1_0s1_2s2_3s2 : S256x64x18x18.SlicesBy (![0, 0, 2, 3] : Fin 4 → Nat) ![1, 1, 2, 2] S256x64x8x8
  slices_S128x64x4x4_S128x64x1x1_0_0_2_3 : S128x64x4x4.Slices ![0, 0, 2, 3] S128x64x1x1
  slicesBy_S256x64x18x18_S256x64x8x8_0s1_0s1_3s2_0s2 : S256x64x18x18.SlicesBy (![0, 0, 3, 0] : Fin 4 → Nat) ![1, 1, 2, 2] S256x64x8x8
  slices_S128x64x4x4_S128x64x1x1_0_0_3_0 : S128x64x4x4.Slices ![0, 0, 3, 0] S128x64x1x1
  slicesBy_S256x64x18x18_S256x64x8x8_0s1_0s1_3s2_1s2 : S256x64x18x18.SlicesBy (![0, 0, 3, 1] : Fin 4 → Nat) ![1, 1, 2, 2] S256x64x8x8
  slices_S128x64x4x4_S128x64x1x1_0_0_3_1 : S128x64x4x4.Slices ![0, 0, 3, 1] S128x64x1x1
  slicesBy_S256x64x18x18_S256x64x8x8_0s1_0s1_3s2_2s2 : S256x64x18x18.SlicesBy (![0, 0, 3, 2] : Fin 4 → Nat) ![1, 1, 2, 2] S256x64x8x8
  slices_S128x64x4x4_S128x64x1x1_0_0_3_2 : S128x64x4x4.Slices ![0, 0, 3, 2] S128x64x1x1
  slicesBy_S256x64x18x18_S256x64x8x8_0s1_0s1_3s2_3s2 : S256x64x18x18.SlicesBy (![0, 0, 3, 3] : Fin 4 → Nat) ![1, 1, 2, 2] S256x64x8x8
  slices_S128x64x4x4_S128x64x1x1_0_0_3_3 : S128x64x4x4.Slices ![0, 0, 3, 3] S128x64x1x1
  bcast_S_S256x128x8x8 : S_.BroadcastsInDim S256x128x8x8 (![] : Fin 0 → Fin S256x128x8x8.rank)
  pads_S256x128x8x8_S256x128x10x10_000_000_110_110 : S256x128x8x8.Pads (![0, 0, 1, 1] : Fin 4 → Nat) ![0, 0, 1, 1] ![0, 0, 0, 0] S256x128x10x10
  bcast_S256_S256x256x4x4_1 : S256.BroadcastsInDim S256x256x4x4 (![1] : Fin 1 → Fin S256x256x4x4.rank)
  slicesBy_S256x128x10x10_S256x128x4x4_0s1_0s1_0s2_0s2 : S256x128x10x10.SlicesBy (![0, 0, 0, 0] : Fin 4 → Nat) ![1, 1, 2, 2] S256x128x4x4
  slices_S256x128x4x4_S256x128x1x1_0_0_0_0 : S256x128x4x4.Slices ![0, 0, 0, 0] S256x128x1x1
  shapeCasts_S256x128x1x1_S256x128 : S256x128x1x1.ShapeCasts S256x128
  transposes_S256x4x4x256_S256x256x4x4_0_3_1_2 : S256x4x4x256.Transposes [0, 3, 1, 2] S256x256x4x4
  slicesBy_S256x128x10x10_S256x128x4x4_0s1_0s1_0s2_1s2 : S256x128x10x10.SlicesBy (![0, 0, 0, 1] : Fin 4 → Nat) ![1, 1, 2, 2] S256x128x4x4
  slices_S256x128x4x4_S256x128x1x1_0_0_0_1 : S256x128x4x4.Slices ![0, 0, 0, 1] S256x128x1x1
  slicesBy_S256x128x10x10_S256x128x4x4_0s1_0s1_0s2_2s2 : S256x128x10x10.SlicesBy (![0, 0, 0, 2] : Fin 4 → Nat) ![1, 1, 2, 2] S256x128x4x4
  slices_S256x128x4x4_S256x128x1x1_0_0_0_2 : S256x128x4x4.Slices ![0, 0, 0, 2] S256x128x1x1
  slicesBy_S256x128x10x10_S256x128x4x4_0s1_0s1_0s2_3s2 : S256x128x10x10.SlicesBy (![0, 0, 0, 3] : Fin 4 → Nat) ![1, 1, 2, 2] S256x128x4x4
  slices_S256x128x4x4_S256x128x1x1_0_0_0_3 : S256x128x4x4.Slices ![0, 0, 0, 3] S256x128x1x1
  slicesBy_S256x128x10x10_S256x128x4x4_0s1_0s1_1s2_0s2 : S256x128x10x10.SlicesBy (![0, 0, 1, 0] : Fin 4 → Nat) ![1, 1, 2, 2] S256x128x4x4
  slices_S256x128x4x4_S256x128x1x1_0_0_1_0 : S256x128x4x4.Slices ![0, 0, 1, 0] S256x128x1x1
  slicesBy_S256x128x10x10_S256x128x4x4_0s1_0s1_1s2_1s2 : S256x128x10x10.SlicesBy (![0, 0, 1, 1] : Fin 4 → Nat) ![1, 1, 2, 2] S256x128x4x4
  slices_S256x128x4x4_S256x128x1x1_0_0_1_1 : S256x128x4x4.Slices ![0, 0, 1, 1] S256x128x1x1
  slicesBy_S256x128x10x10_S256x128x4x4_0s1_0s1_1s2_2s2 : S256x128x10x10.SlicesBy (![0, 0, 1, 2] : Fin 4 → Nat) ![1, 1, 2, 2] S256x128x4x4
  slices_S256x128x4x4_S256x128x1x1_0_0_1_2 : S256x128x4x4.Slices ![0, 0, 1, 2] S256x128x1x1
  slicesBy_S256x128x10x10_S256x128x4x4_0s1_0s1_1s2_3s2 : S256x128x10x10.SlicesBy (![0, 0, 1, 3] : Fin 4 → Nat) ![1, 1, 2, 2] S256x128x4x4
  slices_S256x128x4x4_S256x128x1x1_0_0_1_3 : S256x128x4x4.Slices ![0, 0, 1, 3] S256x128x1x1
  slicesBy_S256x128x10x10_S256x128x4x4_0s1_0s1_2s2_0s2 : S256x128x10x10.SlicesBy (![0, 0, 2, 0] : Fin 4 → Nat) ![1, 1, 2, 2] S256x128x4x4
  slices_S256x128x4x4_S256x128x1x1_0_0_2_0 : S256x128x4x4.Slices ![0, 0, 2, 0] S256x128x1x1
  slicesBy_S256x128x10x10_S256x128x4x4_0s1_0s1_2s2_1s2 : S256x128x10x10.SlicesBy (![0, 0, 2, 1] : Fin 4 → Nat) ![1, 1, 2, 2] S256x128x4x4
  slices_S256x128x4x4_S256x128x1x1_0_0_2_1 : S256x128x4x4.Slices ![0, 0, 2, 1] S256x128x1x1
  slicesBy_S256x128x10x10_S256x128x4x4_0s1_0s1_2s2_2s2 : S256x128x10x10.SlicesBy (![0, 0, 2, 2] : Fin 4 → Nat) ![1, 1, 2, 2] S256x128x4x4
  slices_S256x128x4x4_S256x128x1x1_0_0_2_2 : S256x128x4x4.Slices ![0, 0, 2, 2] S256x128x1x1
  slicesBy_S256x128x10x10_S256x128x4x4_0s1_0s1_2s2_3s2 : S256x128x10x10.SlicesBy (![0, 0, 2, 3] : Fin 4 → Nat) ![1, 1, 2, 2] S256x128x4x4
  slices_S256x128x4x4_S256x128x1x1_0_0_2_3 : S256x128x4x4.Slices ![0, 0, 2, 3] S256x128x1x1
  slicesBy_S256x128x10x10_S256x128x4x4_0s1_0s1_3s2_0s2 : S256x128x10x10.SlicesBy (![0, 0, 3, 0] : Fin 4 → Nat) ![1, 1, 2, 2] S256x128x4x4
  slices_S256x128x4x4_S256x128x1x1_0_0_3_0 : S256x128x4x4.Slices ![0, 0, 3, 0] S256x128x1x1
  slicesBy_S256x128x10x10_S256x128x4x4_0s1_0s1_3s2_1s2 : S256x128x10x10.SlicesBy (![0, 0, 3, 1] : Fin 4 → Nat) ![1, 1, 2, 2] S256x128x4x4
  slices_S256x128x4x4_S256x128x1x1_0_0_3_1 : S256x128x4x4.Slices ![0, 0, 3, 1] S256x128x1x1
  slicesBy_S256x128x10x10_S256x128x4x4_0s1_0s1_3s2_2s2 : S256x128x10x10.SlicesBy (![0, 0, 3, 2] : Fin 4 → Nat) ![1, 1, 2, 2] S256x128x4x4
  slices_S256x128x4x4_S256x128x1x1_0_0_3_2 : S256x128x4x4.Slices ![0, 0, 3, 2] S256x128x1x1
  slicesBy_S256x128x10x10_S256x128x4x4_0s1_0s1_3s2_3s2 : S256x128x10x10.SlicesBy (![0, 0, 3, 3] : Fin 4 → Nat) ![1, 1, 2, 2] S256x128x4x4
  slices_S256x128x4x4_S256x128x1x1_0_0_3_3 : S256x128x4x4.Slices ![0, 0, 3, 3] S256x128x1x1
  bcast_S_S256x256x4x4 : S_.BroadcastsInDim S256x256x4x4 (![] : Fin 0 → Fin S256x256x4x4.rank)
  shapeCasts_S256x256x4x4_S256x4096 : S256x256x4x4.ShapeCasts S256x4096
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S3x32_S1x3x32_1_2 : S3x32.BroadcastsInDim S1x3x32 (![1, 2] : Fin 2 → Fin S1x3x32.rank)
  bcast_S1x3x32_S256x3x32_0_1_2 : S1x3x32.BroadcastsInDim S256x3x32 (![0, 1, 2] : Fin 3 → Fin S256x3x32.rank)
  bcast_S256x3x32_S256x3x1x32_0_1_3 : S256x3x32.BroadcastsInDim S256x3x1x32 (![0, 1, 3] : Fin 3 → Fin S256x3x1x32.rank)
  bcast_S3x256x32_S1x3x256x32_1_2_3 : S3x256x32.BroadcastsInDim S1x3x256x32 (![1, 2, 3] : Fin 3 → Fin S1x3x256x32.rank)
  bcast_S256x3x1x32_S256x3x256x32_0_1_2_3 : S256x3x1x32.BroadcastsInDim S256x3x256x32 (![0, 1, 2, 3] : Fin 4 → Fin S256x3x256x32.rank)
  bcast_S1x3x256x32_S256x3x256x32_0_1_2_3 : S1x3x256x32.BroadcastsInDim S256x3x256x32 (![0, 1, 2, 3] : Fin 4 → Fin S256x3x256x32.rank)
  reducesTo_S256x3x256x32_S256x3x256_d3 : S256x3x256x32.ReducesTo [3] S256x3x256
  bcast_S_S3x256 : S_.BroadcastsInDim S3x256 (![] : Fin 0 → Fin S3x256.rank)
  bcast_S3x256_S1x3x256_1_2 : S3x256.BroadcastsInDim S1x3x256 (![1, 2] : Fin 2 → Fin S1x3x256.rank)
  bcast_S_S1x3x256 : S_.BroadcastsInDim S1x3x256 (![] : Fin 0 → Fin S1x3x256.rank)
  bcast_S1x3x256_S256x3x256_0_1_2 : S1x3x256.BroadcastsInDim S256x3x256 (![0, 1, 2] : Fin 3 → Fin S256x3x256.rank)
  reducesTo_S256x3x256_S256x3_d2 : S256x3x256.ReducesTo [2] S256x3
  bcast_S256x3_S256x3x1_0_1 : S256x3.BroadcastsInDim S256x3x1 (![0, 1] : Fin 2 → Fin S256x3x1.rank)
  bcast_S256x3x1_S256x3x256_0_1_2 : S256x3x1.BroadcastsInDim S256x3x256 (![0, 1, 2] : Fin 3 → Fin S256x3x256.rank)
  natLt_1_32 : 1 < 32
  bcast_S_S256x3 : S_.BroadcastsInDim S256x3 (![] : Fin 0 → Fin S256x3.rank)
  reducesTo_S256x3_S_d0_1 : S256x3.ReducesTo [0, 1] S_
  dot_S256x3x32x32_S32x3_S256x32x32x32_1_1_023_0_n_n_wf : DotDims.WF S256x3x32x32 S32x3 S256x32x32x32 [1] [1] [0, 2, 3] [0] [] []
  dot_S256x32x16x16_S64x32_S256x16x16x64_1_1_023_0_n_n_wf : DotDims.WF S256x32x16x16 S64x32 S256x16x16x64 [1] [1] [0, 2, 3] [0] [] []
  dot_S256x64x8x8_S128x64_S256x8x8x128_1_1_023_0_n_n_wf : DotDims.WF S256x64x8x8 S128x64 S256x8x8x128 [1] [1] [0, 2, 3] [0] [] []
  dot_S256x128x4x4_S256x128_S256x4x4x256_1_1_023_0_n_n_wf : DotDims.WF S256x128x4x4 S256x128 S256x4x4x256 [1] [1] [0, 2, 3] [0] [] []
  dot_S256x4096_S256x4096_S256x256_1_1_0_0_n_n_wf : DotDims.WF S256x4096 S256x4096 S256x256 [1] [1] [0] [0] [] []
  dot_S256x256_S3x256x32_S256x3x32_1_1_0_02_n_n_wf : DotDims.WF S256x256 S3x256x32 S256x3x32 [1] [1] [0] [0, 2] [] []

variable [Facts]

def dot_S256x3x32x32_S32x3_S256x32x32x32_1_1_023_0_n_n : DotDims S256x3x32x32 S32x3 S256x32x32x32 where
  lhsContracting := [1]
  rhsContracting := [1]
  lhsNonContracting := [0, 2, 3]
  rhsNonContracting := [0]
  lhsBatch := []
  rhsBatch := []
  wf := dot_S256x3x32x32_S32x3_S256x32x32x32_1_1_023_0_n_n_wf
def dot_S256x32x16x16_S64x32_S256x16x16x64_1_1_023_0_n_n : DotDims S256x32x16x16 S64x32 S256x16x16x64 where
  lhsContracting := [1]
  rhsContracting := [1]
  lhsNonContracting := [0, 2, 3]
  rhsNonContracting := [0]
  lhsBatch := []
  rhsBatch := []
  wf := dot_S256x32x16x16_S64x32_S256x16x16x64_1_1_023_0_n_n_wf
def dot_S256x64x8x8_S128x64_S256x8x8x128_1_1_023_0_n_n : DotDims S256x64x8x8 S128x64 S256x8x8x128 where
  lhsContracting := [1]
  rhsContracting := [1]
  lhsNonContracting := [0, 2, 3]
  rhsNonContracting := [0]
  lhsBatch := []
  rhsBatch := []
  wf := dot_S256x64x8x8_S128x64_S256x8x8x128_1_1_023_0_n_n_wf
def dot_S256x128x4x4_S256x128_S256x4x4x256_1_1_023_0_n_n : DotDims S256x128x4x4 S256x128 S256x4x4x256 where
  lhsContracting := [1]
  rhsContracting := [1]
  lhsNonContracting := [0, 2, 3]
  rhsNonContracting := [0]
  lhsBatch := []
  rhsBatch := []
  wf := dot_S256x128x4x4_S256x128_S256x4x4x256_1_1_023_0_n_n_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S3x256x32_S256x3x32_1_1_0_02_n_n : DotDims S256x256 S3x256x32 S256x3x32 where
  lhsContracting := [1]
  rhsContracting := [1]
  lhsNonContracting := [0]
  rhsNonContracting := [0, 2]
  lhsBatch := []
  rhsBatch := []
  wf := dot_S256x256_S3x256x32_S256x3x32_1_1_0_02_n_n_wf
def fn_part24 {F : FTy → Type} [FloatOps F] (main_v68 : IVec S_ 1) (main_v519 : FVec F S256x3x256 .f32) (main_v526 : IVec S3x256 1) : IVec S_ 1 :=
  let main_v527 : FVec F S3x256 .f32 := uitofp .f32 main_v526
  let main_v528 : FVec F S1x3x256 .f32 := broadcastInDim S1x3x256 ![1, 2] bcast_S3x256_S1x3x256_1_2 main_v527
  let main_cst_47 : FVec F S_ .f32 := constant S_ .f32 0x4E6E6B28#32
  let main_v529 : FVec F S1x3x256 .f32 := broadcastInDim S1x3x256 ![] bcast_S_S1x3x256 main_cst_47
  let main_v530 : FVec F S1x3x256 .f32 := mulf main_v528 main_v529
  let main_v531 : FVec F S256x3x256 .f32 := broadcastInDim S256x3x256 ![0, 1, 2] bcast_S1x3x256_S256x3x256_0_1_2 main_v530
  let main_v532 : FVec F S256x3x256 .f32 := addf main_v519 main_v531
  let main_cst_48 : FVec F S_ .f32 := constant S_ .f32 0x7F800000#32
  let main_v533 : FVec F S256x3 .f32 := (fun x v => Host.reduce FloatOps.minimumf x v reducesTo_S256x3x256_S256x3_d2 h_S_) main_v532 main_cst_48
  let main_v534 : FVec F S256x3x1 .f32 := broadcastInDim S256x3x1 ![0, 1] bcast_S256x3_S256x3x1_0_1 main_v533
  let main_v535 : FVec F S256x3x256 .f32 := broadcastInDim S256x3x256 ![0, 1, 2] bcast_S256x3x1_S256x3x256_0_1_2 main_v534
  let main_v536 : IVec S256x3x256 1 := cmpf .oeq main_v532 main_v535
  let main_v537 : IVec S256x3x256 32 := (extui 32 · natLt_1_32) main_v536
  let main_c_49 : IVec S_ 32 := constantI S_ 32 0#32
  let main_v538 : IVec S256x3 32 := (fun x v => Host.reduce IntOp.addi x v reducesTo_S256x3x256_S256x3_d2 h_S_) main_v537 main_c_49
  let main_c_50 : IVec S_ 32 := constantI S_ 32 1#32
  let main_v539 : IVec S256x3 32 := broadcastInDim S256x3 ![] bcast_S_S256x3 main_c_50
  let main_v540 : IVec S256x3 1 := cmpi .eq main_v538 main_v539
  let main_c_51 : IVec S_ 1 := constantI S_ 1 1#1
  let main_v541 : IVec S_ 1 := (fun x v => Host.reduce IntOp.andi x v reducesTo_S256x3_S_d0_1 h_S_) main_v540 main_c_51
  let main_v542 : IVec S_ 1 := andi main_v68 main_v541
  main_v542

def fn_part23 {F : FTy → Type} [FloatOps F] (main_arg13 : FVec F S3x256x32 .f32) (main_v68 : IVec S_ 1) (main_v501 : FVec F S256x3x32 .f32) (main_v503 : IVec S3x32 32) (main_v505 : IVec S3x32 32) (main_c_43 : IVec S_ 32) : IVec S_ 1 :=
  let main_v506 : IVec S3x32 32 := broadcastInDim S3x32 ![] bcast_S_S3x32 main_c_43
  let main_v507 : IVec S3x32 32 := muli main_v506 main_v505
  let main_v508 : IVec S3x32 1 := cmpi .slt main_v503 main_v507
  let main_v509 : FVec F S3x32 .f32 := uitofp .f32 main_v508
  let main_v510 : FVec F S1x3x32 .f32 := broadcastInDim S1x3x32 ![1, 2] bcast_S3x32_S1x3x32_1_2 main_v509
  let main_v511 : FVec F S256x3x32 .f32 := broadcastInDim S256x3x32 ![0, 1, 2] bcast_S1x3x32_S256x3x32_0_1_2 main_v510
  let main_v512 : FVec F S256x3x32 .f32 := mulf main_v501 main_v511
  let main_v513 : FVec F S256x3x1x32 .f32 := broadcastInDim S256x3x1x32 ![0, 1, 3] bcast_S256x3x32_S256x3x1x32_0_1_3 main_v512
  let main_v514 : FVec F S1x3x256x32 .f32 := broadcastInDim S1x3x256x32 ![1, 2, 3] bcast_S3x256x32_S1x3x256x32_1_2_3 main_arg13
  let main_v515 : FVec F S256x3x256x32 .f32 := broadcastInDim S256x3x256x32 ![0, 1, 2, 3] bcast_S256x3x1x32_S256x3x256x32_0_1_2_3 main_v513
  let main_v516 : FVec F S256x3x256x32 .f32 := broadcastInDim S256x3x256x32 ![0, 1, 2, 3] bcast_S1x3x256x32_S256x3x256x32_0_1_2_3 main_v514
  let main_v517 : FVec F S256x3x256x32 .f32 := subf main_v515 main_v516
  let main_v518 : FVec F S256x3x256x32 .f32 := mulf main_v517 main_v517
  let main_cst_44 : FVec F S_ .f32 := constant S_ .f32 0x00000000#32
  let main_v519 : FVec F S256x3x256 .f32 := (fun x v => Host.reduceAdd x v reducesTo_S256x3x256x32_S256x3x256_d3 h_S_) main_v518 main_cst_44
  let main_v520 : IVec S3x256 32 := iotaInDim S3x256 32 0
  let main_v521 : IVec S3x256 32 := iotaInDim S3x256 32 1
  let main_c_45 : IVec S_ 32 := constantI S_ 32 1#32
  let main_v522 : IVec S3x256 32 := broadcastInDim S3x256 ![] bcast_S_S3x256 main_c_45
  let main_v523 : IVec S3x256 32 := Host.shli main_v522 main_v520
  let main_c_46 : IVec S_ 32 := constantI S_ 32 64#32
  let main_v524 : IVec S3x256 32 := broadcastInDim S3x256 ![] bcast_S_S3x256 main_c_46
  let main_v525 : IVec S3x256 32 := muli main_v524 main_v523
  let main_v526 : IVec S3x256 1 := cmpi .sge main_v521 main_v525
  fn_part24 (F := F) main_v68 main_v519 main_v526

def fn_part22 {F : FTy → Type} [FloatOps F] (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v484 : FVec F S256x256x4x4 .f32) (main_v485 : FVec F S256x256x4x4 .f32) : IVec S_ 1 :=
  let main_v486 : FVec F S256x256x4x4 .f32 := mulf main_v485 main_v484
  let main_cst_40 : FVec F S_ .f32 := constant S_ .f32 0x3F3504F3#32
  let main_v487 : FVec F S256x256x4x4 .f32 := broadcastInDim S256x256x4x4 ![] bcast_S_S256x256x4x4 main_cst_40
  let main_v488 : FVec F S256x256x4x4 .f32 := mulf main_v484 main_v487
  let main_v489 : FVec F S256x256x4x4 .f32 := Host.erf main_v488
  let main_cst_41 : FVec F S_ .f32 := constant S_ .f32 0x3F800000#32
  let main_v490 : FVec F S256x256x4x4 .f32 := broadcastInDim S256x256x4x4 ![] bcast_S_S256x256x4x4 main_cst_41
  let main_v491 : FVec F S256x256x4x4 .f32 := addf main_v490 main_v489
  let main_v492 : FVec F S256x256x4x4 .f32 := mulf main_v486 main_v491
  let main_v493 : FVec F S256x4096 .f32 := shapeCast S256x4096 main_v492 shapeCasts_S256x256x4x4_S256x4096
  let main_v494 : FVec F S256x256 .f32 := (fun l r => Host.dotGeneral dot_S256x4096_S256x4096_S256x256_1_1_0_0_n_n none l r) main_v493 main_arg9
  let main_v495 : FVec F S1x256 .f32 := broadcastInDim S1x256 ![1] bcast_S256_S1x256_1 main_arg10
  let main_v496 : FVec F S256x256 .f32 := broadcastInDim S256x256 ![0, 1] bcast_S1x256_S256x256_0_1 main_v495
  let main_v497 : FVec F S256x256 .f32 := addf main_v494 main_v496
  let main_v498 : FVec F S256x3x32 .f32 := (fun l r => Host.dotGeneral dot_S256x256_S3x256x32_S256x3x32_1_1_0_02_n_n none l r) main_v497 main_arg11
  let main_v499 : FVec F S1x3x32 .f32 := broadcastInDim S1x3x32 ![1, 2] bcast_S3x32_S1x3x32_1_2 main_arg12
  let main_v500 : FVec F S256x3x32 .f32 := broadcastInDim S256x3x32 ![0, 1, 2] bcast_S1x3x32_S256x3x32_0_1_2 main_v499
  let main_v501 : FVec F S256x3x32 .f32 := addf main_v498 main_v500
  let main_v502 : IVec S3x32 32 := iotaInDim S3x32 32 0
  let main_v503 : IVec S3x32 32 := iotaInDim S3x32 32 1
  let main_c_42 : IVec S_ 32 := constantI S_ 32 1#32
  let main_v504 : IVec S3x32 32 := broadcastInDim S3x32 ![] bcast_S_S3x32 main_c_42
  let main_v505 : IVec S3x32 32 := Host.shli main_v504 main_v502
  let main_c_43 : IVec S_ 32 := constantI S_ 32 8#32
  fn_part23 (F := F) main_arg13 main_v68 main_v501 main_v503 main_v505 main_c_43

def fn_part21 {F : FTy → Type} [FloatOps F] (main_arg7 : FVec F S256x128x4x4 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v387 : FVec F S256x128x10x10 .f32) (main_v460 : FVec F S256x256x4x4 .f32) (main_v461 : FVec F S256x128x4x4 .f32) (main_v462 : FVec F S256x128x1x1 .f32) : IVec S_ 1 :=
  let main_v463 : FVec F S256x128 .f32 := shapeCast S256x128 main_v462 shapeCasts_S256x128x1x1_S256x128
  let main_v464 : FVec F S256x4x4x256 .f32 := (fun l r => Host.dotGeneral dot_S256x128x4x4_S256x128_S256x4x4x256_1_1_023_0_n_n none l r) main_v461 main_v463
  let main_v465 : FVec F S256x256x4x4 .f32 := (transpose S256x256x4x4 [0, 3, 1, 2] · transposes_S256x4x4x256_S256x256x4x4_0_3_1_2) main_v464
  let main_v466 : FVec F S256x256x4x4 .f32 := addf main_v460 main_v465
  let main_v467 : FVec F S256x128x4x4 .f32 := (Host.slice S256x128x4x4 ![0, 0, 3, 1] ![1, 1, 2, 2] · slicesBy_S256x128x10x10_S256x128x4x4_0s1_0s1_3s2_1s2) main_v387
  let main_v468 : FVec F S256x128x1x1 .f32 := (extractStridedSlice S256x128x1x1 ![0, 0, 3, 1] · slices_S256x128x4x4_S256x128x1x1_0_0_3_1) main_arg7
  let main_v469 : FVec F S256x128 .f32 := shapeCast S256x128 main_v468 shapeCasts_S256x128x1x1_S256x128
  let main_v470 : FVec F S256x4x4x256 .f32 := (fun l r => Host.dotGeneral dot_S256x128x4x4_S256x128_S256x4x4x256_1_1_023_0_n_n none l r) main_v467 main_v469
  let main_v471 : FVec F S256x256x4x4 .f32 := (transpose S256x256x4x4 [0, 3, 1, 2] · transposes_S256x4x4x256_S256x256x4x4_0_3_1_2) main_v470
  let main_v472 : FVec F S256x256x4x4 .f32 := addf main_v466 main_v471
  let main_v473 : FVec F S256x128x4x4 .f32 := (Host.slice S256x128x4x4 ![0, 0, 3, 2] ![1, 1, 2, 2] · slicesBy_S256x128x10x10_S256x128x4x4_0s1_0s1_3s2_2s2) main_v387
  let main_v474 : FVec F S256x128x1x1 .f32 := (extractStridedSlice S256x128x1x1 ![0, 0, 3, 2] · slices_S256x128x4x4_S256x128x1x1_0_0_3_2) main_arg7
  let main_v475 : FVec F S256x128 .f32 := shapeCast S256x128 main_v474 shapeCasts_S256x128x1x1_S256x128
  let main_v476 : FVec F S256x4x4x256 .f32 := (fun l r => Host.dotGeneral dot_S256x128x4x4_S256x128_S256x4x4x256_1_1_023_0_n_n none l r) main_v473 main_v475
  let main_v477 : FVec F S256x256x4x4 .f32 := (transpose S256x256x4x4 [0, 3, 1, 2] · transposes_S256x4x4x256_S256x256x4x4_0_3_1_2) main_v476
  let main_v478 : FVec F S256x256x4x4 .f32 := addf main_v472 main_v477
  let main_v479 : FVec F S256x128x4x4 .f32 := (Host.slice S256x128x4x4 ![0, 0, 3, 3] ![1, 1, 2, 2] · slicesBy_S256x128x10x10_S256x128x4x4_0s1_0s1_3s2_3s2) main_v387
  let main_v480 : FVec F S256x128x1x1 .f32 := (extractStridedSlice S256x128x1x1 ![0, 0, 3, 3] · slices_S256x128x4x4_S256x128x1x1_0_0_3_3) main_arg7
  let main_v481 : FVec F S256x128 .f32 := shapeCast S256x128 main_v480 shapeCasts_S256x128x1x1_S256x128
  let main_v482 : FVec F S256x4x4x256 .f32 := (fun l r => Host.dotGeneral dot_S256x128x4x4_S256x128_S256x4x4x256_1_1_023_0_n_n none l r) main_v479 main_v481
  let main_v483 : FVec F S256x256x4x4 .f32 := (transpose S256x256x4x4 [0, 3, 1, 2] · transposes_S256x4x4x256_S256x256x4x4_0_3_1_2) main_v482
  let main_v484 : FVec F S256x256x4x4 .f32 := addf main_v478 main_v483
  let main_cst_39 : FVec F S_ .f32 := constant S_ .f32 0x3F000000#32
  let main_v485 : FVec F S256x256x4x4 .f32 := broadcastInDim S256x256x4x4 ![] bcast_S_S256x256x4x4 main_cst_39
  fn_part22 (F := F) main_arg9 main_arg10 main_arg11 main_arg12 main_arg13 main_v68 main_v484 main_v485

def fn_part20 {F : FTy → Type} [FloatOps F] (main_arg7 : FVec F S256x128x4x4 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v387 : FVec F S256x128x10x10 .f32) (main_v436 : FVec F S256x256x4x4 .f32) (main_v437 : FVec F S256x128x4x4 .f32) (main_v438 : FVec F S256x128x1x1 .f32) : IVec S_ 1 :=
  let main_v439 : FVec F S256x128 .f32 := shapeCast S256x128 main_v438 shapeCasts_S256x128x1x1_S256x128
  let main_v440 : FVec F S256x4x4x256 .f32 := (fun l r => Host.dotGeneral dot_S256x128x4x4_S256x128_S256x4x4x256_1_1_023_0_n_n none l r) main_v437 main_v439
  let main_v441 : FVec F S256x256x4x4 .f32 := (transpose S256x256x4x4 [0, 3, 1, 2] · transposes_S256x4x4x256_S256x256x4x4_0_3_1_2) main_v440
  let main_v442 : FVec F S256x256x4x4 .f32 := addf main_v436 main_v441
  let main_v443 : FVec F S256x128x4x4 .f32 := (Host.slice S256x128x4x4 ![0, 0, 2, 1] ![1, 1, 2, 2] · slicesBy_S256x128x10x10_S256x128x4x4_0s1_0s1_2s2_1s2) main_v387
  let main_v444 : FVec F S256x128x1x1 .f32 := (extractStridedSlice S256x128x1x1 ![0, 0, 2, 1] · slices_S256x128x4x4_S256x128x1x1_0_0_2_1) main_arg7
  let main_v445 : FVec F S256x128 .f32 := shapeCast S256x128 main_v444 shapeCasts_S256x128x1x1_S256x128
  let main_v446 : FVec F S256x4x4x256 .f32 := (fun l r => Host.dotGeneral dot_S256x128x4x4_S256x128_S256x4x4x256_1_1_023_0_n_n none l r) main_v443 main_v445
  let main_v447 : FVec F S256x256x4x4 .f32 := (transpose S256x256x4x4 [0, 3, 1, 2] · transposes_S256x4x4x256_S256x256x4x4_0_3_1_2) main_v446
  let main_v448 : FVec F S256x256x4x4 .f32 := addf main_v442 main_v447
  let main_v449 : FVec F S256x128x4x4 .f32 := (Host.slice S256x128x4x4 ![0, 0, 2, 2] ![1, 1, 2, 2] · slicesBy_S256x128x10x10_S256x128x4x4_0s1_0s1_2s2_2s2) main_v387
  let main_v450 : FVec F S256x128x1x1 .f32 := (extractStridedSlice S256x128x1x1 ![0, 0, 2, 2] · slices_S256x128x4x4_S256x128x1x1_0_0_2_2) main_arg7
  let main_v451 : FVec F S256x128 .f32 := shapeCast S256x128 main_v450 shapeCasts_S256x128x1x1_S256x128
  let main_v452 : FVec F S256x4x4x256 .f32 := (fun l r => Host.dotGeneral dot_S256x128x4x4_S256x128_S256x4x4x256_1_1_023_0_n_n none l r) main_v449 main_v451
  let main_v453 : FVec F S256x256x4x4 .f32 := (transpose S256x256x4x4 [0, 3, 1, 2] · transposes_S256x4x4x256_S256x256x4x4_0_3_1_2) main_v452
  let main_v454 : FVec F S256x256x4x4 .f32 := addf main_v448 main_v453
  let main_v455 : FVec F S256x128x4x4 .f32 := (Host.slice S256x128x4x4 ![0, 0, 2, 3] ![1, 1, 2, 2] · slicesBy_S256x128x10x10_S256x128x4x4_0s1_0s1_2s2_3s2) main_v387
  let main_v456 : FVec F S256x128x1x1 .f32 := (extractStridedSlice S256x128x1x1 ![0, 0, 2, 3] · slices_S256x128x4x4_S256x128x1x1_0_0_2_3) main_arg7
  let main_v457 : FVec F S256x128 .f32 := shapeCast S256x128 main_v456 shapeCasts_S256x128x1x1_S256x128
  let main_v458 : FVec F S256x4x4x256 .f32 := (fun l r => Host.dotGeneral dot_S256x128x4x4_S256x128_S256x4x4x256_1_1_023_0_n_n none l r) main_v455 main_v457
  let main_v459 : FVec F S256x256x4x4 .f32 := (transpose S256x256x4x4 [0, 3, 1, 2] · transposes_S256x4x4x256_S256x256x4x4_0_3_1_2) main_v458
  let main_v460 : FVec F S256x256x4x4 .f32 := addf main_v454 main_v459
  let main_v461 : FVec F S256x128x4x4 .f32 := (Host.slice S256x128x4x4 ![0, 0, 3, 0] ![1, 1, 2, 2] · slicesBy_S256x128x10x10_S256x128x4x4_0s1_0s1_3s2_0s2) main_v387
  let main_v462 : FVec F S256x128x1x1 .f32 := (extractStridedSlice S256x128x1x1 ![0, 0, 3, 0] · slices_S256x128x4x4_S256x128x1x1_0_0_3_0) main_arg7
  fn_part21 (F := F) main_arg7 main_arg9 main_arg10 main_arg11 main_arg12 main_arg13 main_v68 main_v387 main_v460 main_v461 main_v462

def fn_part19 {F : FTy → Type} [FloatOps F] (main_arg7 : FVec F S256x128x4x4 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v387 : FVec F S256x128x10x10 .f32) (main_v412 : FVec F S256x256x4x4 .f32) (main_v413 : FVec F S256x128x4x4 .f32) (main_v414 : FVec F S256x128x1x1 .f32) : IVec S_ 1 :=
  let main_v415 : FVec F S256x128 .f32 := shapeCast S256x128 main_v414 shapeCasts_S256x128x1x1_S256x128
  let main_v416 : FVec F S256x4x4x256 .f32 := (fun l r => Host.dotGeneral dot_S256x128x4x4_S256x128_S256x4x4x256_1_1_023_0_n_n none l r) main_v413 main_v415
  let main_v417 : FVec F S256x256x4x4 .f32 := (transpose S256x256x4x4 [0, 3, 1, 2] · transposes_S256x4x4x256_S256x256x4x4_0_3_1_2) main_v416
  let main_v418 : FVec F S256x256x4x4 .f32 := addf main_v412 main_v417
  let main_v419 : FVec F S256x128x4x4 .f32 := (Host.slice S256x128x4x4 ![0, 0, 1, 1] ![1, 1, 2, 2] · slicesBy_S256x128x10x10_S256x128x4x4_0s1_0s1_1s2_1s2) main_v387
  let main_v420 : FVec F S256x128x1x1 .f32 := (extractStridedSlice S256x128x1x1 ![0, 0, 1, 1] · slices_S256x128x4x4_S256x128x1x1_0_0_1_1) main_arg7
  let main_v421 : FVec F S256x128 .f32 := shapeCast S256x128 main_v420 shapeCasts_S256x128x1x1_S256x128
  let main_v422 : FVec F S256x4x4x256 .f32 := (fun l r => Host.dotGeneral dot_S256x128x4x4_S256x128_S256x4x4x256_1_1_023_0_n_n none l r) main_v419 main_v421
  let main_v423 : FVec F S256x256x4x4 .f32 := (transpose S256x256x4x4 [0, 3, 1, 2] · transposes_S256x4x4x256_S256x256x4x4_0_3_1_2) main_v422
  let main_v424 : FVec F S256x256x4x4 .f32 := addf main_v418 main_v423
  let main_v425 : FVec F S256x128x4x4 .f32 := (Host.slice S256x128x4x4 ![0, 0, 1, 2] ![1, 1, 2, 2] · slicesBy_S256x128x10x10_S256x128x4x4_0s1_0s1_1s2_2s2) main_v387
  let main_v426 : FVec F S256x128x1x1 .f32 := (extractStridedSlice S256x128x1x1 ![0, 0, 1, 2] · slices_S256x128x4x4_S256x128x1x1_0_0_1_2) main_arg7
  let main_v427 : FVec F S256x128 .f32 := shapeCast S256x128 main_v426 shapeCasts_S256x128x1x1_S256x128
  let main_v428 : FVec F S256x4x4x256 .f32 := (fun l r => Host.dotGeneral dot_S256x128x4x4_S256x128_S256x4x4x256_1_1_023_0_n_n none l r) main_v425 main_v427
  let main_v429 : FVec F S256x256x4x4 .f32 := (transpose S256x256x4x4 [0, 3, 1, 2] · transposes_S256x4x4x256_S256x256x4x4_0_3_1_2) main_v428
  let main_v430 : FVec F S256x256x4x4 .f32 := addf main_v424 main_v429
  let main_v431 : FVec F S256x128x4x4 .f32 := (Host.slice S256x128x4x4 ![0, 0, 1, 3] ![1, 1, 2, 2] · slicesBy_S256x128x10x10_S256x128x4x4_0s1_0s1_1s2_3s2) main_v387
  let main_v432 : FVec F S256x128x1x1 .f32 := (extractStridedSlice S256x128x1x1 ![0, 0, 1, 3] · slices_S256x128x4x4_S256x128x1x1_0_0_1_3) main_arg7
  let main_v433 : FVec F S256x128 .f32 := shapeCast S256x128 main_v432 shapeCasts_S256x128x1x1_S256x128
  let main_v434 : FVec F S256x4x4x256 .f32 := (fun l r => Host.dotGeneral dot_S256x128x4x4_S256x128_S256x4x4x256_1_1_023_0_n_n none l r) main_v431 main_v433
  let main_v435 : FVec F S256x256x4x4 .f32 := (transpose S256x256x4x4 [0, 3, 1, 2] · transposes_S256x4x4x256_S256x256x4x4_0_3_1_2) main_v434
  let main_v436 : FVec F S256x256x4x4 .f32 := addf main_v430 main_v435
  let main_v437 : FVec F S256x128x4x4 .f32 := (Host.slice S256x128x4x4 ![0, 0, 2, 0] ![1, 1, 2, 2] · slicesBy_S256x128x10x10_S256x128x4x4_0s1_0s1_2s2_0s2) main_v387
  let main_v438 : FVec F S256x128x1x1 .f32 := (extractStridedSlice S256x128x1x1 ![0, 0, 2, 0] · slices_S256x128x4x4_S256x128x1x1_0_0_2_0) main_arg7
  fn_part20 (F := F) main_arg7 main_arg9 main_arg10 main_arg11 main_arg12 main_arg13 main_v68 main_v387 main_v436 main_v437 main_v438

def fn_part18 {F : FTy → Type} [FloatOps F] (main_arg7 : FVec F S256x128x4x4 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v387 : FVec F S256x128x10x10 .f32) (main_v388 : FVec F S256x256x4x4 .f32) (main_v389 : FVec F S256x128x4x4 .f32) (main_v390 : FVec F S256x128x1x1 .f32) : IVec S_ 1 :=
  let main_v391 : FVec F S256x128 .f32 := shapeCast S256x128 main_v390 shapeCasts_S256x128x1x1_S256x128
  let main_v392 : FVec F S256x4x4x256 .f32 := (fun l r => Host.dotGeneral dot_S256x128x4x4_S256x128_S256x4x4x256_1_1_023_0_n_n none l r) main_v389 main_v391
  let main_v393 : FVec F S256x256x4x4 .f32 := (transpose S256x256x4x4 [0, 3, 1, 2] · transposes_S256x4x4x256_S256x256x4x4_0_3_1_2) main_v392
  let main_v394 : FVec F S256x256x4x4 .f32 := addf main_v388 main_v393
  let main_v395 : FVec F S256x128x4x4 .f32 := (Host.slice S256x128x4x4 ![0, 0, 0, 1] ![1, 1, 2, 2] · slicesBy_S256x128x10x10_S256x128x4x4_0s1_0s1_0s2_1s2) main_v387
  let main_v396 : FVec F S256x128x1x1 .f32 := (extractStridedSlice S256x128x1x1 ![0, 0, 0, 1] · slices_S256x128x4x4_S256x128x1x1_0_0_0_1) main_arg7
  let main_v397 : FVec F S256x128 .f32 := shapeCast S256x128 main_v396 shapeCasts_S256x128x1x1_S256x128
  let main_v398 : FVec F S256x4x4x256 .f32 := (fun l r => Host.dotGeneral dot_S256x128x4x4_S256x128_S256x4x4x256_1_1_023_0_n_n none l r) main_v395 main_v397
  let main_v399 : FVec F S256x256x4x4 .f32 := (transpose S256x256x4x4 [0, 3, 1, 2] · transposes_S256x4x4x256_S256x256x4x4_0_3_1_2) main_v398
  let main_v400 : FVec F S256x256x4x4 .f32 := addf main_v394 main_v399
  let main_v401 : FVec F S256x128x4x4 .f32 := (Host.slice S256x128x4x4 ![0, 0, 0, 2] ![1, 1, 2, 2] · slicesBy_S256x128x10x10_S256x128x4x4_0s1_0s1_0s2_2s2) main_v387
  let main_v402 : FVec F S256x128x1x1 .f32 := (extractStridedSlice S256x128x1x1 ![0, 0, 0, 2] · slices_S256x128x4x4_S256x128x1x1_0_0_0_2) main_arg7
  let main_v403 : FVec F S256x128 .f32 := shapeCast S256x128 main_v402 shapeCasts_S256x128x1x1_S256x128
  let main_v404 : FVec F S256x4x4x256 .f32 := (fun l r => Host.dotGeneral dot_S256x128x4x4_S256x128_S256x4x4x256_1_1_023_0_n_n none l r) main_v401 main_v403
  let main_v405 : FVec F S256x256x4x4 .f32 := (transpose S256x256x4x4 [0, 3, 1, 2] · transposes_S256x4x4x256_S256x256x4x4_0_3_1_2) main_v404
  let main_v406 : FVec F S256x256x4x4 .f32 := addf main_v400 main_v405
  let main_v407 : FVec F S256x128x4x4 .f32 := (Host.slice S256x128x4x4 ![0, 0, 0, 3] ![1, 1, 2, 2] · slicesBy_S256x128x10x10_S256x128x4x4_0s1_0s1_0s2_3s2) main_v387
  let main_v408 : FVec F S256x128x1x1 .f32 := (extractStridedSlice S256x128x1x1 ![0, 0, 0, 3] · slices_S256x128x4x4_S256x128x1x1_0_0_0_3) main_arg7
  let main_v409 : FVec F S256x128 .f32 := shapeCast S256x128 main_v408 shapeCasts_S256x128x1x1_S256x128
  let main_v410 : FVec F S256x4x4x256 .f32 := (fun l r => Host.dotGeneral dot_S256x128x4x4_S256x128_S256x4x4x256_1_1_023_0_n_n none l r) main_v407 main_v409
  let main_v411 : FVec F S256x256x4x4 .f32 := (transpose S256x256x4x4 [0, 3, 1, 2] · transposes_S256x4x4x256_S256x256x4x4_0_3_1_2) main_v410
  let main_v412 : FVec F S256x256x4x4 .f32 := addf main_v406 main_v411
  let main_v413 : FVec F S256x128x4x4 .f32 := (Host.slice S256x128x4x4 ![0, 0, 1, 0] ![1, 1, 2, 2] · slicesBy_S256x128x10x10_S256x128x4x4_0s1_0s1_1s2_0s2) main_v387
  let main_v414 : FVec F S256x128x1x1 .f32 := (extractStridedSlice S256x128x1x1 ![0, 0, 1, 0] · slices_S256x128x4x4_S256x128x1x1_0_0_1_0) main_arg7
  fn_part19 (F := F) main_arg7 main_arg9 main_arg10 main_arg11 main_arg12 main_arg13 main_v68 main_v387 main_v412 main_v413 main_v414

def fn_part17 {F : FTy → Type} [FloatOps F] (main_arg5 : FVec F S128x64x4x4 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v281 : FVec F S256x64x18x18 .f32) (main_v366 : FVec F S256x128x8x8 .f32) (main_v370 : FVec F S256x8x8x128 .f32) : IVec S_ 1 :=
  let main_v371 : FVec F S256x128x8x8 .f32 := (transpose S256x128x8x8 [0, 3, 1, 2] · transposes_S256x8x8x128_S256x128x8x8_0_3_1_2) main_v370
  let main_v372 : FVec F S256x128x8x8 .f32 := addf main_v366 main_v371
  let main_v373 : FVec F S256x64x8x8 .f32 := (Host.slice S256x64x8x8 ![0, 0, 3, 3] ![1, 1, 2, 2] · slicesBy_S256x64x18x18_S256x64x8x8_0s1_0s1_3s2_3s2) main_v281
  let main_v374 : FVec F S128x64x1x1 .f32 := (extractStridedSlice S128x64x1x1 ![0, 0, 3, 3] · slices_S128x64x4x4_S128x64x1x1_0_0_3_3) main_arg5
  let main_v375 : FVec F S128x64 .f32 := shapeCast S128x64 main_v374 shapeCasts_S128x64x1x1_S128x64
  let main_v376 : FVec F S256x8x8x128 .f32 := (fun l r => Host.dotGeneral dot_S256x64x8x8_S128x64_S256x8x8x128_1_1_023_0_n_n none l r) main_v373 main_v375
  let main_v377 : FVec F S256x128x8x8 .f32 := (transpose S256x128x8x8 [0, 3, 1, 2] · transposes_S256x8x8x128_S256x128x8x8_0_3_1_2) main_v376
  let main_v378 : FVec F S256x128x8x8 .f32 := addf main_v372 main_v377
  let main_cst_35 : FVec F S_ .f32 := constant S_ .f32 0x3F000000#32
  let main_v379 : FVec F S256x128x8x8 .f32 := broadcastInDim S256x128x8x8 ![] bcast_S_S256x128x8x8 main_cst_35
  let main_v380 : FVec F S256x128x8x8 .f32 := mulf main_v379 main_v378
  let main_cst_36 : FVec F S_ .f32 := constant S_ .f32 0x3F3504F3#32
  let main_v381 : FVec F S256x128x8x8 .f32 := broadcastInDim S256x128x8x8 ![] bcast_S_S256x128x8x8 main_cst_36
  let main_v382 : FVec F S256x128x8x8 .f32 := mulf main_v378 main_v381
  let main_v383 : FVec F S256x128x8x8 .f32 := Host.erf main_v382
  let main_cst_37 : FVec F S_ .f32 := constant S_ .f32 0x3F800000#32
  let main_v384 : FVec F S256x128x8x8 .f32 := broadcastInDim S256x128x8x8 ![] bcast_S_S256x128x8x8 main_cst_37
  let main_v385 : FVec F S256x128x8x8 .f32 := addf main_v384 main_v383
  let main_v386 : FVec F S256x128x8x8 .f32 := mulf main_v380 main_v385
  let main_cst_38 : FVec F S_ .f32 := constant S_ .f32 0x00000000#32
  let main_v387 : FVec F S256x128x10x10 .f32 := (fun x v => pad S256x128x10x10 ![0, 0, 1, 1] ![0, 0, 1, 1] ![0, 0, 0, 0] x v pads_S256x128x8x8_S256x128x10x10_000_000_110_110 h_S_) main_v386 main_cst_38
  let main_v388 : FVec F S256x256x4x4 .f32 := broadcastInDim S256x256x4x4 ![1] bcast_S256_S256x256x4x4_1 main_arg8
  let main_v389 : FVec F S256x128x4x4 .f32 := (Host.slice S256x128x4x4 ![0, 0, 0, 0] ![1, 1, 2, 2] · slicesBy_S256x128x10x10_S256x128x4x4_0s1_0s1_0s2_0s2) main_v387
  let main_v390 : FVec F S256x128x1x1 .f32 := (extractStridedSlice S256x128x1x1 ![0, 0, 0, 0] · slices_S256x128x4x4_S256x128x1x1_0_0_0_0) main_arg7
  fn_part18 (F := F) main_arg7 main_arg9 main_arg10 main_arg11 main_arg12 main_arg13 main_v68 main_v387 main_v388 main_v389 main_v390

def fn_part16 {F : FTy → Type} [FloatOps F] (main_arg5 : FVec F S128x64x4x4 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v281 : FVec F S256x64x18x18 .f32) (main_v342 : FVec F S256x128x8x8 .f32) (main_v346 : FVec F S256x8x8x128 .f32) : IVec S_ 1 :=
  let main_v347 : FVec F S256x128x8x8 .f32 := (transpose S256x128x8x8 [0, 3, 1, 2] · transposes_S256x8x8x128_S256x128x8x8_0_3_1_2) main_v346
  let main_v348 : FVec F S256x128x8x8 .f32 := addf main_v342 main_v347
  let main_v349 : FVec F S256x64x8x8 .f32 := (Host.slice S256x64x8x8 ![0, 0, 2, 3] ![1, 1, 2, 2] · slicesBy_S256x64x18x18_S256x64x8x8_0s1_0s1_2s2_3s2) main_v281
  let main_v350 : FVec F S128x64x1x1 .f32 := (extractStridedSlice S128x64x1x1 ![0, 0, 2, 3] · slices_S128x64x4x4_S128x64x1x1_0_0_2_3) main_arg5
  let main_v351 : FVec F S128x64 .f32 := shapeCast S128x64 main_v350 shapeCasts_S128x64x1x1_S128x64
  let main_v352 : FVec F S256x8x8x128 .f32 := (fun l r => Host.dotGeneral dot_S256x64x8x8_S128x64_S256x8x8x128_1_1_023_0_n_n none l r) main_v349 main_v351
  let main_v353 : FVec F S256x128x8x8 .f32 := (transpose S256x128x8x8 [0, 3, 1, 2] · transposes_S256x8x8x128_S256x128x8x8_0_3_1_2) main_v352
  let main_v354 : FVec F S256x128x8x8 .f32 := addf main_v348 main_v353
  let main_v355 : FVec F S256x64x8x8 .f32 := (Host.slice S256x64x8x8 ![0, 0, 3, 0] ![1, 1, 2, 2] · slicesBy_S256x64x18x18_S256x64x8x8_0s1_0s1_3s2_0s2) main_v281
  let main_v356 : FVec F S128x64x1x1 .f32 := (extractStridedSlice S128x64x1x1 ![0, 0, 3, 0] · slices_S128x64x4x4_S128x64x1x1_0_0_3_0) main_arg5
  let main_v357 : FVec F S128x64 .f32 := shapeCast S128x64 main_v356 shapeCasts_S128x64x1x1_S128x64
  let main_v358 : FVec F S256x8x8x128 .f32 := (fun l r => Host.dotGeneral dot_S256x64x8x8_S128x64_S256x8x8x128_1_1_023_0_n_n none l r) main_v355 main_v357
  let main_v359 : FVec F S256x128x8x8 .f32 := (transpose S256x128x8x8 [0, 3, 1, 2] · transposes_S256x8x8x128_S256x128x8x8_0_3_1_2) main_v358
  let main_v360 : FVec F S256x128x8x8 .f32 := addf main_v354 main_v359
  let main_v361 : FVec F S256x64x8x8 .f32 := (Host.slice S256x64x8x8 ![0, 0, 3, 1] ![1, 1, 2, 2] · slicesBy_S256x64x18x18_S256x64x8x8_0s1_0s1_3s2_1s2) main_v281
  let main_v362 : FVec F S128x64x1x1 .f32 := (extractStridedSlice S128x64x1x1 ![0, 0, 3, 1] · slices_S128x64x4x4_S128x64x1x1_0_0_3_1) main_arg5
  let main_v363 : FVec F S128x64 .f32 := shapeCast S128x64 main_v362 shapeCasts_S128x64x1x1_S128x64
  let main_v364 : FVec F S256x8x8x128 .f32 := (fun l r => Host.dotGeneral dot_S256x64x8x8_S128x64_S256x8x8x128_1_1_023_0_n_n none l r) main_v361 main_v363
  let main_v365 : FVec F S256x128x8x8 .f32 := (transpose S256x128x8x8 [0, 3, 1, 2] · transposes_S256x8x8x128_S256x128x8x8_0_3_1_2) main_v364
  let main_v366 : FVec F S256x128x8x8 .f32 := addf main_v360 main_v365
  let main_v367 : FVec F S256x64x8x8 .f32 := (Host.slice S256x64x8x8 ![0, 0, 3, 2] ![1, 1, 2, 2] · slicesBy_S256x64x18x18_S256x64x8x8_0s1_0s1_3s2_2s2) main_v281
  let main_v368 : FVec F S128x64x1x1 .f32 := (extractStridedSlice S128x64x1x1 ![0, 0, 3, 2] · slices_S128x64x4x4_S128x64x1x1_0_0_3_2) main_arg5
  let main_v369 : FVec F S128x64 .f32 := shapeCast S128x64 main_v368 shapeCasts_S128x64x1x1_S128x64
  let main_v370 : FVec F S256x8x8x128 .f32 := (fun l r => Host.dotGeneral dot_S256x64x8x8_S128x64_S256x8x8x128_1_1_023_0_n_n none l r) main_v367 main_v369
  fn_part17 (F := F) main_arg5 main_arg7 main_arg8 main_arg9 main_arg10 main_arg11 main_arg12 main_arg13 main_v68 main_v281 main_v366 main_v370

def fn_part15 {F : FTy → Type} [FloatOps F] (main_arg5 : FVec F S128x64x4x4 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v281 : FVec F S256x64x18x18 .f32) (main_v318 : FVec F S256x128x8x8 .f32) (main_v322 : FVec F S256x8x8x128 .f32) : IVec S_ 1 :=
  let main_v323 : FVec F S256x128x8x8 .f32 := (transpose S256x128x8x8 [0, 3, 1, 2] · transposes_S256x8x8x128_S256x128x8x8_0_3_1_2) main_v322
  let main_v324 : FVec F S256x128x8x8 .f32 := addf main_v318 main_v323
  let main_v325 : FVec F S256x64x8x8 .f32 := (Host.slice S256x64x8x8 ![0, 0, 1, 3] ![1, 1, 2, 2] · slicesBy_S256x64x18x18_S256x64x8x8_0s1_0s1_1s2_3s2) main_v281
  let main_v326 : FVec F S128x64x1x1 .f32 := (extractStridedSlice S128x64x1x1 ![0, 0, 1, 3] · slices_S128x64x4x4_S128x64x1x1_0_0_1_3) main_arg5
  let main_v327 : FVec F S128x64 .f32 := shapeCast S128x64 main_v326 shapeCasts_S128x64x1x1_S128x64
  let main_v328 : FVec F S256x8x8x128 .f32 := (fun l r => Host.dotGeneral dot_S256x64x8x8_S128x64_S256x8x8x128_1_1_023_0_n_n none l r) main_v325 main_v327
  let main_v329 : FVec F S256x128x8x8 .f32 := (transpose S256x128x8x8 [0, 3, 1, 2] · transposes_S256x8x8x128_S256x128x8x8_0_3_1_2) main_v328
  let main_v330 : FVec F S256x128x8x8 .f32 := addf main_v324 main_v329
  let main_v331 : FVec F S256x64x8x8 .f32 := (Host.slice S256x64x8x8 ![0, 0, 2, 0] ![1, 1, 2, 2] · slicesBy_S256x64x18x18_S256x64x8x8_0s1_0s1_2s2_0s2) main_v281
  let main_v332 : FVec F S128x64x1x1 .f32 := (extractStridedSlice S128x64x1x1 ![0, 0, 2, 0] · slices_S128x64x4x4_S128x64x1x1_0_0_2_0) main_arg5
  let main_v333 : FVec F S128x64 .f32 := shapeCast S128x64 main_v332 shapeCasts_S128x64x1x1_S128x64
  let main_v334 : FVec F S256x8x8x128 .f32 := (fun l r => Host.dotGeneral dot_S256x64x8x8_S128x64_S256x8x8x128_1_1_023_0_n_n none l r) main_v331 main_v333
  let main_v335 : FVec F S256x128x8x8 .f32 := (transpose S256x128x8x8 [0, 3, 1, 2] · transposes_S256x8x8x128_S256x128x8x8_0_3_1_2) main_v334
  let main_v336 : FVec F S256x128x8x8 .f32 := addf main_v330 main_v335
  let main_v337 : FVec F S256x64x8x8 .f32 := (Host.slice S256x64x8x8 ![0, 0, 2, 1] ![1, 1, 2, 2] · slicesBy_S256x64x18x18_S256x64x8x8_0s1_0s1_2s2_1s2) main_v281
  let main_v338 : FVec F S128x64x1x1 .f32 := (extractStridedSlice S128x64x1x1 ![0, 0, 2, 1] · slices_S128x64x4x4_S128x64x1x1_0_0_2_1) main_arg5
  let main_v339 : FVec F S128x64 .f32 := shapeCast S128x64 main_v338 shapeCasts_S128x64x1x1_S128x64
  let main_v340 : FVec F S256x8x8x128 .f32 := (fun l r => Host.dotGeneral dot_S256x64x8x8_S128x64_S256x8x8x128_1_1_023_0_n_n none l r) main_v337 main_v339
  let main_v341 : FVec F S256x128x8x8 .f32 := (transpose S256x128x8x8 [0, 3, 1, 2] · transposes_S256x8x8x128_S256x128x8x8_0_3_1_2) main_v340
  let main_v342 : FVec F S256x128x8x8 .f32 := addf main_v336 main_v341
  let main_v343 : FVec F S256x64x8x8 .f32 := (Host.slice S256x64x8x8 ![0, 0, 2, 2] ![1, 1, 2, 2] · slicesBy_S256x64x18x18_S256x64x8x8_0s1_0s1_2s2_2s2) main_v281
  let main_v344 : FVec F S128x64x1x1 .f32 := (extractStridedSlice S128x64x1x1 ![0, 0, 2, 2] · slices_S128x64x4x4_S128x64x1x1_0_0_2_2) main_arg5
  let main_v345 : FVec F S128x64 .f32 := shapeCast S128x64 main_v344 shapeCasts_S128x64x1x1_S128x64
  let main_v346 : FVec F S256x8x8x128 .f32 := (fun l r => Host.dotGeneral dot_S256x64x8x8_S128x64_S256x8x8x128_1_1_023_0_n_n none l r) main_v343 main_v345
  fn_part16 (F := F) main_arg5 main_arg7 main_arg8 main_arg9 main_arg10 main_arg11 main_arg12 main_arg13 main_v68 main_v281 main_v342 main_v346

def fn_part14 {F : FTy → Type} [FloatOps F] (main_arg5 : FVec F S128x64x4x4 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v281 : FVec F S256x64x18x18 .f32) (main_v294 : FVec F S256x128x8x8 .f32) (main_v298 : FVec F S256x8x8x128 .f32) : IVec S_ 1 :=
  let main_v299 : FVec F S256x128x8x8 .f32 := (transpose S256x128x8x8 [0, 3, 1, 2] · transposes_S256x8x8x128_S256x128x8x8_0_3_1_2) main_v298
  let main_v300 : FVec F S256x128x8x8 .f32 := addf main_v294 main_v299
  let main_v301 : FVec F S256x64x8x8 .f32 := (Host.slice S256x64x8x8 ![0, 0, 0, 3] ![1, 1, 2, 2] · slicesBy_S256x64x18x18_S256x64x8x8_0s1_0s1_0s2_3s2) main_v281
  let main_v302 : FVec F S128x64x1x1 .f32 := (extractStridedSlice S128x64x1x1 ![0, 0, 0, 3] · slices_S128x64x4x4_S128x64x1x1_0_0_0_3) main_arg5
  let main_v303 : FVec F S128x64 .f32 := shapeCast S128x64 main_v302 shapeCasts_S128x64x1x1_S128x64
  let main_v304 : FVec F S256x8x8x128 .f32 := (fun l r => Host.dotGeneral dot_S256x64x8x8_S128x64_S256x8x8x128_1_1_023_0_n_n none l r) main_v301 main_v303
  let main_v305 : FVec F S256x128x8x8 .f32 := (transpose S256x128x8x8 [0, 3, 1, 2] · transposes_S256x8x8x128_S256x128x8x8_0_3_1_2) main_v304
  let main_v306 : FVec F S256x128x8x8 .f32 := addf main_v300 main_v305
  let main_v307 : FVec F S256x64x8x8 .f32 := (Host.slice S256x64x8x8 ![0, 0, 1, 0] ![1, 1, 2, 2] · slicesBy_S256x64x18x18_S256x64x8x8_0s1_0s1_1s2_0s2) main_v281
  let main_v308 : FVec F S128x64x1x1 .f32 := (extractStridedSlice S128x64x1x1 ![0, 0, 1, 0] · slices_S128x64x4x4_S128x64x1x1_0_0_1_0) main_arg5
  let main_v309 : FVec F S128x64 .f32 := shapeCast S128x64 main_v308 shapeCasts_S128x64x1x1_S128x64
  let main_v310 : FVec F S256x8x8x128 .f32 := (fun l r => Host.dotGeneral dot_S256x64x8x8_S128x64_S256x8x8x128_1_1_023_0_n_n none l r) main_v307 main_v309
  let main_v311 : FVec F S256x128x8x8 .f32 := (transpose S256x128x8x8 [0, 3, 1, 2] · transposes_S256x8x8x128_S256x128x8x8_0_3_1_2) main_v310
  let main_v312 : FVec F S256x128x8x8 .f32 := addf main_v306 main_v311
  let main_v313 : FVec F S256x64x8x8 .f32 := (Host.slice S256x64x8x8 ![0, 0, 1, 1] ![1, 1, 2, 2] · slicesBy_S256x64x18x18_S256x64x8x8_0s1_0s1_1s2_1s2) main_v281
  let main_v314 : FVec F S128x64x1x1 .f32 := (extractStridedSlice S128x64x1x1 ![0, 0, 1, 1] · slices_S128x64x4x4_S128x64x1x1_0_0_1_1) main_arg5
  let main_v315 : FVec F S128x64 .f32 := shapeCast S128x64 main_v314 shapeCasts_S128x64x1x1_S128x64
  let main_v316 : FVec F S256x8x8x128 .f32 := (fun l r => Host.dotGeneral dot_S256x64x8x8_S128x64_S256x8x8x128_1_1_023_0_n_n none l r) main_v313 main_v315
  let main_v317 : FVec F S256x128x8x8 .f32 := (transpose S256x128x8x8 [0, 3, 1, 2] · transposes_S256x8x8x128_S256x128x8x8_0_3_1_2) main_v316
  let main_v318 : FVec F S256x128x8x8 .f32 := addf main_v312 main_v317
  let main_v319 : FVec F S256x64x8x8 .f32 := (Host.slice S256x64x8x8 ![0, 0, 1, 2] ![1, 1, 2, 2] · slicesBy_S256x64x18x18_S256x64x8x8_0s1_0s1_1s2_2s2) main_v281
  let main_v320 : FVec F S128x64x1x1 .f32 := (extractStridedSlice S128x64x1x1 ![0, 0, 1, 2] · slices_S128x64x4x4_S128x64x1x1_0_0_1_2) main_arg5
  let main_v321 : FVec F S128x64 .f32 := shapeCast S128x64 main_v320 shapeCasts_S128x64x1x1_S128x64
  let main_v322 : FVec F S256x8x8x128 .f32 := (fun l r => Host.dotGeneral dot_S256x64x8x8_S128x64_S256x8x8x128_1_1_023_0_n_n none l r) main_v319 main_v321
  fn_part15 (F := F) main_arg5 main_arg7 main_arg8 main_arg9 main_arg10 main_arg11 main_arg12 main_arg13 main_v68 main_v281 main_v318 main_v322

def fn_part13 {F : FTy → Type} [FloatOps F] (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v274 : FVec F S256x64x16x16 .f32) (main_v276 : FVec F S256x64x16x16 .f32) : IVec S_ 1 :=
  let main_v277 : FVec F S256x64x16x16 .f32 := Host.erf main_v276
  let main_cst_33 : FVec F S_ .f32 := constant S_ .f32 0x3F800000#32
  let main_v278 : FVec F S256x64x16x16 .f32 := broadcastInDim S256x64x16x16 ![] bcast_S_S256x64x16x16 main_cst_33
  let main_v279 : FVec F S256x64x16x16 .f32 := addf main_v278 main_v277
  let main_v280 : FVec F S256x64x16x16 .f32 := mulf main_v274 main_v279
  let main_cst_34 : FVec F S_ .f32 := constant S_ .f32 0x00000000#32
  let main_v281 : FVec F S256x64x18x18 .f32 := (fun x v => pad S256x64x18x18 ![0, 0, 1, 1] ![0, 0, 1, 1] ![0, 0, 0, 0] x v pads_S256x64x16x16_S256x64x18x18_000_000_110_110 h_S_) main_v280 main_cst_34
  let main_v282 : FVec F S256x128x8x8 .f32 := broadcastInDim S256x128x8x8 ![1] bcast_S128_S256x128x8x8_1 main_arg6
  let main_v283 : FVec F S256x64x8x8 .f32 := (Host.slice S256x64x8x8 ![0, 0, 0, 0] ![1, 1, 2, 2] · slicesBy_S256x64x18x18_S256x64x8x8_0s1_0s1_0s2_0s2) main_v281
  let main_v284 : FVec F S128x64x1x1 .f32 := (extractStridedSlice S128x64x1x1 ![0, 0, 0, 0] · slices_S128x64x4x4_S128x64x1x1_0_0_0_0) main_arg5
  let main_v285 : FVec F S128x64 .f32 := shapeCast S128x64 main_v284 shapeCasts_S128x64x1x1_S128x64
  let main_v286 : FVec F S256x8x8x128 .f32 := (fun l r => Host.dotGeneral dot_S256x64x8x8_S128x64_S256x8x8x128_1_1_023_0_n_n none l r) main_v283 main_v285
  let main_v287 : FVec F S256x128x8x8 .f32 := (transpose S256x128x8x8 [0, 3, 1, 2] · transposes_S256x8x8x128_S256x128x8x8_0_3_1_2) main_v286
  let main_v288 : FVec F S256x128x8x8 .f32 := addf main_v282 main_v287
  let main_v289 : FVec F S256x64x8x8 .f32 := (Host.slice S256x64x8x8 ![0, 0, 0, 1] ![1, 1, 2, 2] · slicesBy_S256x64x18x18_S256x64x8x8_0s1_0s1_0s2_1s2) main_v281
  let main_v290 : FVec F S128x64x1x1 .f32 := (extractStridedSlice S128x64x1x1 ![0, 0, 0, 1] · slices_S128x64x4x4_S128x64x1x1_0_0_0_1) main_arg5
  let main_v291 : FVec F S128x64 .f32 := shapeCast S128x64 main_v290 shapeCasts_S128x64x1x1_S128x64
  let main_v292 : FVec F S256x8x8x128 .f32 := (fun l r => Host.dotGeneral dot_S256x64x8x8_S128x64_S256x8x8x128_1_1_023_0_n_n none l r) main_v289 main_v291
  let main_v293 : FVec F S256x128x8x8 .f32 := (transpose S256x128x8x8 [0, 3, 1, 2] · transposes_S256x8x8x128_S256x128x8x8_0_3_1_2) main_v292
  let main_v294 : FVec F S256x128x8x8 .f32 := addf main_v288 main_v293
  let main_v295 : FVec F S256x64x8x8 .f32 := (Host.slice S256x64x8x8 ![0, 0, 0, 2] ![1, 1, 2, 2] · slicesBy_S256x64x18x18_S256x64x8x8_0s1_0s1_0s2_2s2) main_v281
  let main_v296 : FVec F S128x64x1x1 .f32 := (extractStridedSlice S128x64x1x1 ![0, 0, 0, 2] · slices_S128x64x4x4_S128x64x1x1_0_0_0_2) main_arg5
  let main_v297 : FVec F S128x64 .f32 := shapeCast S128x64 main_v296 shapeCasts_S128x64x1x1_S128x64
  let main_v298 : FVec F S256x8x8x128 .f32 := (fun l r => Host.dotGeneral dot_S256x64x8x8_S128x64_S256x8x8x128_1_1_023_0_n_n none l r) main_v295 main_v297
  fn_part14 (F := F) main_arg5 main_arg7 main_arg8 main_arg9 main_arg10 main_arg11 main_arg12 main_arg13 main_v68 main_v281 main_v294 main_v298

def fn_part12 {F : FTy → Type} [FloatOps F] (main_arg3 : FVec F S64x32x4x4 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v175 : FVec F S256x32x34x34 .f32) (main_v254 : FVec F S256x64x16x16 .f32) : IVec S_ 1 :=
  let main_v255 : FVec F S256x32x16x16 .f32 := (Host.slice S256x32x16x16 ![0, 0, 3, 1] ![1, 1, 2, 2] · slicesBy_S256x32x34x34_S256x32x16x16_0s1_0s1_3s2_1s2) main_v175
  let main_v256 : FVec F S64x32x1x1 .f32 := (extractStridedSlice S64x32x1x1 ![0, 0, 3, 1] · slices_S64x32x4x4_S64x32x1x1_0_0_3_1) main_arg3
  let main_v257 : FVec F S64x32 .f32 := shapeCast S64x32 main_v256 shapeCasts_S64x32x1x1_S64x32
  let main_v258 : FVec F S256x16x16x64 .f32 := (fun l r => Host.dotGeneral dot_S256x32x16x16_S64x32_S256x16x16x64_1_1_023_0_n_n none l r) main_v255 main_v257
  let main_v259 : FVec F S256x64x16x16 .f32 := (transpose S256x64x16x16 [0, 3, 1, 2] · transposes_S256x16x16x64_S256x64x16x16_0_3_1_2) main_v258
  let main_v260 : FVec F S256x64x16x16 .f32 := addf main_v254 main_v259
  let main_v261 : FVec F S256x32x16x16 .f32 := (Host.slice S256x32x16x16 ![0, 0, 3, 2] ![1, 1, 2, 2] · slicesBy_S256x32x34x34_S256x32x16x16_0s1_0s1_3s2_2s2) main_v175
  let main_v262 : FVec F S64x32x1x1 .f32 := (extractStridedSlice S64x32x1x1 ![0, 0, 3, 2] · slices_S64x32x4x4_S64x32x1x1_0_0_3_2) main_arg3
  let main_v263 : FVec F S64x32 .f32 := shapeCast S64x32 main_v262 shapeCasts_S64x32x1x1_S64x32
  let main_v264 : FVec F S256x16x16x64 .f32 := (fun l r => Host.dotGeneral dot_S256x32x16x16_S64x32_S256x16x16x64_1_1_023_0_n_n none l r) main_v261 main_v263
  let main_v265 : FVec F S256x64x16x16 .f32 := (transpose S256x64x16x16 [0, 3, 1, 2] · transposes_S256x16x16x64_S256x64x16x16_0_3_1_2) main_v264
  let main_v266 : FVec F S256x64x16x16 .f32 := addf main_v260 main_v265
  let main_v267 : FVec F S256x32x16x16 .f32 := (Host.slice S256x32x16x16 ![0, 0, 3, 3] ![1, 1, 2, 2] · slicesBy_S256x32x34x34_S256x32x16x16_0s1_0s1_3s2_3s2) main_v175
  let main_v268 : FVec F S64x32x1x1 .f32 := (extractStridedSlice S64x32x1x1 ![0, 0, 3, 3] · slices_S64x32x4x4_S64x32x1x1_0_0_3_3) main_arg3
  let main_v269 : FVec F S64x32 .f32 := shapeCast S64x32 main_v268 shapeCasts_S64x32x1x1_S64x32
  let main_v270 : FVec F S256x16x16x64 .f32 := (fun l r => Host.dotGeneral dot_S256x32x16x16_S64x32_S256x16x16x64_1_1_023_0_n_n none l r) main_v267 main_v269
  let main_v271 : FVec F S256x64x16x16 .f32 := (transpose S256x64x16x16 [0, 3, 1, 2] · transposes_S256x16x16x64_S256x64x16x16_0_3_1_2) main_v270
  let main_v272 : FVec F S256x64x16x16 .f32 := addf main_v266 main_v271
  let main_cst_31 : FVec F S_ .f32 := constant S_ .f32 0x3F000000#32
  let main_v273 : FVec F S256x64x16x16 .f32 := broadcastInDim S256x64x16x16 ![] bcast_S_S256x64x16x16 main_cst_31
  let main_v274 : FVec F S256x64x16x16 .f32 := mulf main_v273 main_v272
  let main_cst_32 : FVec F S_ .f32 := constant S_ .f32 0x3F3504F3#32
  let main_v275 : FVec F S256x64x16x16 .f32 := broadcastInDim S256x64x16x16 ![] bcast_S_S256x64x16x16 main_cst_32
  let main_v276 : FVec F S256x64x16x16 .f32 := mulf main_v272 main_v275
  fn_part13 (F := F) main_arg5 main_arg6 main_arg7 main_arg8 main_arg9 main_arg10 main_arg11 main_arg12 main_arg13 main_v68 main_v274 main_v276

def fn_part11 {F : FTy → Type} [FloatOps F] (main_arg3 : FVec F S64x32x4x4 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v175 : FVec F S256x32x34x34 .f32) (main_v230 : FVec F S256x64x16x16 .f32) : IVec S_ 1 :=
  let main_v231 : FVec F S256x32x16x16 .f32 := (Host.slice S256x32x16x16 ![0, 0, 2, 1] ![1, 1, 2, 2] · slicesBy_S256x32x34x34_S256x32x16x16_0s1_0s1_2s2_1s2) main_v175
  let main_v232 : FVec F S64x32x1x1 .f32 := (extractStridedSlice S64x32x1x1 ![0, 0, 2, 1] · slices_S64x32x4x4_S64x32x1x1_0_0_2_1) main_arg3
  let main_v233 : FVec F S64x32 .f32 := shapeCast S64x32 main_v232 shapeCasts_S64x32x1x1_S64x32
  let main_v234 : FVec F S256x16x16x64 .f32 := (fun l r => Host.dotGeneral dot_S256x32x16x16_S64x32_S256x16x16x64_1_1_023_0_n_n none l r) main_v231 main_v233
  let main_v235 : FVec F S256x64x16x16 .f32 := (transpose S256x64x16x16 [0, 3, 1, 2] · transposes_S256x16x16x64_S256x64x16x16_0_3_1_2) main_v234
  let main_v236 : FVec F S256x64x16x16 .f32 := addf main_v230 main_v235
  let main_v237 : FVec F S256x32x16x16 .f32 := (Host.slice S256x32x16x16 ![0, 0, 2, 2] ![1, 1, 2, 2] · slicesBy_S256x32x34x34_S256x32x16x16_0s1_0s1_2s2_2s2) main_v175
  let main_v238 : FVec F S64x32x1x1 .f32 := (extractStridedSlice S64x32x1x1 ![0, 0, 2, 2] · slices_S64x32x4x4_S64x32x1x1_0_0_2_2) main_arg3
  let main_v239 : FVec F S64x32 .f32 := shapeCast S64x32 main_v238 shapeCasts_S64x32x1x1_S64x32
  let main_v240 : FVec F S256x16x16x64 .f32 := (fun l r => Host.dotGeneral dot_S256x32x16x16_S64x32_S256x16x16x64_1_1_023_0_n_n none l r) main_v237 main_v239
  let main_v241 : FVec F S256x64x16x16 .f32 := (transpose S256x64x16x16 [0, 3, 1, 2] · transposes_S256x16x16x64_S256x64x16x16_0_3_1_2) main_v240
  let main_v242 : FVec F S256x64x16x16 .f32 := addf main_v236 main_v241
  let main_v243 : FVec F S256x32x16x16 .f32 := (Host.slice S256x32x16x16 ![0, 0, 2, 3] ![1, 1, 2, 2] · slicesBy_S256x32x34x34_S256x32x16x16_0s1_0s1_2s2_3s2) main_v175
  let main_v244 : FVec F S64x32x1x1 .f32 := (extractStridedSlice S64x32x1x1 ![0, 0, 2, 3] · slices_S64x32x4x4_S64x32x1x1_0_0_2_3) main_arg3
  let main_v245 : FVec F S64x32 .f32 := shapeCast S64x32 main_v244 shapeCasts_S64x32x1x1_S64x32
  let main_v246 : FVec F S256x16x16x64 .f32 := (fun l r => Host.dotGeneral dot_S256x32x16x16_S64x32_S256x16x16x64_1_1_023_0_n_n none l r) main_v243 main_v245
  let main_v247 : FVec F S256x64x16x16 .f32 := (transpose S256x64x16x16 [0, 3, 1, 2] · transposes_S256x16x16x64_S256x64x16x16_0_3_1_2) main_v246
  let main_v248 : FVec F S256x64x16x16 .f32 := addf main_v242 main_v247
  let main_v249 : FVec F S256x32x16x16 .f32 := (Host.slice S256x32x16x16 ![0, 0, 3, 0] ![1, 1, 2, 2] · slicesBy_S256x32x34x34_S256x32x16x16_0s1_0s1_3s2_0s2) main_v175
  let main_v250 : FVec F S64x32x1x1 .f32 := (extractStridedSlice S64x32x1x1 ![0, 0, 3, 0] · slices_S64x32x4x4_S64x32x1x1_0_0_3_0) main_arg3
  let main_v251 : FVec F S64x32 .f32 := shapeCast S64x32 main_v250 shapeCasts_S64x32x1x1_S64x32
  let main_v252 : FVec F S256x16x16x64 .f32 := (fun l r => Host.dotGeneral dot_S256x32x16x16_S64x32_S256x16x16x64_1_1_023_0_n_n none l r) main_v249 main_v251
  let main_v253 : FVec F S256x64x16x16 .f32 := (transpose S256x64x16x16 [0, 3, 1, 2] · transposes_S256x16x16x64_S256x64x16x16_0_3_1_2) main_v252
  let main_v254 : FVec F S256x64x16x16 .f32 := addf main_v248 main_v253
  fn_part12 (F := F) main_arg3 main_arg5 main_arg6 main_arg7 main_arg8 main_arg9 main_arg10 main_arg11 main_arg12 main_arg13 main_v68 main_v175 main_v254

def fn_part10 {F : FTy → Type} [FloatOps F] (main_arg3 : FVec F S64x32x4x4 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v175 : FVec F S256x32x34x34 .f32) (main_v206 : FVec F S256x64x16x16 .f32) : IVec S_ 1 :=
  let main_v207 : FVec F S256x32x16x16 .f32 := (Host.slice S256x32x16x16 ![0, 0, 1, 1] ![1, 1, 2, 2] · slicesBy_S256x32x34x34_S256x32x16x16_0s1_0s1_1s2_1s2) main_v175
  let main_v208 : FVec F S64x32x1x1 .f32 := (extractStridedSlice S64x32x1x1 ![0, 0, 1, 1] · slices_S64x32x4x4_S64x32x1x1_0_0_1_1) main_arg3
  let main_v209 : FVec F S64x32 .f32 := shapeCast S64x32 main_v208 shapeCasts_S64x32x1x1_S64x32
  let main_v210 : FVec F S256x16x16x64 .f32 := (fun l r => Host.dotGeneral dot_S256x32x16x16_S64x32_S256x16x16x64_1_1_023_0_n_n none l r) main_v207 main_v209
  let main_v211 : FVec F S256x64x16x16 .f32 := (transpose S256x64x16x16 [0, 3, 1, 2] · transposes_S256x16x16x64_S256x64x16x16_0_3_1_2) main_v210
  let main_v212 : FVec F S256x64x16x16 .f32 := addf main_v206 main_v211
  let main_v213 : FVec F S256x32x16x16 .f32 := (Host.slice S256x32x16x16 ![0, 0, 1, 2] ![1, 1, 2, 2] · slicesBy_S256x32x34x34_S256x32x16x16_0s1_0s1_1s2_2s2) main_v175
  let main_v214 : FVec F S64x32x1x1 .f32 := (extractStridedSlice S64x32x1x1 ![0, 0, 1, 2] · slices_S64x32x4x4_S64x32x1x1_0_0_1_2) main_arg3
  let main_v215 : FVec F S64x32 .f32 := shapeCast S64x32 main_v214 shapeCasts_S64x32x1x1_S64x32
  let main_v216 : FVec F S256x16x16x64 .f32 := (fun l r => Host.dotGeneral dot_S256x32x16x16_S64x32_S256x16x16x64_1_1_023_0_n_n none l r) main_v213 main_v215
  let main_v217 : FVec F S256x64x16x16 .f32 := (transpose S256x64x16x16 [0, 3, 1, 2] · transposes_S256x16x16x64_S256x64x16x16_0_3_1_2) main_v216
  let main_v218 : FVec F S256x64x16x16 .f32 := addf main_v212 main_v217
  let main_v219 : FVec F S256x32x16x16 .f32 := (Host.slice S256x32x16x16 ![0, 0, 1, 3] ![1, 1, 2, 2] · slicesBy_S256x32x34x34_S256x32x16x16_0s1_0s1_1s2_3s2) main_v175
  let main_v220 : FVec F S64x32x1x1 .f32 := (extractStridedSlice S64x32x1x1 ![0, 0, 1, 3] · slices_S64x32x4x4_S64x32x1x1_0_0_1_3) main_arg3
  let main_v221 : FVec F S64x32 .f32 := shapeCast S64x32 main_v220 shapeCasts_S64x32x1x1_S64x32
  let main_v222 : FVec F S256x16x16x64 .f32 := (fun l r => Host.dotGeneral dot_S256x32x16x16_S64x32_S256x16x16x64_1_1_023_0_n_n none l r) main_v219 main_v221
  let main_v223 : FVec F S256x64x16x16 .f32 := (transpose S256x64x16x16 [0, 3, 1, 2] · transposes_S256x16x16x64_S256x64x16x16_0_3_1_2) main_v222
  let main_v224 : FVec F S256x64x16x16 .f32 := addf main_v218 main_v223
  let main_v225 : FVec F S256x32x16x16 .f32 := (Host.slice S256x32x16x16 ![0, 0, 2, 0] ![1, 1, 2, 2] · slicesBy_S256x32x34x34_S256x32x16x16_0s1_0s1_2s2_0s2) main_v175
  let main_v226 : FVec F S64x32x1x1 .f32 := (extractStridedSlice S64x32x1x1 ![0, 0, 2, 0] · slices_S64x32x4x4_S64x32x1x1_0_0_2_0) main_arg3
  let main_v227 : FVec F S64x32 .f32 := shapeCast S64x32 main_v226 shapeCasts_S64x32x1x1_S64x32
  let main_v228 : FVec F S256x16x16x64 .f32 := (fun l r => Host.dotGeneral dot_S256x32x16x16_S64x32_S256x16x16x64_1_1_023_0_n_n none l r) main_v225 main_v227
  let main_v229 : FVec F S256x64x16x16 .f32 := (transpose S256x64x16x16 [0, 3, 1, 2] · transposes_S256x16x16x64_S256x64x16x16_0_3_1_2) main_v228
  let main_v230 : FVec F S256x64x16x16 .f32 := addf main_v224 main_v229
  fn_part11 (F := F) main_arg3 main_arg5 main_arg6 main_arg7 main_arg8 main_arg9 main_arg10 main_arg11 main_arg12 main_arg13 main_v68 main_v175 main_v230

def fn_part9 {F : FTy → Type} [FloatOps F] (main_arg3 : FVec F S64x32x4x4 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v175 : FVec F S256x32x34x34 .f32) (main_v182 : FVec F S256x64x16x16 .f32) : IVec S_ 1 :=
  let main_v183 : FVec F S256x32x16x16 .f32 := (Host.slice S256x32x16x16 ![0, 0, 0, 1] ![1, 1, 2, 2] · slicesBy_S256x32x34x34_S256x32x16x16_0s1_0s1_0s2_1s2) main_v175
  let main_v184 : FVec F S64x32x1x1 .f32 := (extractStridedSlice S64x32x1x1 ![0, 0, 0, 1] · slices_S64x32x4x4_S64x32x1x1_0_0_0_1) main_arg3
  let main_v185 : FVec F S64x32 .f32 := shapeCast S64x32 main_v184 shapeCasts_S64x32x1x1_S64x32
  let main_v186 : FVec F S256x16x16x64 .f32 := (fun l r => Host.dotGeneral dot_S256x32x16x16_S64x32_S256x16x16x64_1_1_023_0_n_n none l r) main_v183 main_v185
  let main_v187 : FVec F S256x64x16x16 .f32 := (transpose S256x64x16x16 [0, 3, 1, 2] · transposes_S256x16x16x64_S256x64x16x16_0_3_1_2) main_v186
  let main_v188 : FVec F S256x64x16x16 .f32 := addf main_v182 main_v187
  let main_v189 : FVec F S256x32x16x16 .f32 := (Host.slice S256x32x16x16 ![0, 0, 0, 2] ![1, 1, 2, 2] · slicesBy_S256x32x34x34_S256x32x16x16_0s1_0s1_0s2_2s2) main_v175
  let main_v190 : FVec F S64x32x1x1 .f32 := (extractStridedSlice S64x32x1x1 ![0, 0, 0, 2] · slices_S64x32x4x4_S64x32x1x1_0_0_0_2) main_arg3
  let main_v191 : FVec F S64x32 .f32 := shapeCast S64x32 main_v190 shapeCasts_S64x32x1x1_S64x32
  let main_v192 : FVec F S256x16x16x64 .f32 := (fun l r => Host.dotGeneral dot_S256x32x16x16_S64x32_S256x16x16x64_1_1_023_0_n_n none l r) main_v189 main_v191
  let main_v193 : FVec F S256x64x16x16 .f32 := (transpose S256x64x16x16 [0, 3, 1, 2] · transposes_S256x16x16x64_S256x64x16x16_0_3_1_2) main_v192
  let main_v194 : FVec F S256x64x16x16 .f32 := addf main_v188 main_v193
  let main_v195 : FVec F S256x32x16x16 .f32 := (Host.slice S256x32x16x16 ![0, 0, 0, 3] ![1, 1, 2, 2] · slicesBy_S256x32x34x34_S256x32x16x16_0s1_0s1_0s2_3s2) main_v175
  let main_v196 : FVec F S64x32x1x1 .f32 := (extractStridedSlice S64x32x1x1 ![0, 0, 0, 3] · slices_S64x32x4x4_S64x32x1x1_0_0_0_3) main_arg3
  let main_v197 : FVec F S64x32 .f32 := shapeCast S64x32 main_v196 shapeCasts_S64x32x1x1_S64x32
  let main_v198 : FVec F S256x16x16x64 .f32 := (fun l r => Host.dotGeneral dot_S256x32x16x16_S64x32_S256x16x16x64_1_1_023_0_n_n none l r) main_v195 main_v197
  let main_v199 : FVec F S256x64x16x16 .f32 := (transpose S256x64x16x16 [0, 3, 1, 2] · transposes_S256x16x16x64_S256x64x16x16_0_3_1_2) main_v198
  let main_v200 : FVec F S256x64x16x16 .f32 := addf main_v194 main_v199
  let main_v201 : FVec F S256x32x16x16 .f32 := (Host.slice S256x32x16x16 ![0, 0, 1, 0] ![1, 1, 2, 2] · slicesBy_S256x32x34x34_S256x32x16x16_0s1_0s1_1s2_0s2) main_v175
  let main_v202 : FVec F S64x32x1x1 .f32 := (extractStridedSlice S64x32x1x1 ![0, 0, 1, 0] · slices_S64x32x4x4_S64x32x1x1_0_0_1_0) main_arg3
  let main_v203 : FVec F S64x32 .f32 := shapeCast S64x32 main_v202 shapeCasts_S64x32x1x1_S64x32
  let main_v204 : FVec F S256x16x16x64 .f32 := (fun l r => Host.dotGeneral dot_S256x32x16x16_S64x32_S256x16x16x64_1_1_023_0_n_n none l r) main_v201 main_v203
  let main_v205 : FVec F S256x64x16x16 .f32 := (transpose S256x64x16x16 [0, 3, 1, 2] · transposes_S256x16x16x64_S256x64x16x16_0_3_1_2) main_v204
  let main_v206 : FVec F S256x64x16x16 .f32 := addf main_v200 main_v205
  fn_part10 (F := F) main_arg3 main_arg5 main_arg6 main_arg7 main_arg8 main_arg9 main_arg10 main_arg11 main_arg12 main_arg13 main_v68 main_v175 main_v206

def fn_part8 {F : FTy → Type} [FloatOps F] (main_arg3 : FVec F S64x32x4x4 .f32) (main_arg4 : FVec F S64 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v160 : FVec F S256x32x32x32 .f32) (main_v161 : FVec F S256x3x32x32 .f32) (main_v162 : FVec F S32x3x1x1 .f32) : IVec S_ 1 :=
  let main_v163 : FVec F S32x3 .f32 := shapeCast S32x3 main_v162 shapeCasts_S32x3x1x1_S32x3
  let main_v164 : FVec F S256x32x32x32 .f32 := (fun l r => Host.dotGeneral dot_S256x3x32x32_S32x3_S256x32x32x32_1_1_023_0_n_n none l r) main_v161 main_v163
  let main_v165 : FVec F S256x32x32x32 .f32 := (transpose S256x32x32x32 [0, 3, 1, 2] · transposes_S256x32x32x32_S256x32x32x32_0_3_1_2) main_v164
  let main_v166 : FVec F S256x32x32x32 .f32 := addf main_v160 main_v165
  let main_cst_27 : FVec F S_ .f32 := constant S_ .f32 0x3F000000#32
  let main_v167 : FVec F S256x32x32x32 .f32 := broadcastInDim S256x32x32x32 ![] bcast_S_S256x32x32x32 main_cst_27
  let main_v168 : FVec F S256x32x32x32 .f32 := mulf main_v167 main_v166
  let main_cst_28 : FVec F S_ .f32 := constant S_ .f32 0x3F3504F3#32
  let main_v169 : FVec F S256x32x32x32 .f32 := broadcastInDim S256x32x32x32 ![] bcast_S_S256x32x32x32 main_cst_28
  let main_v170 : FVec F S256x32x32x32 .f32 := mulf main_v166 main_v169
  let main_v171 : FVec F S256x32x32x32 .f32 := Host.erf main_v170
  let main_cst_29 : FVec F S_ .f32 := constant S_ .f32 0x3F800000#32
  let main_v172 : FVec F S256x32x32x32 .f32 := broadcastInDim S256x32x32x32 ![] bcast_S_S256x32x32x32 main_cst_29
  let main_v173 : FVec F S256x32x32x32 .f32 := addf main_v172 main_v171
  let main_v174 : FVec F S256x32x32x32 .f32 := mulf main_v168 main_v173
  let main_cst_30 : FVec F S_ .f32 := constant S_ .f32 0x00000000#32
  let main_v175 : FVec F S256x32x34x34 .f32 := (fun x v => pad S256x32x34x34 ![0, 0, 1, 1] ![0, 0, 1, 1] ![0, 0, 0, 0] x v pads_S256x32x32x32_S256x32x34x34_000_000_110_110 h_S_) main_v174 main_cst_30
  let main_v176 : FVec F S256x64x16x16 .f32 := broadcastInDim S256x64x16x16 ![1] bcast_S64_S256x64x16x16_1 main_arg4
  let main_v177 : FVec F S256x32x16x16 .f32 := (Host.slice S256x32x16x16 ![0, 0, 0, 0] ![1, 1, 2, 2] · slicesBy_S256x32x34x34_S256x32x16x16_0s1_0s1_0s2_0s2) main_v175
  let main_v178 : FVec F S64x32x1x1 .f32 := (extractStridedSlice S64x32x1x1 ![0, 0, 0, 0] · slices_S64x32x4x4_S64x32x1x1_0_0_0_0) main_arg3
  let main_v179 : FVec F S64x32 .f32 := shapeCast S64x32 main_v178 shapeCasts_S64x32x1x1_S64x32
  let main_v180 : FVec F S256x16x16x64 .f32 := (fun l r => Host.dotGeneral dot_S256x32x16x16_S64x32_S256x16x16x64_1_1_023_0_n_n none l r) main_v177 main_v179
  let main_v181 : FVec F S256x64x16x16 .f32 := (transpose S256x64x16x16 [0, 3, 1, 2] · transposes_S256x16x16x64_S256x64x16x16_0_3_1_2) main_v180
  let main_v182 : FVec F S256x64x16x16 .f32 := addf main_v176 main_v181
  fn_part9 (F := F) main_arg3 main_arg5 main_arg6 main_arg7 main_arg8 main_arg9 main_arg10 main_arg11 main_arg12 main_arg13 main_v68 main_v175 main_v182

def fn_part7 {F : FTy → Type} [FloatOps F] (main_arg1 : FVec F S32x3x4x4 .f32) (main_arg3 : FVec F S64x32x4x4 .f32) (main_arg4 : FVec F S64 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v69 : FVec F S256x3x66x66 .f32) (main_v136 : FVec F S256x32x32x32 .f32) (main_v137 : FVec F S256x3x32x32 .f32) (main_v138 : FVec F S32x3x1x1 .f32) : IVec S_ 1 :=
  let main_v139 : FVec F S32x3 .f32 := shapeCast S32x3 main_v138 shapeCasts_S32x3x1x1_S32x3
  let main_v140 : FVec F S256x32x32x32 .f32 := (fun l r => Host.dotGeneral dot_S256x3x32x32_S32x3_S256x32x32x32_1_1_023_0_n_n none l r) main_v137 main_v139
  let main_v141 : FVec F S256x32x32x32 .f32 := (transpose S256x32x32x32 [0, 3, 1, 2] · transposes_S256x32x32x32_S256x32x32x32_0_3_1_2) main_v140
  let main_v142 : FVec F S256x32x32x32 .f32 := addf main_v136 main_v141
  let main_v143 : FVec F S256x3x32x32 .f32 := (Host.slice S256x3x32x32 ![0, 0, 3, 0] ![1, 1, 2, 2] · slicesBy_S256x3x66x66_S256x3x32x32_0s1_0s1_3s2_0s2) main_v69
  let main_v144 : FVec F S32x3x1x1 .f32 := (extractStridedSlice S32x3x1x1 ![0, 0, 3, 0] · slices_S32x3x4x4_S32x3x1x1_0_0_3_0) main_arg1
  let main_v145 : FVec F S32x3 .f32 := shapeCast S32x3 main_v144 shapeCasts_S32x3x1x1_S32x3
  let main_v146 : FVec F S256x32x32x32 .f32 := (fun l r => Host.dotGeneral dot_S256x3x32x32_S32x3_S256x32x32x32_1_1_023_0_n_n none l r) main_v143 main_v145
  let main_v147 : FVec F S256x32x32x32 .f32 := (transpose S256x32x32x32 [0, 3, 1, 2] · transposes_S256x32x32x32_S256x32x32x32_0_3_1_2) main_v146
  let main_v148 : FVec F S256x32x32x32 .f32 := addf main_v142 main_v147
  let main_v149 : FVec F S256x3x32x32 .f32 := (Host.slice S256x3x32x32 ![0, 0, 3, 1] ![1, 1, 2, 2] · slicesBy_S256x3x66x66_S256x3x32x32_0s1_0s1_3s2_1s2) main_v69
  let main_v150 : FVec F S32x3x1x1 .f32 := (extractStridedSlice S32x3x1x1 ![0, 0, 3, 1] · slices_S32x3x4x4_S32x3x1x1_0_0_3_1) main_arg1
  let main_v151 : FVec F S32x3 .f32 := shapeCast S32x3 main_v150 shapeCasts_S32x3x1x1_S32x3
  let main_v152 : FVec F S256x32x32x32 .f32 := (fun l r => Host.dotGeneral dot_S256x3x32x32_S32x3_S256x32x32x32_1_1_023_0_n_n none l r) main_v149 main_v151
  let main_v153 : FVec F S256x32x32x32 .f32 := (transpose S256x32x32x32 [0, 3, 1, 2] · transposes_S256x32x32x32_S256x32x32x32_0_3_1_2) main_v152
  let main_v154 : FVec F S256x32x32x32 .f32 := addf main_v148 main_v153
  let main_v155 : FVec F S256x3x32x32 .f32 := (Host.slice S256x3x32x32 ![0, 0, 3, 2] ![1, 1, 2, 2] · slicesBy_S256x3x66x66_S256x3x32x32_0s1_0s1_3s2_2s2) main_v69
  let main_v156 : FVec F S32x3x1x1 .f32 := (extractStridedSlice S32x3x1x1 ![0, 0, 3, 2] · slices_S32x3x4x4_S32x3x1x1_0_0_3_2) main_arg1
  let main_v157 : FVec F S32x3 .f32 := shapeCast S32x3 main_v156 shapeCasts_S32x3x1x1_S32x3
  let main_v158 : FVec F S256x32x32x32 .f32 := (fun l r => Host.dotGeneral dot_S256x3x32x32_S32x3_S256x32x32x32_1_1_023_0_n_n none l r) main_v155 main_v157
  let main_v159 : FVec F S256x32x32x32 .f32 := (transpose S256x32x32x32 [0, 3, 1, 2] · transposes_S256x32x32x32_S256x32x32x32_0_3_1_2) main_v158
  let main_v160 : FVec F S256x32x32x32 .f32 := addf main_v154 main_v159
  let main_v161 : FVec F S256x3x32x32 .f32 := (Host.slice S256x3x32x32 ![0, 0, 3, 3] ![1, 1, 2, 2] · slicesBy_S256x3x66x66_S256x3x32x32_0s1_0s1_3s2_3s2) main_v69
  let main_v162 : FVec F S32x3x1x1 .f32 := (extractStridedSlice S32x3x1x1 ![0, 0, 3, 3] · slices_S32x3x4x4_S32x3x1x1_0_0_3_3) main_arg1
  fn_part8 (F := F) main_arg3 main_arg4 main_arg5 main_arg6 main_arg7 main_arg8 main_arg9 main_arg10 main_arg11 main_arg12 main_arg13 main_v68 main_v160 main_v161 main_v162

def fn_part6 {F : FTy → Type} [FloatOps F] (main_arg1 : FVec F S32x3x4x4 .f32) (main_arg3 : FVec F S64x32x4x4 .f32) (main_arg4 : FVec F S64 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v69 : FVec F S256x3x66x66 .f32) (main_v112 : FVec F S256x32x32x32 .f32) (main_v113 : FVec F S256x3x32x32 .f32) (main_v114 : FVec F S32x3x1x1 .f32) : IVec S_ 1 :=
  let main_v115 : FVec F S32x3 .f32 := shapeCast S32x3 main_v114 shapeCasts_S32x3x1x1_S32x3
  let main_v116 : FVec F S256x32x32x32 .f32 := (fun l r => Host.dotGeneral dot_S256x3x32x32_S32x3_S256x32x32x32_1_1_023_0_n_n none l r) main_v113 main_v115
  let main_v117 : FVec F S256x32x32x32 .f32 := (transpose S256x32x32x32 [0, 3, 1, 2] · transposes_S256x32x32x32_S256x32x32x32_0_3_1_2) main_v116
  let main_v118 : FVec F S256x32x32x32 .f32 := addf main_v112 main_v117
  let main_v119 : FVec F S256x3x32x32 .f32 := (Host.slice S256x3x32x32 ![0, 0, 2, 0] ![1, 1, 2, 2] · slicesBy_S256x3x66x66_S256x3x32x32_0s1_0s1_2s2_0s2) main_v69
  let main_v120 : FVec F S32x3x1x1 .f32 := (extractStridedSlice S32x3x1x1 ![0, 0, 2, 0] · slices_S32x3x4x4_S32x3x1x1_0_0_2_0) main_arg1
  let main_v121 : FVec F S32x3 .f32 := shapeCast S32x3 main_v120 shapeCasts_S32x3x1x1_S32x3
  let main_v122 : FVec F S256x32x32x32 .f32 := (fun l r => Host.dotGeneral dot_S256x3x32x32_S32x3_S256x32x32x32_1_1_023_0_n_n none l r) main_v119 main_v121
  let main_v123 : FVec F S256x32x32x32 .f32 := (transpose S256x32x32x32 [0, 3, 1, 2] · transposes_S256x32x32x32_S256x32x32x32_0_3_1_2) main_v122
  let main_v124 : FVec F S256x32x32x32 .f32 := addf main_v118 main_v123
  let main_v125 : FVec F S256x3x32x32 .f32 := (Host.slice S256x3x32x32 ![0, 0, 2, 1] ![1, 1, 2, 2] · slicesBy_S256x3x66x66_S256x3x32x32_0s1_0s1_2s2_1s2) main_v69
  let main_v126 : FVec F S32x3x1x1 .f32 := (extractStridedSlice S32x3x1x1 ![0, 0, 2, 1] · slices_S32x3x4x4_S32x3x1x1_0_0_2_1) main_arg1
  let main_v127 : FVec F S32x3 .f32 := shapeCast S32x3 main_v126 shapeCasts_S32x3x1x1_S32x3
  let main_v128 : FVec F S256x32x32x32 .f32 := (fun l r => Host.dotGeneral dot_S256x3x32x32_S32x3_S256x32x32x32_1_1_023_0_n_n none l r) main_v125 main_v127
  let main_v129 : FVec F S256x32x32x32 .f32 := (transpose S256x32x32x32 [0, 3, 1, 2] · transposes_S256x32x32x32_S256x32x32x32_0_3_1_2) main_v128
  let main_v130 : FVec F S256x32x32x32 .f32 := addf main_v124 main_v129
  let main_v131 : FVec F S256x3x32x32 .f32 := (Host.slice S256x3x32x32 ![0, 0, 2, 2] ![1, 1, 2, 2] · slicesBy_S256x3x66x66_S256x3x32x32_0s1_0s1_2s2_2s2) main_v69
  let main_v132 : FVec F S32x3x1x1 .f32 := (extractStridedSlice S32x3x1x1 ![0, 0, 2, 2] · slices_S32x3x4x4_S32x3x1x1_0_0_2_2) main_arg1
  let main_v133 : FVec F S32x3 .f32 := shapeCast S32x3 main_v132 shapeCasts_S32x3x1x1_S32x3
  let main_v134 : FVec F S256x32x32x32 .f32 := (fun l r => Host.dotGeneral dot_S256x3x32x32_S32x3_S256x32x32x32_1_1_023_0_n_n none l r) main_v131 main_v133
  let main_v135 : FVec F S256x32x32x32 .f32 := (transpose S256x32x32x32 [0, 3, 1, 2] · transposes_S256x32x32x32_S256x32x32x32_0_3_1_2) main_v134
  let main_v136 : FVec F S256x32x32x32 .f32 := addf main_v130 main_v135
  let main_v137 : FVec F S256x3x32x32 .f32 := (Host.slice S256x3x32x32 ![0, 0, 2, 3] ![1, 1, 2, 2] · slicesBy_S256x3x66x66_S256x3x32x32_0s1_0s1_2s2_3s2) main_v69
  let main_v138 : FVec F S32x3x1x1 .f32 := (extractStridedSlice S32x3x1x1 ![0, 0, 2, 3] · slices_S32x3x4x4_S32x3x1x1_0_0_2_3) main_arg1
  fn_part7 (F := F) main_arg1 main_arg3 main_arg4 main_arg5 main_arg6 main_arg7 main_arg8 main_arg9 main_arg10 main_arg11 main_arg12 main_arg13 main_v68 main_v69 main_v136 main_v137 main_v138

def fn_part5 {F : FTy → Type} [FloatOps F] (main_arg1 : FVec F S32x3x4x4 .f32) (main_arg3 : FVec F S64x32x4x4 .f32) (main_arg4 : FVec F S64 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v68 : IVec S_ 1) (main_v69 : FVec F S256x3x66x66 .f32) (main_v88 : FVec F S256x32x32x32 .f32) (main_v89 : FVec F S256x3x32x32 .f32) (main_v90 : FVec F S32x3x1x1 .f32) : IVec S_ 1 :=
  let main_v91 : FVec F S32x3 .f32 := shapeCast S32x3 main_v90 shapeCasts_S32x3x1x1_S32x3
  let main_v92 : FVec F S256x32x32x32 .f32 := (fun l r => Host.dotGeneral dot_S256x3x32x32_S32x3_S256x32x32x32_1_1_023_0_n_n none l r) main_v89 main_v91
  let main_v93 : FVec F S256x32x32x32 .f32 := (transpose S256x32x32x32 [0, 3, 1, 2] · transposes_S256x32x32x32_S256x32x32x32_0_3_1_2) main_v92
  let main_v94 : FVec F S256x32x32x32 .f32 := addf main_v88 main_v93
  let main_v95 : FVec F S256x3x32x32 .f32 := (Host.slice S256x3x32x32 ![0, 0, 1, 0] ![1, 1, 2, 2] · slicesBy_S256x3x66x66_S256x3x32x32_0s1_0s1_1s2_0s2) main_v69
  let main_v96 : FVec F S32x3x1x1 .f32 := (extractStridedSlice S32x3x1x1 ![0, 0, 1, 0] · slices_S32x3x4x4_S32x3x1x1_0_0_1_0) main_arg1
  let main_v97 : FVec F S32x3 .f32 := shapeCast S32x3 main_v96 shapeCasts_S32x3x1x1_S32x3
  let main_v98 : FVec F S256x32x32x32 .f32 := (fun l r => Host.dotGeneral dot_S256x3x32x32_S32x3_S256x32x32x32_1_1_023_0_n_n none l r) main_v95 main_v97
  let main_v99 : FVec F S256x32x32x32 .f32 := (transpose S256x32x32x32 [0, 3, 1, 2] · transposes_S256x32x32x32_S256x32x32x32_0_3_1_2) main_v98
  let main_v100 : FVec F S256x32x32x32 .f32 := addf main_v94 main_v99
  let main_v101 : FVec F S256x3x32x32 .f32 := (Host.slice S256x3x32x32 ![0, 0, 1, 1] ![1, 1, 2, 2] · slicesBy_S256x3x66x66_S256x3x32x32_0s1_0s1_1s2_1s2) main_v69
  let main_v102 : FVec F S32x3x1x1 .f32 := (extractStridedSlice S32x3x1x1 ![0, 0, 1, 1] · slices_S32x3x4x4_S32x3x1x1_0_0_1_1) main_arg1
  let main_v103 : FVec F S32x3 .f32 := shapeCast S32x3 main_v102 shapeCasts_S32x3x1x1_S32x3
  let main_v104 : FVec F S256x32x32x32 .f32 := (fun l r => Host.dotGeneral dot_S256x3x32x32_S32x3_S256x32x32x32_1_1_023_0_n_n none l r) main_v101 main_v103
  let main_v105 : FVec F S256x32x32x32 .f32 := (transpose S256x32x32x32 [0, 3, 1, 2] · transposes_S256x32x32x32_S256x32x32x32_0_3_1_2) main_v104
  let main_v106 : FVec F S256x32x32x32 .f32 := addf main_v100 main_v105
  let main_v107 : FVec F S256x3x32x32 .f32 := (Host.slice S256x3x32x32 ![0, 0, 1, 2] ![1, 1, 2, 2] · slicesBy_S256x3x66x66_S256x3x32x32_0s1_0s1_1s2_2s2) main_v69
  let main_v108 : FVec F S32x3x1x1 .f32 := (extractStridedSlice S32x3x1x1 ![0, 0, 1, 2] · slices_S32x3x4x4_S32x3x1x1_0_0_1_2) main_arg1
  let main_v109 : FVec F S32x3 .f32 := shapeCast S32x3 main_v108 shapeCasts_S32x3x1x1_S32x3
  let main_v110 : FVec F S256x32x32x32 .f32 := (fun l r => Host.dotGeneral dot_S256x3x32x32_S32x3_S256x32x32x32_1_1_023_0_n_n none l r) main_v107 main_v109
  let main_v111 : FVec F S256x32x32x32 .f32 := (transpose S256x32x32x32 [0, 3, 1, 2] · transposes_S256x32x32x32_S256x32x32x32_0_3_1_2) main_v110
  let main_v112 : FVec F S256x32x32x32 .f32 := addf main_v106 main_v111
  let main_v113 : FVec F S256x3x32x32 .f32 := (Host.slice S256x3x32x32 ![0, 0, 1, 3] ![1, 1, 2, 2] · slicesBy_S256x3x66x66_S256x3x32x32_0s1_0s1_1s2_3s2) main_v69
  let main_v114 : FVec F S32x3x1x1 .f32 := (extractStridedSlice S32x3x1x1 ![0, 0, 1, 3] · slices_S32x3x4x4_S32x3x1x1_0_0_1_3) main_arg1
  fn_part6 (F := F) main_arg1 main_arg3 main_arg4 main_arg5 main_arg6 main_arg7 main_arg8 main_arg9 main_arg10 main_arg11 main_arg12 main_arg13 main_v68 main_v69 main_v112 main_v113 main_v114

def fn_part4 {F : FTy → Type} [FloatOps F] (main_arg0 : FVec F S256x3x64x64 .f32) (main_arg1 : FVec F S32x3x4x4 .f32) (main_arg2 : FVec F S32 .f32) (main_arg3 : FVec F S64x32x4x4 .f32) (main_arg4 : FVec F S64 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v55 : IVec S_ 1) (main_v67 : IVec S_ 1) : IVec S_ 1 :=
  let main_v68 : IVec S_ 1 := andi main_v67 main_v55
  let main_cst_26 : FVec F S_ .f32 := constant S_ .f32 0x00000000#32
  let main_v69 : FVec F S256x3x66x66 .f32 := (fun x v => pad S256x3x66x66 ![0, 0, 1, 1] ![0, 0, 1, 1] ![0, 0, 0, 0] x v pads_S256x3x64x64_S256x3x66x66_000_000_110_110 h_S_) main_arg0 main_cst_26
  let main_v70 : FVec F S256x32x32x32 .f32 := broadcastInDim S256x32x32x32 ![1] bcast_S32_S256x32x32x32_1 main_arg2
  let main_v71 : FVec F S256x3x32x32 .f32 := (Host.slice S256x3x32x32 ![0, 0, 0, 0] ![1, 1, 2, 2] · slicesBy_S256x3x66x66_S256x3x32x32_0s1_0s1_0s2_0s2) main_v69
  let main_v72 : FVec F S32x3x1x1 .f32 := (extractStridedSlice S32x3x1x1 ![0, 0, 0, 0] · slices_S32x3x4x4_S32x3x1x1_0_0_0_0) main_arg1
  let main_v73 : FVec F S32x3 .f32 := shapeCast S32x3 main_v72 shapeCasts_S32x3x1x1_S32x3
  let main_v74 : FVec F S256x32x32x32 .f32 := (fun l r => Host.dotGeneral dot_S256x3x32x32_S32x3_S256x32x32x32_1_1_023_0_n_n none l r) main_v71 main_v73
  let main_v75 : FVec F S256x32x32x32 .f32 := (transpose S256x32x32x32 [0, 3, 1, 2] · transposes_S256x32x32x32_S256x32x32x32_0_3_1_2) main_v74
  let main_v76 : FVec F S256x32x32x32 .f32 := addf main_v70 main_v75
  let main_v77 : FVec F S256x3x32x32 .f32 := (Host.slice S256x3x32x32 ![0, 0, 0, 1] ![1, 1, 2, 2] · slicesBy_S256x3x66x66_S256x3x32x32_0s1_0s1_0s2_1s2) main_v69
  let main_v78 : FVec F S32x3x1x1 .f32 := (extractStridedSlice S32x3x1x1 ![0, 0, 0, 1] · slices_S32x3x4x4_S32x3x1x1_0_0_0_1) main_arg1
  let main_v79 : FVec F S32x3 .f32 := shapeCast S32x3 main_v78 shapeCasts_S32x3x1x1_S32x3
  let main_v80 : FVec F S256x32x32x32 .f32 := (fun l r => Host.dotGeneral dot_S256x3x32x32_S32x3_S256x32x32x32_1_1_023_0_n_n none l r) main_v77 main_v79
  let main_v81 : FVec F S256x32x32x32 .f32 := (transpose S256x32x32x32 [0, 3, 1, 2] · transposes_S256x32x32x32_S256x32x32x32_0_3_1_2) main_v80
  let main_v82 : FVec F S256x32x32x32 .f32 := addf main_v76 main_v81
  let main_v83 : FVec F S256x3x32x32 .f32 := (Host.slice S256x3x32x32 ![0, 0, 0, 2] ![1, 1, 2, 2] · slicesBy_S256x3x66x66_S256x3x32x32_0s1_0s1_0s2_2s2) main_v69
  let main_v84 : FVec F S32x3x1x1 .f32 := (extractStridedSlice S32x3x1x1 ![0, 0, 0, 2] · slices_S32x3x4x4_S32x3x1x1_0_0_0_2) main_arg1
  let main_v85 : FVec F S32x3 .f32 := shapeCast S32x3 main_v84 shapeCasts_S32x3x1x1_S32x3
  let main_v86 : FVec F S256x32x32x32 .f32 := (fun l r => Host.dotGeneral dot_S256x3x32x32_S32x3_S256x32x32x32_1_1_023_0_n_n none l r) main_v83 main_v85
  let main_v87 : FVec F S256x32x32x32 .f32 := (transpose S256x32x32x32 [0, 3, 1, 2] · transposes_S256x32x32x32_S256x32x32x32_0_3_1_2) main_v86
  let main_v88 : FVec F S256x32x32x32 .f32 := addf main_v82 main_v87
  let main_v89 : FVec F S256x3x32x32 .f32 := (Host.slice S256x3x32x32 ![0, 0, 0, 3] ![1, 1, 2, 2] · slicesBy_S256x3x66x66_S256x3x32x32_0s1_0s1_0s2_3s2) main_v69
  let main_v90 : FVec F S32x3x1x1 .f32 := (extractStridedSlice S32x3x1x1 ![0, 0, 0, 3] · slices_S32x3x4x4_S32x3x1x1_0_0_0_3) main_arg1
  fn_part5 (F := F) main_arg1 main_arg3 main_arg4 main_arg5 main_arg6 main_arg7 main_arg8 main_arg9 main_arg10 main_arg11 main_arg12 main_arg13 main_v68 main_v69 main_v88 main_v89 main_v90

def fn_part3 {F : FTy → Type} [FloatOps F] (main_arg0 : FVec F S256x3x64x64 .f32) (main_arg1 : FVec F S32x3x4x4 .f32) (main_arg2 : FVec F S32 .f32) (main_arg3 : FVec F S64x32x4x4 .f32) (main_arg4 : FVec F S64 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S3x32 .f32 := Host.absf main_arg12
  let main_cst_22 : FVec F S_ .f32 := constant S_ .f32 0x7F800000#32
  let main_v49 : FVec F S3x32 .f32 := broadcastInDim S3x32 ![] bcast_S_S3x32 main_cst_22
  let main_v50 : IVec S3x32 1 := cmpf .olt main_v48 main_v49
  let main_c_23 : IVec S_ 1 := constantI S_ 1 1#1
  let main_v51 : IVec S_ 1 := (fun x v => Host.reduce IntOp.andi x v reducesTo_S3x32_S_d0_1 h_S_) main_v50 main_c_23
  let main_v52 : FVec F S3x256x32 .f32 := Host.absf main_arg13
  let main_cst_24 : FVec F S_ .f32 := constant S_ .f32 0x7F800000#32
  let main_v53 : FVec F S3x256x32 .f32 := broadcastInDim S3x256x32 ![] bcast_S_S3x256x32 main_cst_24
  let main_v54 : IVec S3x256x32 1 := cmpf .olt main_v52 main_v53
  let main_c_25 : IVec S_ 1 := constantI S_ 1 1#1
  let main_v55 : IVec S_ 1 := (fun x v => Host.reduce IntOp.andi x v reducesTo_S3x256x32_S_d0_1_2 h_S_) main_v54 main_c_25
  let main_v56 : IVec S_ 1 := andi main_v3 main_v7
  let main_v57 : IVec S_ 1 := andi main_v56 main_v11
  let main_v58 : IVec S_ 1 := andi main_v57 main_v15
  let main_v59 : IVec S_ 1 := andi main_v58 main_v19
  let main_v60 : IVec S_ 1 := andi main_v59 main_v23
  let main_v61 : IVec S_ 1 := andi main_v60 main_v27
  let main_v62 : IVec S_ 1 := andi main_v61 main_v31
  let main_v63 : IVec S_ 1 := andi main_v62 main_v35
  let main_v64 : IVec S_ 1 := andi main_v63 main_v39
  let main_v65 : IVec S_ 1 := andi main_v64 main_v43
  let main_v66 : IVec S_ 1 := andi main_v65 main_v47
  let main_v67 : IVec S_ 1 := andi main_v66 main_v51
  fn_part4 (F := F) main_arg0 main_arg1 main_arg2 main_arg3 main_arg4 main_arg5 main_arg6 main_arg7 main_arg8 main_arg9 main_arg10 main_arg11 main_arg12 main_arg13 main_v55 main_v67

def fn_part2 {F : FTy → Type} [FloatOps F] (main_arg0 : FVec F S256x3x64x64 .f32) (main_arg1 : FVec F S32x3x4x4 .f32) (main_arg2 : FVec F S32 .f32) (main_arg3 : FVec F S64x32x4x4 .f32) (main_arg4 : FVec F S64 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S256 .f32 := Host.absf main_arg8
  let main_cst_14 : FVec F S_ .f32 := constant S_ .f32 0x7F800000#32
  let main_v33 : FVec F S256 .f32 := broadcastInDim S256 ![] bcast_S_S256 main_cst_14
  let main_v34 : IVec S256 1 := cmpf .olt main_v32 main_v33
  let main_c_15 : IVec S_ 1 := constantI S_ 1 1#1
  let main_v35 : IVec S_ 1 := (fun x v => Host.reduce IntOp.andi x v reducesTo_S256_S_d0 h_S_) main_v34 main_c_15
  let main_v36 : FVec F S256x4096 .f32 := Host.absf main_arg9
  let main_cst_16 : FVec F S_ .f32 := constant S_ .f32 0x7F800000#32
  let main_v37 : FVec F S256x4096 .f32 := broadcastInDim S256x4096 ![] bcast_S_S256x4096 main_cst_16
  let main_v38 : IVec S256x4096 1 := cmpf .olt main_v36 main_v37
  let main_c_17 : IVec S_ 1 := constantI S_ 1 1#1
  let main_v39 : IVec S_ 1 := (fun x v => Host.reduce IntOp.andi x v reducesTo_S256x4096_S_d0_1 h_S_) main_v38 main_c_17
  let main_v40 : FVec F S256 .f32 := Host.absf main_arg10
  let main_cst_18 : FVec F S_ .f32 := constant S_ .f32 0x7F800000#32
  let main_v41 : FVec F S256 .f32 := broadcastInDim S256 ![] bcast_S_S256 main_cst_18
  let main_v42 : IVec S256 1 := cmpf .olt main_v40 main_v41
  let main_c_19 : IVec S_ 1 := constantI S_ 1 1#1
  let main_v43 : IVec S_ 1 := (fun x v => Host.reduce IntOp.andi x v reducesTo_S256_S_d0 h_S_) main_v42 main_c_19
  let main_v44 : FVec F S3x256x32 .f32 := Host.absf main_arg11
  let main_cst_20 : FVec F S_ .f32 := constant S_ .f32 0x7F800000#32
  let main_v45 : FVec F S3x256x32 .f32 := broadcastInDim S3x256x32 ![] bcast_S_S3x256x32 main_cst_20
  let main_v46 : IVec S3x256x32 1 := cmpf .olt main_v44 main_v45
  let main_c_21 : IVec S_ 1 := constantI S_ 1 1#1
  let main_v47 : IVec S_ 1 := (fun x v => Host.reduce IntOp.andi x v reducesTo_S3x256x32_S_d0_1_2 h_S_) main_v46 main_c_21
  fn_part3 (F := F) main_arg0 main_arg1 main_arg2 main_arg3 main_arg4 main_arg5 main_arg6 main_arg7 main_arg8 main_arg9 main_arg10 main_arg11 main_arg12 main_arg13 main_v3 main_v7 main_v11 main_v15 main_v19 main_v23 main_v27 main_v31 main_v35 main_v39 main_v43 main_v47

def fn_part1 {F : FTy → Type} [FloatOps F] (main_arg0 : FVec F S256x3x64x64 .f32) (main_arg1 : FVec F S32x3x4x4 .f32) (main_arg2 : FVec F S32 .f32) (main_arg3 : FVec F S64x32x4x4 .f32) (main_arg4 : FVec F S64 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) (main_v3 : IVec S_ 1) (main_v7 : IVec S_ 1) (main_v11 : IVec S_ 1) (main_v15 : IVec S_ 1) : IVec S_ 1 :=
  let main_v16 : FVec F S64 .f32 := Host.absf main_arg4
  let main_cst_6 : FVec F S_ .f32 := constant S_ .f32 0x7F800000#32
  let main_v17 : FVec F S64 .f32 := broadcastInDim S64 ![] bcast_S_S64 main_cst_6
  let main_v18 : IVec S64 1 := cmpf .olt main_v16 main_v17
  let main_c_7 : IVec S_ 1 := constantI S_ 1 1#1
  let main_v19 : IVec S_ 1 := (fun x v => Host.reduce IntOp.andi x v reducesTo_S64_S_d0 h_S_) main_v18 main_c_7
  let main_v20 : FVec F S128x64x4x4 .f32 := Host.absf main_arg5
  let main_cst_8 : FVec F S_ .f32 := constant S_ .f32 0x7F800000#32
  let main_v21 : FVec F S128x64x4x4 .f32 := broadcastInDim S128x64x4x4 ![] bcast_S_S128x64x4x4 main_cst_8
  let main_v22 : IVec S128x64x4x4 1 := cmpf .olt main_v20 main_v21
  let main_c_9 : IVec S_ 1 := constantI S_ 1 1#1
  let main_v23 : IVec S_ 1 := (fun x v => Host.reduce IntOp.andi x v reducesTo_S128x64x4x4_S_d0_1_2_3 h_S_) main_v22 main_c_9
  let main_v24 : FVec F S128 .f32 := Host.absf main_arg6
  let main_cst_10 : FVec F S_ .f32 := constant S_ .f32 0x7F800000#32
  let main_v25 : FVec F S128 .f32 := broadcastInDim S128 ![] bcast_S_S128 main_cst_10
  let main_v26 : IVec S128 1 := cmpf .olt main_v24 main_v25
  let main_c_11 : IVec S_ 1 := constantI S_ 1 1#1
  let main_v27 : IVec S_ 1 := (fun x v => Host.reduce IntOp.andi x v reducesTo_S128_S_d0 h_S_) main_v26 main_c_11
  let main_v28 : FVec F S256x128x4x4 .f32 := Host.absf main_arg7
  let main_cst_12 : FVec F S_ .f32 := constant S_ .f32 0x7F800000#32
  let main_v29 : FVec F S256x128x4x4 .f32 := broadcastInDim S256x128x4x4 ![] bcast_S_S256x128x4x4 main_cst_12
  let main_v30 : IVec S256x128x4x4 1 := cmpf .olt main_v28 main_v29
  let main_c_13 : IVec S_ 1 := constantI S_ 1 1#1
  let main_v31 : IVec S_ 1 := (fun x v => Host.reduce IntOp.andi x v reducesTo_S256x128x4x4_S_d0_1_2_3 h_S_) main_v30 main_c_13
  fn_part2 (F := F) main_arg0 main_arg1 main_arg2 main_arg3 main_arg4 main_arg5 main_arg6 main_arg7 main_arg8 main_arg9 main_arg10 main_arg11 main_arg12 main_arg13 main_v3 main_v7 main_v11 main_v15 main_v19 main_v23 main_v27 main_v31

def fn {F : FTy → Type} [FloatOps F] (main_arg0 : FVec F S256x3x64x64 .f32) (main_arg1 : FVec F S32x3x4x4 .f32) (main_arg2 : FVec F S32 .f32) (main_arg3 : FVec F S64x32x4x4 .f32) (main_arg4 : FVec F S64 .f32) (main_arg5 : FVec F S128x64x4x4 .f32) (main_arg6 : FVec F S128 .f32) (main_arg7 : FVec F S256x128x4x4 .f32) (main_arg8 : FVec F S256 .f32) (main_arg9 : FVec F S256x4096 .f32) (main_arg10 : FVec F S256 .f32) (main_arg11 : FVec F S3x256x32 .f32) (main_arg12 : FVec F S3x32 .f32) (main_arg13 : FVec F S3x256x32 .f32) : IVec S_ 1 :=
  let main_v0 : FVec F S256x3x64x64 .f32 := Host.absf main_arg0
  let main_cst : FVec F S_ .f32 := constant S_ .f32 0x7F800000#32
  let main_v1 : FVec F S256x3x64x64 .f32 := broadcastInDim S256x3x64x64 ![] bcast_S_S256x3x64x64 main_cst
  let main_v2 : IVec S256x3x64x64 1 := cmpf .olt main_v0 main_v1
  let main_c : IVec S_ 1 := constantI S_ 1 1#1
  let main_v3 : IVec S_ 1 := (fun x v => Host.reduce IntOp.andi x v reducesTo_S256x3x64x64_S_d0_1_2_3 h_S_) main_v2 main_c
  let main_v4 : FVec F S32x3x4x4 .f32 := Host.absf main_arg1
  let main_cst_0 : FVec F S_ .f32 := constant S_ .f32 0x7F800000#32
  let main_v5 : FVec F S32x3x4x4 .f32 := broadcastInDim S32x3x4x4 ![] bcast_S_S32x3x4x4 main_cst_0
  let main_v6 : IVec S32x3x4x4 1 := cmpf .olt main_v4 main_v5
  let main_c_1 : IVec S_ 1 := constantI S_ 1 1#1
  let main_v7 : IVec S_ 1 := (fun x v => Host.reduce IntOp.andi x v reducesTo_S32x3x4x4_S_d0_1_2_3 h_S_) main_v6 main_c_1
  let main_v8 : FVec F S32 .f32 := Host.absf main_arg2
  let main_cst_2 : FVec F S_ .f32 := constant S_ .f32 0x7F800000#32
  let main_v9 : FVec F S32 .f32 := broadcastInDim S32 ![] bcast_S_S32 main_cst_2
  let main_v10 : IVec S32 1 := cmpf .olt main_v8 main_v9
  let main_c_3 : IVec S_ 1 := constantI S_ 1 1#1
  let main_v11 : IVec S_ 1 := (fun x v => Host.reduce IntOp.andi x v reducesTo_S32_S_d0 h_S_) main_v10 main_c_3
  let main_v12 : FVec F S64x32x4x4 .f32 := Host.absf main_arg3
  let main_cst_4 : FVec F S_ .f32 := constant S_ .f32 0x7F800000#32
  let main_v13 : FVec F S64x32x4x4 .f32 := broadcastInDim S64x32x4x4 ![] bcast_S_S64x32x4x4 main_cst_4
  let main_v14 : IVec S64x32x4x4 1 := cmpf .olt main_v12 main_v13
  let main_c_5 : IVec S_ 1 := constantI S_ 1 1#1
  let main_v15 : IVec S_ 1 := (fun x v => Host.reduce IntOp.andi x v reducesTo_S64x32x4x4_S_d0_1_2_3 h_S_) main_v14 main_c_5
  fn_part1 (F := F) main_arg0 main_arg1 main_arg2 main_arg3 main_arg4 main_arg5 main_arg6 main_arg7 main_arg8 main_arg9 main_arg10 main_arg11 main_arg12 main_arg13 main_v3 main_v7 main_v11 main_v15
-- ==== Kernel.lean ====
abbrev S256x3x64x64 : Shape := ⟨4, ![256, 3, 64, 64]⟩
abbrev S32x3x4x4 : Shape := ⟨4, ![32, 3, 4, 4]⟩
abbrev S32 : Shape := ⟨1, ![32]⟩
abbrev S64x32x4x4 : Shape := ⟨4, ![64, 32, 4, 4]⟩
abbrev S64 : Shape := ⟨1, ![64]⟩
abbrev S128x64x4x4 : Shape := ⟨4, ![128, 64, 4, 4]⟩
abbrev S128 : Shape := ⟨1, ![128]⟩
abbrev S256x128x4x4 : Shape := ⟨4, ![256, 128, 4, 4]⟩
abbrev S256 : Shape := ⟨1, ![256]⟩
abbrev S256x4096 : Shape := ⟨2, ![256, 4096]⟩
abbrev S3x256x32 : Shape := ⟨3, ![3, 256, 32]⟩
abbrev S3x32 : Shape := ⟨2, ![3, 32]⟩
abbrev S256x64x64x3 : Shape := ⟨4, ![256, 64, 64, 3]⟩
abbrev S_ : Shape := ⟨0, ![]⟩
abbrev S256x66x66x3 : Shape := ⟨4, ![256, 66, 66, 3]⟩
abbrev S256x32x32x3 : Shape := ⟨4, ![256, 32, 32, 3]⟩
abbrev S256x32x32x48 : Shape := ⟨4, ![256, 32, 32, 48]⟩
abbrev S4x4x3x32 : Shape := ⟨4, ![4, 4, 3, 32]⟩
abbrev S48x32 : Shape := ⟨2, ![48, 32]⟩
abbrev S64x32x2x2x2x2 : Shape := ⟨6, ![64, 32, 2, 2, 2, 2]⟩
abbrev S2x2x2x2x32x64 : Shape := ⟨6, ![2, 2, 2, 2, 32, 64]⟩
abbrev S512x64 : Shape := ⟨2, ![512, 64]⟩
abbrev S128x64x2x2x2x2 : Shape := ⟨6, ![128, 64, 2, 2, 2, 2]⟩
abbrev S2x2x2x2x64x128 : Shape := ⟨6, ![2, 2, 2, 2, 64, 128]⟩
abbrev S1024x128 : Shape := ⟨2, ![1024, 128]⟩
abbrev S256x128x2x2x2x2 : Shape := ⟨6, ![256, 128, 2, 2, 2, 2]⟩
abbrev S2x2x2x2x128x256 : Shape := ⟨6, ![2, 2, 2, 2, 128, 256]⟩
abbrev S2048x256 : Shape := ⟨2, ![2048, 256]⟩
abbrev S1x32 : Shape := ⟨2, ![1, 32]⟩
abbrev S256x32x32x32 : Shape := ⟨4, ![256, 32, 32, 32]⟩
abbrev S4x32x32x48 : Shape := ⟨4, ![4, 32, 32, 48]⟩
abbrev S4x32x32x32 : Shape := ⟨4, ![4, 32, 32, 32]⟩
abbrev S4096x48 : Shape := ⟨2, ![4096, 48]⟩
abbrev S4096x32 : Shape := ⟨2, ![4096, 32]⟩
abbrev S256x34x34x32 : Shape := ⟨4, ![256, 34, 34, 32]⟩
abbrev S256x17x2x17x2x32 : Shape := ⟨6, ![256, 17, 2, 17, 2, 32]⟩
abbrev S256x17x17x2x2x32 : Shape := ⟨6, ![256, 17, 17, 2, 2, 32]⟩
abbrev S256x17x17x128 : Shape := ⟨4, ![256, 17, 17, 128]⟩
abbrev S1x64 : Shape := ⟨2, ![1, 64]⟩
abbrev S256x16x16x64 : Shape := ⟨4, ![256, 16, 16, 64]⟩
abbrev S16x17x17x128 : Shape := ⟨4, ![16, 17, 17, 128]⟩
abbrev S16x16x16x64 : Shape := ⟨4, ![16, 16, 16, 64]⟩
abbrev S16x16x16x128 : Shape := ⟨4, ![16, 16, 16, 128]⟩
abbrev S16x16x16x512 : Shape := ⟨4, ![16, 16, 16, 512]⟩
abbrev S4096x512 : Shape := ⟨2, ![4096, 512]⟩
abbrev S4096x64 : Shape := ⟨2, ![4096, 64]⟩
abbrev S256x18x18x64 : Shape := ⟨4, ![256, 18, 18, 64]⟩
abbrev S256x9x2x9x2x64 : Shape := ⟨6, ![256, 9, 2, 9, 2, 64]⟩
abbrev S256x9x9x2x2x64 : Shape := ⟨6, ![256, 9, 9, 2, 2, 64]⟩
abbrev S256x9x9x256 : Shape := ⟨4, ![256, 9, 9, 256]⟩
abbrev S1x128 : Shape := ⟨2, ![1, 128]⟩
abbrev S256x8x8x128 : Shape := ⟨4, ![256, 8, 8, 128]⟩
abbrev S32x9x9x256 : Shape := ⟨4, ![32, 9, 9, 256]⟩
abbrev S32x8x8x128 : Shape := ⟨4, ![32, 8, 8, 128]⟩
abbrev S32x8x8x256 : Shape := ⟨4, ![32, 8, 8, 256]⟩
abbrev S32x8x8x1024 : Shape := ⟨4, ![32, 8, 8, 1024]⟩
abbrev S2048x1024 : Shape := ⟨2, ![2048, 1024]⟩
abbrev S2048x128 : Shape := ⟨2, ![2048, 128]⟩
abbrev S256x10x10x128 : Shape := ⟨4, ![256, 10, 10, 128]⟩
abbrev S256x5x2x5x2x128 : Shape := ⟨6, ![256, 5, 2, 5, 2, 128]⟩
abbrev S256x5x5x2x2x128 : Shape := ⟨6, ![256, 5, 5, 2, 2, 128]⟩
abbrev S256x5x5x512 : Shape := ⟨4, ![256, 5, 5, 512]⟩
abbrev S1x256 : Shape := ⟨2, ![1, 256]⟩
abbrev S256x4x4x256 : Shape := ⟨4, ![256, 4, 4, 256]⟩
abbrev S64x5x5x512 : Shape := ⟨4, ![64, 5, 5, 512]⟩
abbrev S64x4x4x256 : Shape := ⟨4, ![64, 4, 4, 256]⟩
abbrev S64x4x4x512 : Shape := ⟨4, ![64, 4, 4, 512]⟩
abbrev S64x4x4x2048 : Shape := ⟨4, ![64, 4, 4, 2048]⟩
abbrev S1024x2048 : Shape := ⟨2, ![1024, 2048]⟩
abbrev S1024x256 : Shape := ⟨2, ![1024, 256]⟩
abbrev S256x256x4x4 : Shape := ⟨4, ![256, 256, 4, 4]⟩
abbrev S4x4x256x256 : Shape := ⟨4, ![4, 4, 256, 256]⟩
abbrev S4096x256 : Shape := ⟨2, ![4096, 256]⟩
abbrev S3x256 : Shape := ⟨2, ![3, 256]⟩
abbrev S1x1 : Shape := ⟨2, ![1, 1]⟩
abbrev S256x256 : Shape := ⟨2, ![256, 256]⟩
abbrev S1x256x32 : Shape := ⟨3, ![1, 256, 32]⟩
abbrev S256x32 : Shape := ⟨2, ![256, 32]⟩
abbrev S256x1 : Shape := ⟨2, ![256, 1]⟩
abbrev S1 : Shape := ⟨1, ![1]⟩
abbrev S1x1x1 : Shape := ⟨3, ![1, 1, 1]⟩
abbrev S256x3x32 : Shape := ⟨3, ![256, 3, 32]⟩
abbrev S256x3 : Shape := ⟨2, ![256, 3]⟩

abbrev nBuf : Space → Nat
  | .hbm => 85
  | .vmem => 34
  | .smem => 0
  | _ => 0

abbrev bufTy : (tb : Table) → Fin (tcTables nBuf tb) → BufTy
  | .hbm, ⟨0, _⟩ => ⟨S256x3x64x64, .f32⟩
  | .hbm, ⟨1, _⟩ => ⟨S32x3x4x4, .f32⟩
  | .hbm, ⟨2, _⟩ => ⟨S32, .f32⟩
  | .hbm, ⟨3, _⟩ => ⟨S64x32x4x4, .f32⟩
  | .hbm, ⟨4, _⟩ => ⟨S64, .f32⟩
  | .hbm, ⟨5, _⟩ => ⟨S128x64x4x4, .f32⟩
  | .hbm, ⟨6, _⟩ => ⟨S128, .f32⟩
  | .hbm, ⟨7, _⟩ => ⟨S256x128x4x4, .f32⟩
  | .hbm, ⟨8, _⟩ => ⟨S256, .f32⟩
  | .hbm, ⟨9, _⟩ => ⟨S256x4096, .f32⟩
  | .hbm, ⟨10, _⟩ => ⟨S256, .f32⟩
  | .hbm, ⟨11, _⟩ => ⟨S3x256x32, .f32⟩
  | .hbm, ⟨12, _⟩ => ⟨S3x32, .f32⟩
  | .hbm, ⟨13, _⟩ => ⟨S3x256x32, .f32⟩
  | .hbm, ⟨14, _⟩ => ⟨S256x64x64x3, .f32⟩
  | .hbm, ⟨15, _⟩ => ⟨S_, .i32⟩
  | .hbm, ⟨16, _⟩ => ⟨S_, .f32⟩
  | .hbm, ⟨17, _⟩ => ⟨S256x66x66x3, .f32⟩
  | .hbm, ⟨18, _⟩ => ⟨S256x32x32x3, .f32⟩
  | .hbm, ⟨19, _⟩ => ⟨S256x32x32x3, .f32⟩
  | .hbm, ⟨20, _⟩ => ⟨S256x32x32x3, .f32⟩
  | .hbm, ⟨21, _⟩ => ⟨S256x32x32x3, .f32⟩
  | .hbm, ⟨22, _⟩ => ⟨S256x32x32x3, .f32⟩
  | .hbm, ⟨23, _⟩ => ⟨S256x32x32x3, .f32⟩
  | .hbm, ⟨24, _⟩ => ⟨S256x32x32x3, .f32⟩
  | .hbm, ⟨25, _⟩ => ⟨S256x32x32x3, .f32⟩
  | .hbm, ⟨26, _⟩ => ⟨S256x32x32x3, .f32⟩
  | .hbm, ⟨27, _⟩ => ⟨S256x32x32x3, .f32⟩
  | .hbm, ⟨28, _⟩ => ⟨S256x32x32x3, .f32⟩
  | .hbm, ⟨29, _⟩ => ⟨S256x32x32x3, .f32⟩
  | .hbm, ⟨30, _⟩ => ⟨S256x32x32x3, .f32⟩
  | .hbm, ⟨31, _⟩ => ⟨S256x32x32x3, .f32⟩
  | .hbm, ⟨32, _⟩ => ⟨S256x32x32x3, .f32⟩
  | .hbm, ⟨33, _⟩ => ⟨S256x32x32x3, .f32⟩
  | .hbm, ⟨34, _⟩ => ⟨S256x32x32x48, .f32⟩
  | .hbm, ⟨35, _⟩ => ⟨S4x4x3x32, .f32⟩
  | .hbm, ⟨36, _⟩ => ⟨S48x32, .f32⟩
  | .hbm, ⟨37, _⟩ => ⟨S64x32x2x2x2x2, .f32⟩
  | .hbm, ⟨38, _⟩ => ⟨S2x2x2x2x32x64, .f32⟩
  | .hbm, ⟨39, _⟩ => ⟨S512x64, .f32⟩
  | .hbm, ⟨40, _⟩ => ⟨S128x64x2x2x2x2, .f32⟩
  | .hbm, ⟨41, _⟩ => ⟨S2x2x2x2x64x128, .f32⟩
  | .hbm, ⟨42, _⟩ => ⟨S1024x128, .f32⟩
  | .hbm, ⟨43, _⟩ => ⟨S256x128x2x2x2x2, .f32⟩
  | .hbm, ⟨44, _⟩ => ⟨S2x2x2x2x128x256, .f32⟩
  | .hbm, ⟨45, _⟩ => ⟨S2048x256, .f32⟩
  | .hbm, ⟨46, _⟩ => ⟨S1x32, .f32⟩
  | .hbm, ⟨47, _⟩ => ⟨S256x32x32x32, .f32⟩
  | .hbm, ⟨48, _⟩ => ⟨S_, .i32⟩
  | .hbm, ⟨49, _⟩ => ⟨S_, .f32⟩
  | .hbm, ⟨50, _⟩ => ⟨S256x34x34x32, .f32⟩
  | .hbm, ⟨51, _⟩ => ⟨S256x17x2x17x2x32, .f32⟩
  | .hbm, ⟨52, _⟩ => ⟨S256x17x17x2x2x32, .f32⟩
  | .hbm, ⟨53, _⟩ => ⟨S256x17x17x128, .f32⟩
  | .hbm, ⟨54, _⟩ => ⟨S1x64, .f32⟩
  | .hbm, ⟨55, _⟩ => ⟨S256x16x16x64, .f32⟩
  | .hbm, ⟨56, _⟩ => ⟨S_, .i32⟩
  | .hbm, ⟨57, _⟩ => ⟨S_, .f32⟩
  | .hbm, ⟨58, _⟩ => ⟨S256x18x18x64, .f32⟩
  | .hbm, ⟨59, _⟩ => ⟨S256x9x2x9x2x64, .f32⟩
  | .hbm, ⟨60, _⟩ => ⟨S256x9x9x2x2x64, .f32⟩
  | .hbm, ⟨61, _⟩ => ⟨S256x9x9x256, .f32⟩
  | .hbm, ⟨62, _⟩ => ⟨S1x128, .f32⟩
  | .hbm, ⟨63, _⟩ => ⟨S256x8x8x128, .f32⟩
  | .hbm, ⟨64, _⟩ => ⟨S_, .i32⟩
  | .hbm, ⟨65, _⟩ => ⟨S_, .f32⟩
  | .hbm, ⟨66, _⟩ => ⟨S256x10x10x128, .f32⟩
  | .hbm, ⟨67, _⟩ => ⟨S256x5x2x5x2x128, .f32⟩
  | .hbm, ⟨68, _⟩ => ⟨S256x5x5x2x2x128, .f32⟩
  | .hbm, ⟨69, _⟩ => ⟨S256x5x5x512, .f32⟩
  | .hbm, ⟨70, _⟩ => ⟨S1x256, .f32⟩
  | .hbm, ⟨71, _⟩ => ⟨S256x4x4x256, .f32⟩
  | .hbm, ⟨72, _⟩ => ⟨S256x4096, .f32⟩
  | .hbm, ⟨73, _⟩ => ⟨S256x256x4x4, .f32⟩
  | .hbm, ⟨74, _⟩ => ⟨S4x4x256x256, .f32⟩
  | .hbm, ⟨75, _⟩ => ⟨S4096x256, .f32⟩
  | .hbm, ⟨76, _⟩ => ⟨S1x256, .f32⟩
  | .hbm, ⟨77, _⟩ => ⟨S3x256x32, .f32⟩
  | .hbm, ⟨78, _⟩ => ⟨S3x256x32, .f32⟩
  | .hbm, ⟨79, _⟩ => ⟨S3x256, .i32⟩
  | .hbm, ⟨80, _⟩ => ⟨S1x1, .f32⟩
  | .hbm, ⟨81, _⟩ => ⟨S256x3x32, .f32⟩
  | .hbm, ⟨82, _⟩ => ⟨S256x3x32, .f32⟩
  | .hbm, ⟨83, _⟩ => ⟨S256x3, .i32⟩
  | .hbm, ⟨84, _⟩ => ⟨S_, .f32⟩
  | .local _ .vmem, ⟨0, _⟩ => ⟨S4x32x32x48, .f32⟩
  | .local _ .vmem, ⟨1, _⟩ => ⟨S4x32x32x48, .f32⟩
  | .local _ .vmem, ⟨2, _⟩ => ⟨S48x32, .f32⟩
  | .local _ .vmem, ⟨3, _⟩ => ⟨S1x32, .f32⟩
  | .local _ .vmem, ⟨4, _⟩ => ⟨S4x32x32x32, .f32⟩
  | .local _ .vmem, ⟨5, _⟩ => ⟨S4x32x32x32, .f32⟩
  | .local _ .vmem, ⟨6, _⟩ => ⟨S16x17x17x128, .f32⟩
  | .local _ .vmem, ⟨7, _⟩ => ⟨S16x17x17x128, .f32⟩
  | .local _ .vmem, ⟨8, _⟩ => ⟨S512x64, .f32⟩
  | .local _ .vmem, ⟨9, _⟩ => ⟨S1x64, .f32⟩
  | .local _ .vmem, ⟨10, _⟩ => ⟨S16x16x16x64, .f32⟩
  | .local _ .vmem, ⟨11, _⟩ => ⟨S16x16x16x64, .f32⟩
  | .local _ .vmem, ⟨12, _⟩ => ⟨S32x9x9x256, .f32⟩
  | .local _ .vmem, ⟨13, _⟩ => ⟨S32x9x9x256, .f32⟩
  | .local _ .vmem, ⟨14, _⟩ => ⟨S1024x128, .f32⟩
  | .local _ .vmem, ⟨15, _⟩ => ⟨S1x128, .f32⟩
  | .local _ .vmem, ⟨16, _⟩ => ⟨S32x8x8x128, .f32⟩
  | .local _ .vmem, ⟨17, _⟩ => ⟨S32x8x8x128, .f32⟩
  | .local _ .vmem, ⟨18, _⟩ => ⟨S64x5x5x512, .f32⟩
  | .local _ .vmem, ⟨19, _⟩ => ⟨S64x5x5x512, .f32⟩
  | .local _ .vmem, ⟨20, _⟩ => ⟨S2048x256, .f32⟩
  | .local _ .vmem, ⟨21, _⟩ => ⟨S1x256, .f32⟩
  | .local _ .vmem, ⟨22, _⟩ => ⟨S64x4x4x256, .f32⟩
  | .local _ .vmem, ⟨23, _⟩ => ⟨S64x4x4x256, .f32⟩
  | .local _ .vmem, ⟨24, _⟩ => ⟨S256x4096, .f32⟩
  | .local _ .vmem, ⟨25, _⟩ => ⟨S4096x256, .f32⟩
  | .local _ .vmem, ⟨26, _⟩ => ⟨S1x256, .f32⟩
  | .local _ .vmem, ⟨27, _⟩ => ⟨S3x256x32, .f32⟩
  | .local _ .vmem, ⟨28, _⟩ => ⟨S3x32, .f32⟩
  | .local _ .vmem, ⟨29, _⟩ => ⟨S3x256x32, .f32⟩
  | .local _ .vmem, ⟨30, _⟩ => ⟨S3x256x32, .f32⟩
  | .local _ .vmem, ⟨31, _⟩ => ⟨S3x256x32, .f32⟩
  | .local _ .vmem, ⟨32, _⟩ => ⟨S3x256, .i32⟩
  | .local _ .vmem, ⟨33, _⟩ => ⟨S1x1, .f32⟩
  | _, _ => ⟨S256x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_0 : Ref sig .tc := ⟨.hbm, 48, rfl⟩
abbrev main_call1_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_1 : Ref sig .tc := ⟨.hbm, 56, rfl⟩
abbrev main_call2_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_2 : Ref sig .tc := ⟨.hbm, 64, rfl⟩
abbrev main_call3_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55_0 : Ref sig .tc := ⟨.hbm, 77, rfl⟩
abbrev main_v55_1 : Ref sig .tc := ⟨.hbm, 78, rfl⟩
abbrev main_v55_2 : Ref sig .tc := ⟨.hbm, 79, rfl⟩
abbrev main_v55_3 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg6_0 : Ref sig .tc := ⟨.vmem, 30, rfl⟩
abbrev cc4_stg7_0 : Ref sig .tc := ⟨.vmem, 31, rfl⟩
abbrev cc4_stg8_0 : Ref sig .tc := ⟨.vmem, 32, rfl⟩
abbrev cc4_stg9_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29
abbrev cc4_sem6_0 : DmaSem sig := 30
abbrev cc4_sem7_0 : DmaSem sig := 31
abbrev cc4_sem8_0 : DmaSem sig := 32
abbrev cc4_sem9_0 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x32x32x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x32x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S16x17x17x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x16x16x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S32x9x9x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S32x8x8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S64x5x5x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S64x4x4x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := .none

abbrev stage4_0 : Fin 1 → Memref sig .tc .vmem S256x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S4096x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S3x256x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S3x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S3x256x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S3x256x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S3x256x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S3x256 .i32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))

abbrev stage4_9 : Fin 1 → Memref sig .tc .vmem S1x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
-- ==== KernelIdeal.lean ====
variable {F : FTy → Type} [FloatOps F] [Named F]
def κ : String → Option EReal := fun
  | "loss_scale" => some ((5 / 98304 : ℝ) : EReal)
  | _ => none
-- ==== ReferenceIdeal.lean ====
abbrev S256x3x64x64 : Shape := ⟨4, ![256, 3, 64, 64]⟩
abbrev S32x3x4x4 : Shape := ⟨4, ![32, 3, 4, 4]⟩
abbrev S32 : Shape := ⟨1, ![32]⟩
abbrev S64x32x4x4 : Shape := ⟨4, ![64, 32, 4, 4]⟩
abbrev S64 : Shape := ⟨1, ![64]⟩
abbrev S128x64x4x4 : Shape := ⟨4, ![128, 64, 4, 4]⟩
abbrev S128 : Shape := ⟨1, ![128]⟩
abbrev S256x128x4x4 : Shape := ⟨4, ![256, 128, 4, 4]⟩
abbrev S256 : Shape := ⟨1, ![256]⟩
abbrev S256x4096 : Shape := ⟨2, ![256, 4096]⟩
abbrev S3x256x32 : Shape := ⟨3, ![3, 256, 32]⟩
abbrev S3x32 : Shape := ⟨2, ![3, 32]⟩
abbrev S3 : Shape := ⟨1, ![3]⟩
abbrev S_ : Shape := ⟨0, ![]⟩
abbrev S1x32 : Shape := ⟨2, ![1, 32]⟩
abbrev S3x1 : Shape := ⟨2, ![3, 1]⟩
abbrev S1x256 : Shape := ⟨2, ![1, 256]⟩
abbrev S3x256 : Shape := ⟨2, ![3, 256]⟩
abbrev S256x3x66x66 : Shape := ⟨4, ![256, 3, 66, 66]⟩
abbrev S256x3x32x32 : Shape := ⟨4, ![256, 3, 32, 32]⟩
abbrev S32x3x1x1 : Shape := ⟨4, ![32, 3, 1, 1]⟩
abbrev S32x3 : Shape := ⟨2, ![32, 3]⟩
abbrev S32x256x32x32 : Shape := ⟨4, ![32, 256, 32, 32]⟩
abbrev S256x32x32x32 : Shape := ⟨4, ![256, 32, 32, 32]⟩
abbrev S1x32x1x1 : Shape := ⟨4, ![1, 32, 1, 1]⟩
abbrev S256x32x34x34 : Shape := ⟨4, ![256, 32, 34, 34]⟩
abbrev S256x32x16x16 : Shape := ⟨4, ![256, 32, 16, 16]⟩
abbrev S64x32x1x1 : Shape := ⟨4, ![64, 32, 1, 1]⟩
abbrev S64x32 : Shape := ⟨2, ![64, 32]⟩
abbrev S64x256x16x16 : Shape := ⟨4, ![64, 256, 16, 16]⟩
abbrev S256x64x16x16 : Shape := ⟨4, ![256, 64, 16, 16]⟩
abbrev S1x64x1x1 : Shape := ⟨4, ![1, 64, 1, 1]⟩
abbrev S256x64x18x18 : Shape := ⟨4, ![256, 64, 18, 18]⟩
abbrev S256x64x8x8 : Shape := ⟨4, ![256, 64, 8, 8]⟩
abbrev S128x64x1x1 : Shape := ⟨4, ![128, 64, 1, 1]⟩
abbrev S128x64 : Shape := ⟨2, ![128, 64]⟩
abbrev S128x256x8x8 : Shape := ⟨4, ![128, 256, 8, 8]⟩
abbrev S256x128x8x8 : Shape := ⟨4, ![256, 128, 8, 8]⟩
abbrev S1x128x1x1 : Shape := ⟨4, ![1, 128, 1, 1]⟩
abbrev S256x128x10x10 : Shape := ⟨4, ![256, 128, 10, 10]⟩
abbrev S256x128x1x1 : Shape := ⟨4, ![256, 128, 1, 1]⟩
abbrev S256x128 : Shape := ⟨2, ![256, 128]⟩
abbrev S256x256x4x4 : Shape := ⟨4, ![256, 256, 4, 4]⟩
abbrev S1x256x1x1 : Shape := ⟨4, ![1, 256, 1, 1]⟩
abbrev S4096x256 : Shape := ⟨2, ![4096, 256]⟩
abbrev S256x256 : Shape := ⟨2, ![256, 256]⟩
abbrev S256x3x32 : Shape := ⟨3, ![256, 3, 32]⟩
abbrev S1x3x32 : Shape := ⟨3, ![1, 3, 32]⟩
abbrev S256x3x1x32 : Shape := ⟨4, ![256, 3, 1, 32]⟩
abbrev S1x3x256x32 : Shape := ⟨4, ![1, 3, 256, 32]⟩
abbrev S256x3x256x32 : Shape := ⟨4, ![256, 3, 256, 32]⟩
abbrev S256x3x256 : Shape := ⟨3, ![256, 3, 256]⟩
abbrev S1x3x256 : Shape := ⟨3, ![1, 3, 256]⟩
abbrev S256x3 : Shape := ⟨2, ![256, 3]⟩
abbrev S256x3x1 : Shape := ⟨3, ![256, 3, 1]⟩
abbrev S1x3 : Shape := ⟨2, ![1, 3]⟩
abbrev S256x3x2 : Shape := ⟨3, ![256, 3, 2]⟩

abbrev nBuf : Space → Nat
  | .hbm => 575
  | .vmem => 0
  | .smem => 0
  | _ => 0

abbrev hbmTy0_0 (i : Nat) : BufTy := match i % 128 with
  | 0 => ⟨S256x3x64x64, .f32⟩
  | 1 => ⟨S32x3x4x4, .f32⟩
  | 2 => ⟨S32, .f32⟩
  | 3 => ⟨S64x32x4x4, .f32⟩
  | 4 => ⟨S64, .f32⟩
  | 5 => ⟨S128x64x4x4, .f32⟩
  | 6 => ⟨S128, .f32⟩
  | 7 => ⟨S256x128x4x4, .f32⟩
  | 8 => ⟨S256, .f32⟩
  | 9 => ⟨S256x4096, .f32⟩
  | 10 => ⟨S256, .f32⟩
  | 11 => ⟨S3x256x32, .f32⟩
  | 12 => ⟨S3x32, .f32⟩
  | 13 => ⟨S3x256x32, .f32⟩
  | 14 => ⟨S3, .i32⟩
  | 15 => ⟨S_, .i32⟩
  | 16 => ⟨S3, .i32⟩
  | 17 => ⟨S3, .i32⟩
  | 18 => ⟨S3, .i32⟩
  | 19 => ⟨S_, .i32⟩
  | 20 => ⟨S3, .i32⟩
  | 21 => ⟨S3, .i32⟩
  | 22 => ⟨S32, .i32⟩
  | 23 => ⟨S1x32, .i32⟩
  | 24 => ⟨S3x1, .i32⟩
  | 25 => ⟨S3x32, .i32⟩
  | 26 => ⟨S3x32, .i32⟩
  | 27 => ⟨S3x32, .i1⟩
  | 28 => ⟨S3x32, .f32⟩
  | 29 => ⟨S256, .i32⟩
  | 30 => ⟨S1x256, .i32⟩
  | 31 => ⟨S3x1, .i32⟩
  | 32 => ⟨S3x256, .i32⟩
  | 33 => ⟨S3x256, .i32⟩
  | 34 => ⟨S3x256, .i1⟩
  | 35 => ⟨S3x256, .f32⟩
  | 36 => ⟨S_, .i32⟩
  | 37 => ⟨S_, .f32⟩
  | 38 => ⟨S256x3x66x66, .f32⟩
  | 39 => ⟨S256x3x32x32, .f32⟩
  | 40 => ⟨S32x3x1x1, .f32⟩
  | 41 => ⟨S32x3, .f32⟩
  | 42 => ⟨S32x256x32x32, .f32⟩
  | 43 => ⟨S256x32x32x32, .f32⟩
  | 44 => ⟨S_, .f32⟩
  | 45 => ⟨S256x32x32x32, .f32⟩
  | 46 => ⟨S256x32x32x32, .f32⟩
  | 47 => ⟨S256x3x32x32, .f32⟩
  | 48 => ⟨S32x3x1x1, .f32⟩
  | 49 => ⟨S32x3, .f32⟩
  | 50 => ⟨S32x256x32x32, .f32⟩
  | 51 => ⟨S256x32x32x32, .f32⟩
  | 52 => ⟨S256x32x32x32, .f32⟩
  | 53 => ⟨S256x3x32x32, .f32⟩
  | 54 => ⟨S32x3x1x1, .f32⟩
  | 55 => ⟨S32x3, .f32⟩
  | 56 => ⟨S32x256x32x32, .f32⟩
  | 57 => ⟨S256x32x32x32, .f32⟩
  | 58 => ⟨S256x32x32x32, .f32⟩
  | 59 => ⟨S256x3x32x32, .f32⟩
  | 60 => ⟨S32x3x1x1, .f32⟩
  | 61 => ⟨S32x3, .f32⟩
  | 62 => ⟨S32x256x32x32, .f32⟩
  | 63 => ⟨S256x32x32x32, .f32⟩
  | 64 => ⟨S256x32x32x32, .f32⟩
  | 65 => ⟨S256x3x32x32, .f32⟩
  | 66 => ⟨S32x3x1x1, .f32⟩
  | 67 => ⟨S32x3, .f32⟩
  | 68 => ⟨S32x256x32x32, .f32⟩
  | 69 => ⟨S256x32x32x32, .f32⟩
  | 70 => ⟨S256x32x32x32, .f32⟩
  | 71 => ⟨S256x3x32x32, .f32⟩
  | 72 => ⟨S32x3x1x1, .f32⟩
  | 73 => ⟨S32x3, .f32⟩
  | 74 => ⟨S32x256x32x32, .f32⟩
  | 75 => ⟨S256x32x32x32, .f32⟩
  | 76 => ⟨S256x32x32x32, .f32⟩
  | 77 => ⟨S256x3x32x32, .f32⟩
  | 78 => ⟨S32x3x1x1, .f32⟩
  | 79 => ⟨S32x3, .f32⟩
  | 80 => ⟨S32x256x32x32, .f32⟩
  | 81 => ⟨S256x32x32x32, .f32⟩
  | 82 => ⟨S256x32x32x32, .f32⟩
  | 83 => ⟨S256x3x32x32, .f32⟩
  | 84 => ⟨S32x3x1x1, .f32⟩
  | 85 => ⟨S32x3, .f32⟩
  | 86 => ⟨S32x256x32x32, .f32⟩
  | 87 => ⟨S256x32x32x32, .f32⟩
  | 88 => ⟨S256x32x32x32, .f32⟩
  | 89 => ⟨S256x3x32x32, .f32⟩
  | 90 => ⟨S32x3x1x1, .f32⟩
  | 91 => ⟨S32x3, .f32⟩
  | 92 => ⟨S32x256x32x32, .f32⟩
  | 93 => ⟨S256x32x32x32, .f32⟩
  | 94 => ⟨S256x32x32x32, .f32⟩
  | 95 => ⟨S256x3x32x32, .f32⟩
  | 96 => ⟨S32x3x1x1, .f32⟩
  | 97 => ⟨S32x3, .f32⟩
  | 98 => ⟨S32x256x32x32, .f32⟩
  | 99 => ⟨S256x32x32x32, .f32⟩
  | 100 => ⟨S256x32x32x32, .f32⟩
  | 101 => ⟨S256x3x32x32, .f32⟩
  | 102 => ⟨S32x3x1x1, .f32⟩
  | 103 => ⟨S32x3, .f32⟩
  | 104 => ⟨S32x256x32x32, .f32⟩
  | 105 => ⟨S256x32x32x32, .f32⟩
  | 106 => ⟨S256x32x32x32, .f32⟩
  | 107 => ⟨S256x3x32x32, .f32⟩
  | 108 => ⟨S32x3x1x1, .f32⟩
  | 109 => ⟨S32x3, .f32⟩
  | 110 => ⟨S32x256x32x32, .f32⟩
  | 111 => ⟨S256x32x32x32, .f32⟩
  | 112 => ⟨S256x32x32x32, .f32⟩
  | 113 => ⟨S256x3x32x32, .f32⟩
  | 114 => ⟨S32x3x1x1, .f32⟩
  | 115 => ⟨S32x3, .f32⟩
  | 116 => ⟨S32x256x32x32, .f32⟩
  | 117 => ⟨S256x32x32x32, .f32⟩
  | 118 => ⟨S256x32x32x32, .f32⟩
  | 119 => ⟨S256x3x32x32, .f32⟩
  | 120 => ⟨S32x3x1x1, .f32⟩
  | 121 => ⟨S32x3, .f32⟩
  | 122 => ⟨S32x256x32x32, .f32⟩
  | 123 => ⟨S256x32x32x32, .f32⟩
  | 124 => ⟨S256x32x32x32, .f32⟩
  | 125 => ⟨S256x3x32x32, .f32⟩
  | 126 => ⟨S32x3x1x1, .f32⟩
  | 127 => ⟨S32x3, .f32⟩
  | _ => ⟨S256x3x64x64, .f32⟩

abbrev hbmTy0_1 (i : Nat) : BufTy := match i % 128 with
  | 0 => ⟨S32x256x32x32, .f32⟩
  | 1 => ⟨S256x32x32x32, .f32⟩
  | 2 => ⟨S256x32x32x32, .f32⟩
  | 3 => ⟨S256x3x32x32, .f32⟩
  | 4 => ⟨S32x3x1x1, .f32⟩
  | 5 => ⟨S32x3, .f32⟩
  | 6 => ⟨S32x256x32x32, .f32⟩
  | 7 => ⟨S256x32x32x32, .f32⟩
  | 8 => ⟨S256x32x32x32, .f32⟩
  | 9 => ⟨S1x32x1x1, .f32⟩
  | 10 => ⟨S256x32x32x32, .f32⟩
  | 11 => ⟨S256x32x32x32, .f32⟩
  | 12 => ⟨S_, .f32⟩
  | 13 => ⟨S256x32x32x32, .f32⟩
  | 14 => ⟨S256x32x32x32, .f32⟩
  | 15 => ⟨S256x32x32x32, .f32⟩
  | 16 => ⟨S_, .f32⟩
  | 17 => ⟨S256x32x32x32, .f32⟩
  | 18 => ⟨S256x32x32x32, .f32⟩
  | 19 => ⟨S256x32x32x32, .f32⟩
  | 20 => ⟨S256x32x32x32, .f32⟩
  | 21 => ⟨S_, .i32⟩
  | 22 => ⟨S_, .f32⟩
  | 23 => ⟨S256x32x34x34, .f32⟩
  | 24 => ⟨S256x32x16x16, .f32⟩
  | 25 => ⟨S64x32x1x1, .f32⟩
  | 26 => ⟨S64x32, .f32⟩
  | 27 => ⟨S64x256x16x16, .f32⟩
  | 28 => ⟨S256x64x16x16, .f32⟩
  | 29 => ⟨S_, .f32⟩
  | 30 => ⟨S256x64x16x16, .f32⟩
  | 31 => ⟨S256x64x16x16, .f32⟩
  | 32 => ⟨S256x32x16x16, .f32⟩
  | 33 => ⟨S64x32x1x1, .f32⟩
  | 34 => ⟨S64x32, .f32⟩
  | 35 => ⟨S64x256x16x16, .f32⟩
  | 36 => ⟨S256x64x16x16, .f32⟩
  | 37 => ⟨S256x64x16x16, .f32⟩
  | 38 => ⟨S256x32x16x16, .f32⟩
  | 39 => ⟨S64x32x1x1, .f32⟩
  | 40 => ⟨S64x32, .f32⟩
  | 41 => ⟨S64x256x16x16, .f32⟩
  | 42 => ⟨S256x64x16x16, .f32⟩
  | 43 => ⟨S256x64x16x16, .f32⟩
  | 44 => ⟨S256x32x16x16, .f32⟩
  | 45 => ⟨S64x32x1x1, .f32⟩
  | 46 => ⟨S64x32, .f32⟩
  | 47 => ⟨S64x256x16x16, .f32⟩
  | 48 => ⟨S256x64x16x16, .f32⟩
  | 49 => ⟨S256x64x16x16, .f32⟩
  | 50 => ⟨S256x32x16x16, .f32⟩
  | 51 => ⟨S64x32x1x1, .f32⟩
  | 52 => ⟨S64x32, .f32⟩
  | 53 => ⟨S64x256x16x16, .f32⟩
  | 54 => ⟨S256x64x16x16, .f32⟩
  | 55 => ⟨S256x64x16x16, .f32⟩
  | 56 => ⟨S256x32x16x16, .f32⟩
  | 57 => ⟨S64x32x1x1, .f32⟩
  | 58 => ⟨S64x32, .f32⟩
  | 59 => ⟨S64x256x16x16, .f32⟩
  | 60 => ⟨S256x64x16x16, .f32⟩
  | 61 => ⟨S256x64x16x16, .f32⟩
  | 62 => ⟨S256x32x16x16, .f32⟩
  | 63 => ⟨S64x32x1x1, .f32⟩
  | 64 => ⟨S64x32, .f32⟩
  | 65 => ⟨S64x256x16x16, .f32⟩
  | 66 => ⟨S256x64x16x16, .f32⟩
  | 67 => ⟨S256x64x16x16, .f32⟩
  | 68 => ⟨S256x32x16x16, .f32⟩
  | 69 => ⟨S64x32x1x1, .f32⟩
  | 70 => ⟨S64x32, .f32⟩
  | 71 => ⟨S64x256x16x16, .f32⟩
  | 72 => ⟨S256x64x16x16, .f32⟩
  | 73 => ⟨S256x64x16x16, .f32⟩
  | 74 => ⟨S256x32x16x16, .f32⟩
  | 75 => ⟨S64x32x1x1, .f32⟩
  | 76 => ⟨S64x32, .f32⟩
  | 77 => ⟨S64x256x16x16, .f32⟩
  | 78 => ⟨S256x64x16x16, .f32⟩
  | 79 => ⟨S256x64x16x16, .f32⟩
  | 80 => ⟨S256x32x16x16, .f32⟩
  | 81 => ⟨S64x32x1x1, .f32⟩
  | 82 => ⟨S64x32, .f32⟩
  | 83 => ⟨S64x256x16x16, .f32⟩
  | 84 => ⟨S256x64x16x16, .f32⟩
  | 85 => ⟨S256x64x16x16, .f32⟩
  | 86 => ⟨S256x32x16x16, .f32⟩
  | 87 => ⟨S64x32x1x1, .f32⟩
  | 88 => ⟨S64x32, .f32⟩
  | 89 => ⟨S64x256x16x16, .f32⟩
  | 90 => ⟨S256x64x16x16, .f32⟩
  | 91 => ⟨S256x64x16x16, .f32⟩
  | 92 => ⟨S256x32x16x16, .f32⟩
  | 93 => ⟨S64x32x1x1, .f32⟩
  | 94 => ⟨S64x32, .f32⟩
  | 95 => ⟨S64x256x16x16, .f32⟩
  | 96 => ⟨S256x64x16x16, .f32⟩
  | 97 => ⟨S256x64x16x16, .f32⟩
  | 98 => ⟨S256x32x16x16, .f32⟩
  | 99 => ⟨S64x32x1x1, .f32⟩
  | 100 => ⟨S64x32, .f32⟩
  | 101 => ⟨S64x256x16x16, .f32⟩
  | 102 => ⟨S256x64x16x16, .f32⟩
  | 103 => ⟨S256x64x16x16, .f32⟩
  | 104 => ⟨S256x32x16x16, .f32⟩
  | 105 => ⟨S64x32x1x1, .f32⟩
  | 106 => ⟨S64x32, .f32⟩
  | 107 => ⟨S64x256x16x16, .f32⟩
  | 108 => ⟨S256x64x16x16, .f32⟩
  | 109 => ⟨S256x64x16x16, .f32⟩
  | 110 => ⟨S256x32x16x16, .f32⟩
  | 111 => ⟨S64x32x1x1, .f32⟩
  | 112 => ⟨S64x32, .f32⟩
  | 113 => ⟨S64x256x16x16, .f32⟩
  | 114 => ⟨S256x64x16x16, .f32⟩
  | 115 => ⟨S256x64x16x16, .f32⟩
  | 116 => ⟨S256x32x16x16, .f32⟩
  | 117 => ⟨S64x32x1x1, .f32⟩
  | 118 => ⟨S64x32, .f32⟩
  | 119 => ⟨S64x256x16x16, .f32⟩
  | 120 => ⟨S256x64x16x16, .f32⟩
  | 121 => ⟨S256x64x16x16, .f32⟩
  | 122 => ⟨S1x64x1x1, .f32⟩
  | 123 => ⟨S256x64x16x16, .f32⟩
  | 124 => ⟨S256x64x16x16, .f32⟩
  | 125 => ⟨S_, .f32⟩
  | 126 => ⟨S256x64x16x16, .f32⟩
  | 127 => ⟨S256x64x16x16, .f32⟩
  | _ => ⟨S256x3x64x64, .f32⟩

abbrev hbmTy0_2 (i : Nat) : BufTy := match i % 128 with
  | 0 => ⟨S256x64x16x16, .f32⟩
  | 1 => ⟨S_, .f32⟩
  | 2 => ⟨S256x64x16x16, .f32⟩
  | 3 => ⟨S256x64x16x16, .f32⟩
  | 4 => ⟨S256x64x16x16, .f32⟩
  | 5 => ⟨S256x64x16x16, .f32⟩
  | 6 => ⟨S_, .i32⟩
  | 7 => ⟨S_, .f32⟩
  | 8 => ⟨S256x64x18x18, .f32⟩
  | 9 => ⟨S256x64x8x8, .f32⟩
  | 10 => ⟨S128x64x1x1, .f32⟩
  | 11 => ⟨S128x64, .f32⟩
  | 12 => ⟨S128x256x8x8, .f32⟩
  | 13 => ⟨S256x128x8x8, .f32⟩
  | 14 => ⟨S_, .f32⟩
  | 15 => ⟨S256x128x8x8, .f32⟩
  | 16 => ⟨S256x128x8x8, .f32⟩
  | 17 => ⟨S256x64x8x8, .f32⟩
  | 18 => ⟨S128x64x1x1, .f32⟩
  | 19 => ⟨S128x64, .f32⟩
  | 20 => ⟨S128x256x8x8, .f32⟩
  | 21 => ⟨S256x128x8x8, .f32⟩
  | 22 => ⟨S256x128x8x8, .f32⟩
  | 23 => ⟨S256x64x8x8, .f32⟩
  | 24 => ⟨S128x64x1x1, .f32⟩
  | 25 => ⟨S128x64, .f32⟩
  | 26 => ⟨S128x256x8x8, .f32⟩
  | 27 => ⟨S256x128x8x8, .f32⟩
  | 28 => ⟨S256x128x8x8, .f32⟩
  | 29 => ⟨S256x64x8x8, .f32⟩
  | 30 => ⟨S128x64x1x1, .f32⟩
  | 31 => ⟨S128x64, .f32⟩
  | 32 => ⟨S128x256x8x8, .f32⟩
  | 33 => ⟨S256x128x8x8, .f32⟩
  | 34 => ⟨S256x128x8x8, .f32⟩
  | 35 => ⟨S256x64x8x8, .f32⟩
  | 36 => ⟨S128x64x1x1, .f32⟩
  | 37 => ⟨S128x64, .f32⟩
  | 38 => ⟨S128x256x8x8, .f32⟩
  | 39 => ⟨S256x128x8x8, .f32⟩
  | 40 => ⟨S256x128x8x8, .f32⟩
  | 41 => ⟨S256x64x8x8, .f32⟩
  | 42 => ⟨S128x64x1x1, .f32⟩
  | 43 => ⟨S128x64, .f32⟩
  | 44 => ⟨S128x256x8x8, .f32⟩
  | 45 => ⟨S256x128x8x8, .f32⟩
  | 46 => ⟨S256x128x8x8, .f32⟩
  | 47 => ⟨S256x64x8x8, .f32⟩
  | 48 => ⟨S128x64x1x1, .f32⟩
  | 49 => ⟨S128x64, .f32⟩
  | 50 => ⟨S128x256x8x8, .f32⟩
  | 51 => ⟨S256x128x8x8, .f32⟩
  | 52 => ⟨S256x128x8x8, .f32⟩
  | 53 => ⟨S256x64x8x8, .f32⟩
  | 54 => ⟨S128x64x1x1, .f32⟩
  | 55 => ⟨S128x64, .f32⟩
  | 56 => ⟨S128x256x8x8, .f32⟩
  | 57 => ⟨S256x128x8x8, .f32⟩
  | 58 => ⟨S256x128x8x8, .f32⟩
  | 59 => ⟨S256x64x8x8, .f32⟩
  | 60 => ⟨S128x64x1x1, .f32⟩
  | 61 => ⟨S128x64, .f32⟩
  | 62 => ⟨S128x256x8x8, .f32⟩
  | 63 => ⟨S256x128x8x8, .f32⟩
  | 64 => ⟨S256x128x8x8, .f32⟩
  | 65 => ⟨S256x64x8x8, .f32⟩
  | 66 => ⟨S128x64x1x1, .f32⟩
  | 67 => ⟨S128x64, .f32⟩
  | 68 => ⟨S128x256x8x8, .f32⟩
  | 69 => ⟨S256x128x8x8, .f32⟩
  | 70 => ⟨S256x128x8x8, .f32⟩
  | 71 => ⟨S256x64x8x8, .f32⟩
  | 72 => ⟨S128x64x1x1, .f32⟩
  | 73 => ⟨S128x64, .f32⟩
  | 74 => ⟨S128x256x8x8, .f32⟩
  | 75 => ⟨S256x128x8x8, .f32⟩
  | 76 => ⟨S256x128x8x8, .f32⟩
  | 77 => ⟨S256x64x8x8, .f32⟩
  | 78 => ⟨S128x64x1x1, .f32⟩
  | 79 => ⟨S128x64, .f32⟩
  | 80 => ⟨S128x256x8x8, .f32⟩
  | 81 => ⟨S256x128x8x8, .f32⟩
  | 82 => ⟨S256x128x8x8, .f32⟩
  | 83 => ⟨S256x64x8x8, .f32⟩
  | 84 => ⟨S128x64x1x1, .f32⟩
  | 85 => ⟨S128x64, .f32⟩
  | 86 => ⟨S128x256x8x8, .f32⟩
  | 87 => ⟨S256x128x8x8, .f32⟩
  | 88 => ⟨S256x128x8x8, .f32⟩
  | 89 => ⟨S256x64x8x8, .f32⟩
  | 90 => ⟨S128x64x1x1, .f32⟩
  | 91 => ⟨S128x64, .f32⟩
  | 92 => ⟨S128x256x8x8, .f32⟩
  | 93 => ⟨S256x128x8x8, .f32⟩
  | 94 => ⟨S256x128x8x8, .f32⟩
  | 95 => ⟨S256x64x8x8, .f32⟩
  | 96 => ⟨S128x64x1x1, .f32⟩
  | 97 => ⟨S128x64, .f32⟩
  | 98 => ⟨S128x256x8x8, .f32⟩
  | 99 => ⟨S256x128x8x8, .f32⟩
  | 100 => ⟨S256x128x8x8, .f32⟩
  | 101 => ⟨S256x64x8x8, .f32⟩
  | 102 => ⟨S128x64x1x1, .f32⟩
  | 103 => ⟨S128x64, .f32⟩
  | 104 => ⟨S128x256x8x8, .f32⟩
  | 105 => ⟨S256x128x8x8, .f32⟩
  | 106 => ⟨S256x128x8x8, .f32⟩
  | 107 => ⟨S1x128x1x1, .f32⟩
  | 108 => ⟨S256x128x8x8, .f32⟩
  | 109 => ⟨S256x128x8x8, .f32⟩
  | 110 => ⟨S_, .f32⟩
  | 111 => ⟨S256x128x8x8, .f32⟩
  | 112 => ⟨S256x128x8x8, .f32⟩
  | 113 => ⟨S256x128x8x8, .f32⟩
  | 114 => ⟨S_, .f32⟩
  | 115 => ⟨S256x128x8x8, .f32⟩
  | 116 => ⟨S256x128x8x8, .f32⟩
  | 117 => ⟨S256x128x8x8, .f32⟩
  | 118 => ⟨S256x128x8x8, .f32⟩
  | 119 => ⟨S_, .i32⟩
  | 120 => ⟨S_, .f32⟩
  | 121 => ⟨S256x128x10x10, .f32⟩
  | 122 => ⟨S256x128x4x4, .f32⟩
  | 123 => ⟨S256x128x1x1, .f32⟩
  | 124 => ⟨S256x128, .f32⟩
  | 125 => ⟨S256x256x4x4, .f32⟩
  | 126 => ⟨S256x256x4x4, .f32⟩
  | 127 => ⟨S_, .f32⟩
  | _ => ⟨S256x3x64x64, .f32⟩

abbrev hbmTy0_3 (i : Nat) : BufTy := match i % 128 with
  | 0 => ⟨S256x256x4x4, .f32⟩
  | 1 => ⟨S256x256x4x4, .f32⟩
  | 2 => ⟨S256x128x4x4, .f32⟩
  | 3 => ⟨S256x128x1x1, .f32⟩
  | 4 => ⟨S256x128, .f32⟩
  | 5 => ⟨S256x256x4x4, .f32⟩
  | 6 => ⟨S256x256x4x4, .f32⟩
  | 7 => ⟨S256x256x4x4, .f32⟩
  | 8 => ⟨S256x128x4x4, .f32⟩
  | 9 => ⟨S256x128x1x1, .f32⟩
  | 10 => ⟨S256x128, .f32⟩
  | 11 => ⟨S256x256x4x4, .f32⟩
  | 12 => ⟨S256x256x4x4, .f32⟩
  | 13 => ⟨S256x256x4x4, .f32⟩
  | 14 => ⟨S256x128x4x4, .f32⟩
  | 15 => ⟨S256x128x1x1, .f32⟩
  | 16 => ⟨S256x128, .f32⟩
  | 17 => ⟨S256x256x4x4, .f32⟩
  | 18 => ⟨S256x256x4x4, .f32⟩
  | 19 => ⟨S256x256x4x4, .f32⟩
  | 20 => ⟨S256x128x4x4, .f32⟩
  | 21 => ⟨S256x128x1x1, .f32⟩
  | 22 => ⟨S256x128, .f32⟩
  | 23 => ⟨S256x256x4x4, .f32⟩
  | 24 => ⟨S256x256x4x4, .f32⟩
  | 25 => ⟨S256x256x4x4, .f32⟩
  | 26 => ⟨S256x128x4x4, .f32⟩
  | 27 => ⟨S256x128x1x1, .f32⟩
  | 28 => ⟨S256x128, .f32⟩
  | 29 => ⟨S256x256x4x4, .f32⟩
  | 30 => ⟨S256x256x4x4, .f32⟩
  | 31 => ⟨S256x256x4x4, .f32⟩
  | 32 => ⟨S256x128x4x4, .f32⟩
  | 33 => ⟨S256x128x1x1, .f32⟩
  | 34 => ⟨S256x128, .f32⟩
  | 35 => ⟨S256x256x4x4, .f32⟩
  | 36 => ⟨S256x256x4x4, .f32⟩
  | 37 => ⟨S256x256x4x4, .f32⟩
  | 38 => ⟨S256x128x4x4, .f32⟩
  | 39 => ⟨S256x128x1x1, .f32⟩
  | 40 => ⟨S256x128, .f32⟩
  | 41 => ⟨S256x256x4x4, .f32⟩
  | 42 => ⟨S256x256x4x4, .f32⟩
  | 43 => ⟨S256x256x4x4, .f32⟩
  | 44 => ⟨S256x128x4x4, .f32⟩
  | 45 => ⟨S256x128x1x1, .f32⟩
  | 46 => ⟨S256x128, .f32⟩
  | 47 => ⟨S256x256x4x4, .f32⟩
  | 48 => ⟨S256x256x4x4, .f32⟩
  | 49 => ⟨S256x256x4x4, .f32⟩
  | 50 => ⟨S256x128x4x4, .f32⟩
  | 51 => ⟨S256x128x1x1, .f32⟩
  | 52 => ⟨S256x128, .f32⟩
  | 53 => ⟨S256x256x4x4, .f32⟩
  | 54 => ⟨S256x256x4x4, .f32⟩
  | 55 => ⟨S256x256x4x4, .f32⟩
  | 56 => ⟨S256x128x4x4, .f32⟩
  | 57 => ⟨S256x128x1x1, .f32⟩
  | 58 => ⟨S256x128, .f32⟩
  | 59 => ⟨S256x256x4x4, .f32⟩
  | 60 => ⟨S256x256x4x4, .f32⟩
  | 61 => ⟨S256x256x4x4, .f32⟩
  | 62 => ⟨S256x128x4x4, .f32⟩
  | 63 => ⟨S256x128x1x1, .f32⟩
  | 64 => ⟨S256x128, .f32⟩
  | 65 => ⟨S256x256x4x4, .f32⟩
  | 66 => ⟨S256x256x4x4, .f32⟩
  | 67 => ⟨S256x256x4x4, .f32⟩
  | 68 => ⟨S256x128x4x4, .f32⟩
  | 69 => ⟨S256x128x1x1, .f32⟩
  | 70 => ⟨S256x128, .f32⟩
  | 71 => ⟨S256x256x4x4, .f32⟩
  | 72 => ⟨S256x256x4x4, .f32⟩
  | 73 => ⟨S256x256x4x4, .f32⟩
  | 74 => ⟨S256x128x4x4, .f32⟩
  | 75 => ⟨S256x128x1x1, .f32⟩
  | 76 => ⟨S256x128, .f32⟩
  | 77 => ⟨S256x256x4x4, .f32⟩
  | 78 => ⟨S256x256x4x4, .f32⟩
  | 79 => ⟨S256x256x4x4, .f32⟩
  | 80 => ⟨S256x128x4x4, .f32⟩
  | 81 => ⟨S256x128x1x1, .f32⟩
  | 82 => ⟨S256x128, .f32⟩
  | 83 => ⟨S256x256x4x4, .f32⟩
  | 84 => ⟨S256x256x4x4, .f32⟩
  | 85 => ⟨S256x256x4x4, .f32⟩
  | 86 => ⟨S256x128x4x4, .f32⟩
  | 87 => ⟨S256x128x1x1, .f32⟩
  | 88 => ⟨S256x128, .f32⟩
  | 89 => ⟨S256x256x4x4, .f32⟩
  | 90 => ⟨S256x256x4x4, .f32⟩
  | 91 => ⟨S256x256x4x4, .f32⟩
  | 92 => ⟨S1x256x1x1, .f32⟩
  | 93 => ⟨S256x256x4x4, .f32⟩
  | 94 => ⟨S256x256x4x4, .f32⟩
  | 95 => ⟨S_, .f32⟩
  | 96 => ⟨S256x256x4x4, .f32⟩
  | 97 => ⟨S256x256x4x4, .f32⟩
  | 98 => ⟨S256x256x4x4, .f32⟩
  | 99 => ⟨S_, .f32⟩
  | 100 => ⟨S256x256x4x4, .f32⟩
  | 101 => ⟨S256x256x4x4, .f32⟩
  | 102 => ⟨S256x256x4x4, .f32⟩
  | 103 => ⟨S256x256x4x4, .f32⟩
  | 104 => ⟨S256x4096, .f32⟩
  | 105 => ⟨S4096x256, .f32⟩
  | 106 => ⟨S256x256, .f32⟩
  | 107 => ⟨S1x256, .f32⟩
  | 108 => ⟨S256x256, .f32⟩
  | 109 => ⟨S256x256, .f32⟩
  | 110 => ⟨S256x3x32, .f32⟩
  | 111 => ⟨S1x3x32, .f32⟩
  | 112 => ⟨S256x3x32, .f32⟩
  | 113 => ⟨S256x3x32, .f32⟩
  | 114 => ⟨S1x3x32, .f32⟩
  | 115 => ⟨S256x3x32, .f32⟩
  | 116 => ⟨S256x3x32, .f32⟩
  | 117 => ⟨S256x3x1x32, .f32⟩
  | 118 => ⟨S1x3x256x32, .f32⟩
  | 119 => ⟨S256x3x256x32, .f32⟩
  | 120 => ⟨S256x3x256x32, .f32⟩
  | 121 => ⟨S256x3x256x32, .f32⟩
  | 122 => ⟨S256x3x256x32, .f32⟩
  | 123 => ⟨S_, .f32⟩
  | 124 => ⟨S256x3x256, .f32⟩
  | 125 => ⟨S1x3x256, .f32⟩
  | 126 => ⟨S_, .f32⟩
  | 127 => ⟨S1x3x256, .f32⟩
  | _ => ⟨S256x3x64x64, .f32⟩

abbrev hbmTy0_4 (i : Nat) : BufTy := match i % 128 with
  | 0 => ⟨S1x3x256, .f32⟩
  | 1 => ⟨S_, .f32⟩
  | 2 => ⟨S1x3x256, .f32⟩
  | 3 => ⟨S1x3x256, .f32⟩
  | 4 => ⟨S256x3x256, .f32⟩
  | 5 => ⟨S256x3x256, .f32⟩
  | 6 => ⟨S_, .f32⟩
  | 7 => ⟨S256x3, .f32⟩
  | 8 => ⟨S256x3x1, .f32⟩
  | 9 => ⟨S256x3x256, .f32⟩
  | 10 => ⟨S256x3x256, .i1⟩
  | 11 => ⟨S256, .i32⟩
  | 12 => ⟨S_, .i32⟩
  | 13 => ⟨S_, .i32⟩
  | 14 => ⟨S256x3x256, .i32⟩
  | 15 => ⟨S256x3x256, .i32⟩
  | 16 => ⟨S256x3x256, .i32⟩
  | 17 => ⟨S_, .i32⟩
  | 18 => ⟨S256x3, .i32⟩
  | 19 => ⟨S3, .i32⟩
  | 20 => ⟨S1x3, .i32⟩
  | 21 => ⟨S_, .i32⟩
  | 22 => ⟨S1x3, .i32⟩
  | 23 => ⟨S1x3, .i1⟩
  | 24 => ⟨S_, .i32⟩
  | 25 => ⟨S1x3, .i32⟩
  | 26 => ⟨S1x3, .i32⟩
  | 27 => ⟨S1x3, .i32⟩
  | 28 => ⟨S_, .i32⟩
  | 29 => ⟨S256x3, .i32⟩
  | 30 => ⟨S256x3, .i1⟩
  | 31 => ⟨S_, .i32⟩
  | 32 => ⟨S256x3, .i32⟩
  | 33 => ⟨S256x3, .i32⟩
  | 34 => ⟨S256x3, .i32⟩
  | 35 => ⟨S256x3, .i32⟩
  | 36 => ⟨S256x3x1, .i32⟩
  | 37 => ⟨S256x3x1, .i32⟩
  | 38 => ⟨S256x3x2, .i32⟩
  | 39 => ⟨S256x3x32, .f32⟩
  | 40 => ⟨S256x3x32, .f32⟩
  | 41 => ⟨S256x3x32, .f32⟩
  | 42 => ⟨S1x3x32, .f32⟩
  | 43 => ⟨S256x3x32, .f32⟩
  | 44 => ⟨S256x3x32, .f32⟩
  | 45 => ⟨S_, .f32⟩
  | 46 => ⟨S_, .f32⟩
  | 47 => ⟨S_, .f32⟩
  | 48 => ⟨S_, .f32⟩
  | 49 => ⟨S256x3x32, .f32⟩
  | 50 => ⟨S256x3x32, .f32⟩
  | 51 => ⟨S1x3x32, .f32⟩
  | 52 => ⟨S256x3x32, .f32⟩
  | 53 => ⟨S256x3x32, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S256x3x32, .f32⟩
  | 62 => ⟨S256x3x32, .f32⟩
  | _ => ⟨S256x3x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S256x3x64x64, .f32⟩

abbrev bufTy : (tb : Table) → Fin (tcTables nBuf tb) → BufTy
  | .hbm, ⟨i, _⟩ => hbmTy i
  | _, _ => ⟨S256x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_2 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_3 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_c_4 : Ref sig .tc := ⟨.hbm, 149, rfl⟩
abbrev main_call1_v0 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_5 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_cst_6 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_cst_7 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_c_8 : Ref sig .tc := ⟨.hbm, 262, rfl⟩
abbrev main_call2_v0 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_cst_9 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_v299 : Ref sig .tc := ⟨.hbm, 328, rfl⟩
abbrev main_v300 : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v306 : Ref sig .tc := ⟨.hbm, 335, rfl⟩
abbrev main_v307 : Ref sig .tc := ⟨.hbm, 336, rfl⟩
abbrev main_v308 : Ref sig .tc := ⟨.hbm, 337, rfl⟩
abbrev main_v309 : Ref sig .tc := ⟨.hbm, 338, rfl⟩
abbrev main_v310 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev main_v316 : Ref sig .tc := ⟨.hbm, 345, rfl⟩
abbrev main_v317 : Ref sig .tc := ⟨.hbm, 346, rfl⟩
abbrev main_v318 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_v324 : Ref sig .tc := ⟨.hbm, 353, rfl⟩
abbrev main_v325 : Ref sig .tc := ⟨.hbm, 354, rfl⟩
abbrev main_v326 : Ref sig .tc := ⟨.hbm, 355, rfl⟩
abbrev main_v327 : Ref sig .tc := ⟨.hbm, 356, rfl⟩
abbrev main_v328 : Ref sig .tc := ⟨.hbm, 357, rfl⟩
abbrev main_v329 : Ref sig .tc := ⟨.hbm, 358, rfl⟩
abbrev main_v330 : Ref sig .tc := ⟨.hbm, 359, rfl⟩
abbrev main_v331 : Ref sig .tc := ⟨.hbm, 360, rfl⟩
abbrev main_v332 : Ref sig .tc := ⟨.hbm, 361, rfl⟩
abbrev main_v333 : Ref sig .tc := ⟨.hbm, 362, rfl⟩
abbrev main_v334 : Ref sig .tc := ⟨.hbm, 363, rfl⟩
abbrev main_v335 : Ref sig .tc := ⟨.hbm, 364, rfl⟩
abbrev main_v336 : Ref sig .tc := ⟨.hbm, 365, rfl⟩
abbrev main_cst_10 : Ref sig .tc := ⟨.hbm, 366, rfl⟩
abbrev main_v337 : Ref sig .tc := ⟨.hbm, 367, rfl⟩
abbrev main_v338 : Ref sig .tc := ⟨.hbm, 368, rfl⟩
abbrev main_v339 : Ref sig .tc := ⟨.hbm, 369, rfl⟩
abbrev main_cst_11 : Ref sig .tc := ⟨.hbm, 370, rfl⟩
abbrev main_v340 : Ref sig .tc := ⟨.hbm, 371, rfl⟩
abbrev main_v341 : Ref sig .tc := ⟨.hbm, 372, rfl⟩
abbrev main_v342 : Ref sig .tc := ⟨.hbm, 373, rfl⟩
abbrev main_v343 : Ref sig .tc := ⟨.hbm, 374, rfl⟩
abbrev main_c_12 : Ref sig .tc := ⟨.hbm, 375, rfl⟩
abbrev main_call3_v0 : Ref sig .tc := ⟨.hbm, 376, rfl⟩
abbrev main_v344 : Ref sig .tc := ⟨.hbm, 377, rfl⟩
abbrev main_v345 : Ref sig .tc := ⟨.hbm, 378, rfl⟩
abbrev main_v346 : Ref sig .tc := ⟨.hbm, 379, rfl⟩
abbrev main_v347 : Ref sig .tc := ⟨.hbm, 380, rfl⟩
abbrev main_v348 : Ref sig .tc := ⟨.hbm, 381, rfl⟩
abbrev main_v349 : Ref sig .tc := ⟨.hbm, 382, rfl⟩
abbrev main_cst_13 : Ref sig .tc := ⟨.hbm, 383, rfl⟩
abbrev main_v350 : Ref sig .tc := ⟨.hbm, 384, rfl⟩
abbrev main_v351 : Ref sig .tc := ⟨.hbm, 385, rfl⟩
abbrev main_v352 : Ref sig .tc := ⟨.hbm, 386, rfl⟩
abbrev main_v353 : Ref sig .tc := ⟨.hbm, 387, rfl⟩
abbrev main_v354 : Ref sig .tc := ⟨.hbm, 388, rfl⟩
abbrev main_v355 : Ref sig .tc := ⟨.hbm, 389, rfl⟩
abbrev main_v356 : Ref sig .tc := ⟨.hbm, 390, rfl⟩
abbrev main_v357 : Ref sig .tc := ⟨.hbm, 391, rfl⟩
abbrev main_v358 : Ref sig .tc := ⟨.hbm, 392, rfl⟩
abbrev main_v359 : Ref sig .tc := ⟨.hbm, 393, rfl⟩
abbrev main_v360 : Ref sig .tc := ⟨.hbm, 394, rfl⟩
abbrev main_v361 : Ref sig .tc := ⟨.hbm, 395, rfl⟩
abbrev main_v362 : Ref sig .tc := ⟨.hbm, 396, rfl⟩
abbrev main_v363 : Ref sig .tc := ⟨.hbm, 397, rfl⟩
abbrev main_v364 : Ref sig .tc := ⟨.hbm, 398, rfl⟩
abbrev main_v365 : Ref sig .tc := ⟨.hbm, 399, rfl⟩
abbrev main_v366 : Ref sig .tc := ⟨.hbm, 400, rfl⟩
abbrev main_v367 : Ref sig .tc := ⟨.hbm, 401, rfl⟩
abbrev main_v368 : Ref sig .tc := ⟨.hbm, 402, rfl⟩
abbrev main_v369 : Ref sig .tc := ⟨.hbm, 403, rfl⟩
abbrev main_v370 : Ref sig .tc := ⟨.hbm, 404, rfl⟩
abbrev main_v371 : Ref sig .tc := ⟨.hbm, 405, rfl⟩
abbrev main_v372 : Ref sig .tc := ⟨.hbm, 406, rfl⟩
abbrev main_v373 : Ref sig .tc := ⟨.hbm, 407, rfl⟩
abbrev main_v374 : Ref sig .tc := ⟨.hbm, 408, rfl⟩
abbrev main_v375 : Ref sig .tc := ⟨.hbm, 409, rfl⟩
abbrev main_v376 : Ref sig .tc := ⟨.hbm, 410, rfl⟩
abbrev main_v377 : Ref sig .tc := ⟨.hbm, 411, rfl⟩
abbrev main_v378 : Ref sig .tc := ⟨.hbm, 412, rfl⟩
abbrev main_v379 : Ref sig .tc := ⟨.hbm, 413, rfl⟩
abbrev main_v380 : Ref sig .tc := ⟨.hbm, 414, rfl⟩
abbrev main_v381 : Ref sig .tc := ⟨.hbm, 415, rfl⟩
abbrev main_v382 : Ref sig .tc := ⟨.hbm, 416, rfl⟩
abbrev main_v383 : Ref sig .tc := ⟨.hbm, 417, rfl⟩
abbrev main_v384 : Ref sig .tc := ⟨.hbm, 418, rfl⟩
abbrev main_v385 : Ref sig .tc := ⟨.hbm, 419, rfl⟩
abbrev main_v386 : Ref sig .tc := ⟨.hbm, 420, rfl⟩
abbrev main_v387 : Ref sig .tc := ⟨.hbm, 421, rfl⟩
abbrev main_v388 : Ref sig .tc := ⟨.hbm, 422, rfl⟩
abbrev main_v389 : Ref sig .tc := ⟨.hbm, 423, rfl⟩
abbrev main_v390 : Ref sig .tc := ⟨.hbm, 424, rfl⟩
abbrev main_v391 : Ref sig .tc := ⟨.hbm, 425, rfl⟩
abbrev main_v392 : Ref sig .tc := ⟨.hbm, 426, rfl⟩
abbrev main_v393 : Ref sig .tc := ⟨.hbm, 427, rfl⟩
abbrev main_v394 : Ref sig .tc := ⟨.hbm, 428, rfl⟩
abbrev main_v395 : Ref sig .tc := ⟨.hbm, 429, rfl⟩
abbrev main_v396 : Ref sig .tc := ⟨.hbm, 430, rfl⟩
abbrev main_v397 : Ref sig .tc := ⟨.hbm, 431, rfl⟩
abbrev main_v398 : Ref sig .tc := ⟨.hbm, 432, rfl⟩
abbrev main_v399 : Ref sig .tc := ⟨.hbm, 433, rfl⟩
abbrev main_v400 : Ref sig .tc := ⟨.hbm, 434, rfl⟩
abbrev main_v401 : Ref sig .tc := ⟨.hbm, 435, rfl⟩
abbrev main_v402 : Ref sig .tc := ⟨.hbm, 436, rfl⟩
abbrev main_v403 : Ref sig .tc := ⟨.hbm, 437, rfl⟩
abbrev main_v404 : Ref sig .tc := ⟨.hbm, 438, rfl⟩
abbrev main_v405 : Ref sig .tc := ⟨.hbm, 439, rfl⟩
abbrev main_v406 : Ref sig .tc := ⟨.hbm, 440, rfl⟩
abbrev main_v407 : Ref sig .tc := ⟨.hbm, 441, rfl⟩
abbrev main_v408 : Ref sig .tc := ⟨.hbm, 442, rfl⟩
abbrev main_v409 : Ref sig .tc := ⟨.hbm, 443, rfl⟩
abbrev main_v410 : Ref sig .tc := ⟨.hbm, 444, rfl⟩
abbrev main_v411 : Ref sig .tc := ⟨.hbm, 445, rfl⟩
abbrev main_v412 : Ref sig .tc := ⟨.hbm, 446, rfl⟩
abbrev main_v413 : Ref sig .tc := ⟨.hbm, 447, rfl⟩
abbrev main_v414 : Ref sig .tc := ⟨.hbm, 448, rfl⟩
abbrev main_v415 : Ref sig .tc := ⟨.hbm, 449, rfl⟩
abbrev main_v416 : Ref sig .tc := ⟨.hbm, 450, rfl⟩
abbrev main_v417 : Ref sig .tc := ⟨.hbm, 451, rfl⟩
abbrev main_v418 : Ref sig .tc := ⟨.hbm, 452, rfl⟩
abbrev main_v419 : Ref sig .tc := ⟨.hbm, 453, rfl⟩
abbrev main_v420 : Ref sig .tc := ⟨.hbm, 454, rfl⟩
abbrev main_v421 : Ref sig .tc := ⟨.hbm, 455, rfl⟩
abbrev main_v422 : Ref sig .tc := ⟨.hbm, 456, rfl⟩
abbrev main_v423 : Ref sig .tc := ⟨.hbm, 457, rfl⟩
abbrev main_v424 : Ref sig .tc := ⟨.hbm, 458, rfl⟩
abbrev main_v425 : Ref sig .tc := ⟨.hbm, 459, rfl⟩
abbrev main_v426 : Ref sig .tc := ⟨.hbm, 460, rfl⟩
abbrev main_v427 : Ref sig .tc := ⟨.hbm, 461, rfl⟩
abbrev main_v428 : Ref sig .tc := ⟨.hbm, 462, rfl⟩
abbrev main_v429 : Ref sig .tc := ⟨.hbm, 463, rfl⟩
abbrev main_v430 : Ref sig .tc := ⟨.hbm, 464, rfl⟩
abbrev main_v431 : Ref sig .tc := ⟨.hbm, 465, rfl⟩
abbrev main_v432 : Ref sig .tc := ⟨.hbm, 466, rfl⟩
abbrev main_v433 : Ref sig .tc := ⟨.hbm, 467, rfl⟩
abbrev main_v434 : Ref sig .tc := ⟨.hbm, 468, rfl⟩
abbrev main_v435 : Ref sig .tc := ⟨.hbm, 469, rfl⟩
abbrev main_v436 : Ref sig .tc := ⟨.hbm, 470, rfl⟩
abbrev main_v437 : Ref sig .tc := ⟨.hbm, 471, rfl⟩
abbrev main_v438 : Ref sig .tc := ⟨.hbm, 472, rfl⟩
abbrev main_v439 : Ref sig .tc := ⟨.hbm, 473, rfl⟩
abbrev main_v440 : Ref sig .tc := ⟨.hbm, 474, rfl⟩
abbrev main_v441 : Ref sig .tc := ⟨.hbm, 475, rfl⟩
abbrev main_v442 : Ref sig .tc := ⟨.hbm, 476, rfl⟩
abbrev main_v443 : Ref sig .tc := ⟨.hbm, 477, rfl⟩
abbrev main_v444 : Ref sig .tc := ⟨.hbm, 478, rfl⟩
abbrev main_cst_14 : Ref sig .tc := ⟨.hbm, 479, rfl⟩
abbrev main_v445 : Ref sig .tc := ⟨.hbm, 480, rfl⟩
abbrev main_v446 : Ref sig .tc := ⟨.hbm, 481, rfl⟩
abbrev main_v447 : Ref sig .tc := ⟨.hbm, 482, rfl⟩
abbrev main_cst_15 : Ref sig .tc := ⟨.hbm, 483, rfl⟩
abbrev main_v448 : Ref sig .tc := ⟨.hbm, 484, rfl⟩
abbrev main_v449 : Ref sig .tc := ⟨.hbm, 485, rfl⟩
abbrev main_v450 : Ref sig .tc := ⟨.hbm, 486, rfl⟩
abbrev main_v451 : Ref sig .tc := ⟨.hbm, 487, rfl⟩
abbrev main_v452 : Ref sig .tc := ⟨.hbm, 488, rfl⟩
abbrev main_v453 : Ref sig .tc := ⟨.hbm, 489, rfl⟩
abbrev main_v454 : Ref sig .tc := ⟨.hbm, 490, rfl⟩
abbrev main_v455 : Ref sig .tc := ⟨.hbm, 491, rfl⟩
abbrev main_v456 : Ref sig .tc := ⟨.hbm, 492, rfl⟩
abbrev main_v457 : Ref sig .tc := ⟨.hbm, 493, rfl⟩
abbrev main_v458 : Ref sig .tc := ⟨.hbm, 494, rfl⟩
abbrev main_v459 : Ref sig .tc := ⟨.hbm, 495, rfl⟩
abbrev main_v460 : Ref sig .tc := ⟨.hbm, 496, rfl⟩
abbrev main_v461 : Ref sig .tc := ⟨.hbm, 497, rfl⟩
abbrev main_v462 : Ref sig .tc := ⟨.hbm, 498, rfl⟩
abbrev main_v463 : Ref sig .tc := ⟨.hbm, 499, rfl⟩
abbrev main_v464 : Ref sig .tc := ⟨.hbm, 500, rfl⟩
abbrev main_v465 : Ref sig .tc := ⟨.hbm, 501, rfl⟩
abbrev main_v466 : Ref sig .tc := ⟨.hbm, 502, rfl⟩
abbrev main_v467 : Ref sig .tc := ⟨.hbm, 503, rfl⟩
abbrev main_v468 : Ref sig .tc := ⟨.hbm, 504, rfl⟩
abbrev main_v469 : Ref sig .tc := ⟨.hbm, 505, rfl⟩
abbrev main_v470 : Ref sig .tc := ⟨.hbm, 506, rfl⟩
abbrev main_cst_16 : Ref sig .tc := ⟨.hbm, 507, rfl⟩
abbrev main_v471 : Ref sig .tc := ⟨.hbm, 508, rfl⟩
abbrev main_v472 : Ref sig .tc := ⟨.hbm, 509, rfl⟩
abbrev main_cst_17 : Ref sig .tc := ⟨.hbm, 510, rfl⟩
abbrev main_v473 : Ref sig .tc := ⟨.hbm, 511, rfl⟩
abbrev main_v474 : Ref sig .tc := ⟨.hbm, 512, rfl⟩
abbrev main_cst_18 : Ref sig .tc := ⟨.hbm, 513, rfl⟩
abbrev main_v475 : Ref sig .tc := ⟨.hbm, 514, rfl⟩
abbrev main_v476 : Ref sig .tc := ⟨.hbm, 515, rfl⟩
abbrev main_v477 : Ref sig .tc := ⟨.hbm, 516, rfl⟩
abbrev main_v478 : Ref sig .tc := ⟨.hbm, 517, rfl⟩
abbrev main_cst_19 : Ref sig .tc := ⟨.hbm, 518, rfl⟩
abbrev main_v479 : Ref sig .tc := ⟨.hbm, 519, rfl⟩
abbrev main_v480 : Ref sig .tc := ⟨.hbm, 520, rfl⟩
abbrev main_v481 : Ref sig .tc := ⟨.hbm, 521, rfl⟩
abbrev main_v482 : Ref sig .tc := ⟨.hbm, 522, rfl⟩
abbrev main_v483 : Ref sig .tc := ⟨.hbm, 523, rfl⟩
abbrev main_c_20 : Ref sig .tc := ⟨.hbm, 524, rfl⟩
abbrev main_call4_v0 : Ref sig .tc := ⟨.hbm, 525, rfl⟩
abbrev main_call4_v1 : Ref sig .tc := ⟨.hbm, 526, rfl⟩
abbrev main_call4_v2 : Ref sig .tc := ⟨.hbm, 527, rfl⟩
abbrev main_v484 : Ref sig .tc := ⟨.hbm, 528, rfl⟩
abbrev main_c_21 : Ref sig .tc := ⟨.hbm, 529, rfl⟩
abbrev main_v485 : Ref sig .tc := ⟨.hbm, 530, rfl⟩
abbrev main_v486 : Ref sig .tc := ⟨.hbm, 531, rfl⟩
abbrev main_v487 : Ref sig .tc := ⟨.hbm, 532, rfl⟩
abbrev main_c_22 : Ref sig .tc := ⟨.hbm, 533, rfl⟩
abbrev main_v488 : Ref sig .tc := ⟨.hbm, 534, rfl⟩
abbrev main_v489 : Ref sig .tc := ⟨.hbm, 535, rfl⟩
abbrev main_c_23 : Ref sig .tc := ⟨.hbm, 536, rfl⟩
abbrev main_v490 : Ref sig .tc := ⟨.hbm, 537, rfl⟩
abbrev main_v491 : Ref sig .tc := ⟨.hbm, 538, rfl⟩
abbrev main_v492 : Ref sig .tc := ⟨.hbm, 539, rfl⟩
abbrev main_c_24 : Ref sig .tc := ⟨.hbm, 540, rfl⟩
abbrev main_v493 : Ref sig .tc := ⟨.hbm, 541, rfl⟩
abbrev main_v494 : Ref sig .tc := ⟨.hbm, 542, rfl⟩
abbrev main_c_25 : Ref sig .tc := ⟨.hbm, 543, rfl⟩
abbrev main_v495 : Ref sig .tc := ⟨.hbm, 544, rfl⟩
abbrev main_v496 : Ref sig .tc := ⟨.hbm, 545, rfl⟩
abbrev main_v497 : Ref sig .tc := ⟨.hbm, 546, rfl⟩
abbrev main_v498 : Ref sig .tc := ⟨.hbm, 547, rfl⟩
abbrev main_v499 : Ref sig .tc := ⟨.hbm, 548, rfl⟩
abbrev main_v500 : Ref sig .tc := ⟨.hbm, 549, rfl⟩
abbrev main_v501 : Ref sig .tc := ⟨.hbm, 550, rfl⟩
abbrev main_v502 : Ref sig .tc := ⟨.hbm, 551, rfl⟩
abbrev main_v503 : Ref sig .tc := ⟨.hbm, 552, rfl⟩
abbrev main_v504 : Ref sig .tc := ⟨.hbm, 553, rfl⟩
abbrev main_v505 : Ref sig .tc := ⟨.hbm, 554, rfl⟩
abbrev main_v506 : Ref sig .tc := ⟨.hbm, 555, rfl⟩
abbrev main_v507 : Ref sig .tc := ⟨.hbm, 556, rfl⟩
abbrev main_cst_26 : Ref sig .tc := ⟨.hbm, 557, rfl⟩
abbrev main_v508 : Ref sig .tc := ⟨.hbm, 558, rfl⟩
abbrev main_cst_27 : Ref sig .tc := ⟨.hbm, 559, rfl⟩
abbrev main_v509 : Ref sig .tc := ⟨.hbm, 560, rfl⟩
abbrev main_v510 : Ref sig .tc := ⟨.hbm, 561, rfl⟩
abbrev main_v511 : Ref sig .tc := ⟨.hbm, 562, rfl⟩
abbrev main_v512 : Ref sig .tc := ⟨.hbm, 563, rfl⟩
abbrev main_v513 : Ref sig .tc := ⟨.hbm, 564, rfl⟩
abbrev main_v514 : Ref sig .tc := ⟨.hbm, 565, rfl⟩
abbrev main_cst_28 : Ref sig .tc := ⟨.hbm, 566, rfl⟩
abbrev main_v515 : Ref sig .tc := ⟨.hbm, 567, rfl⟩
abbrev main_cst_29 : Ref sig .tc := ⟨.hbm, 568, rfl⟩
abbrev main_v516 : Ref sig .tc := ⟨.hbm, 569, rfl⟩
abbrev main_cst_30 : Ref sig .tc := ⟨.hbm, 570, rfl⟩
abbrev main_v517 : Ref sig .tc := ⟨.hbm, 571, rfl⟩
abbrev main_v518 : Ref sig .tc := ⟨.hbm, 572, rfl⟩
abbrev main_v519 : Ref sig .tc := ⟨.hbm, 573, rfl⟩
abbrev main_v520 : Ref sig .tc := ⟨.hbm, 574, rfl⟩

abbrev nD : Nat := 1
abbrev τ : Topo := Topo.v7x

variable {F : FTy → Type} [FloatOps F]
-- ==== Proof.KernelRun.lean ====
/-
  The idealized kernel's run: every buffer outside the regions' scopes ends at the fold's last contents.
-/
module

public import proofs.«01_k».proof.Proof.Gen.KernelIdeal.Frame

@[expose] public section

set_option maxRecDepth 16384

noncomputable section

namespace Cert.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the implicit arguments of the launch are read off its conclusion
set_option backward.isDefEq.respectTransparency.types false in
/-- The run ends with every unscoped buffer at the last boundary's contents. -/
theorem run_contents : θ_run defs (onTc (τ := τ) (main (F := Ideal))) ⟨m, fun _ => 0, ρ⟩
    (fun r => ∀ c : Dev nD, ∀ b ∈ Pipeline.ucRefs τ sig, r.2.mem (((c : Thread nD τ)).1, b) = W19 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun _ h _ => h)

end Cert.Layers

end
-- ==== Proof.Spec.lean ====
/-
  The mathematics both programs compute, written once over arrays read at natural numbers: an array outside its bounds
  reads zero, so that a border of zeros is a shift of the index and every equation of positions is one of arithmetic.
-/
module

public import Idealize.ShloMosaic.Lib.Pointwise
public import Idealize.ShloMosaic.Lib.Pipeline.ValueKit

@[expose] public section

noncomputable section

namespace Cert.Spec

open Idealize.ShloMosaic

/-- A vector read at a natural number, zero outside. -/
def rd1 {n0 : ℕ} (v : (⟨1, ![n0]⟩ : Shape).Idx → EReal) (a : ℕ) : EReal :=
  if h : a < n0 then v (ix1 ⟨a, h⟩) else 0

/-- A matrix read at natural numbers, zero outside. -/
def rd2 {n0 n1 : ℕ} (v : (⟨2, ![n0, n1]⟩ : Shape).Idx → EReal) (a b : ℕ) : EReal :=
  if h : a < n0 ∧ b < n1 then v (ix2 ⟨a, h.1⟩ ⟨b, h.2⟩) else 0

/-- An array of rank 3 read at natural numbers, zero outside. -/
def rd3 {n0 n1 n2 : ℕ} (v : (⟨3, ![n0, n1, n2]⟩ : Shape).Idx → EReal) (a b c : ℕ) : EReal :=
  if h : a < n0 ∧ b < n1 ∧ c < n2 then v (ix3 ⟨a, h.1⟩ ⟨b, h.2.1⟩ ⟨c, h.2.2⟩) else 0

/-- An array of rank 4 read at natural numbers, zero outside. -/
def rd4 {n0 n1 n2 n3 : ℕ} (v : (⟨4, ![n0, n1, n2, n3]⟩ : Shape).Idx → EReal) (a b c d : ℕ) : EReal :=
  if h : a < n0 ∧ b < n1 ∧ c < n2 ∧ d < n3 then v (ix4 ⟨a, h.1⟩ ⟨b, h.2.1⟩ ⟨c, h.2.2.1⟩ ⟨d, h.2.2.2⟩) else 0

theorem rd1_eq {n0 : ℕ} (v : (⟨1, ![n0]⟩ : Shape).Idx → EReal) (a : Fin n0) : v (ix1 a) = rd1 v a := by
  simp [rd1]

theorem rd2_eq {n0 n1 : ℕ} (v : (⟨2, ![n0, n1]⟩ : Shape).Idx → EReal) (a : Fin n0) (b : Fin n1) :
    v (ix2 a b) = rd2 v a b := by
  simp [rd2]

theorem rd3_eq {n0 n1 n2 : ℕ} (v : (⟨3, ![n0, n1, n2]⟩ : Shape).Idx → EReal) (a : Fin n0) (b : Fin n1) (c : Fin n2) :
    v (ix3 a b c) = rd3 v a b c := by
  simp [rd3]

theorem rd4_eq {n0 n1 n2 n3 : ℕ} (v : (⟨4, ![n0, n1, n2, n3]⟩ : Shape).Idx → EReal) (a : Fin n0) (b : Fin n1)
    (c : Fin n2) (d : Fin n3) : v (ix4 a b c d) = rd4 v a b c d := by
  simp [rd4]

/-- An image (batch, row, column, channel) under a border of one row and one column of zeros before its first. -/
def bordered (x : ℕ → ℕ → ℕ → ℕ → EReal) (b y z c : ℕ) : EReal :=
  if y = 0 ∨ z = 0 then 0 else x b (y - 1) (z - 1) c

/-- One tap of the convolution: the channels' products at row offset `i` and column offset `j`. -/
def tap (C : ℕ) (x w : ℕ → ℕ → ℕ → ℕ → EReal) (b y z o i j : ℕ) : EReal :=
  ∑ c ∈ Finset.range C, bordered x b (2 * y + i) (2 * z + j) c * w o c i j

/-- The 4×4 convolution of stride two over the bordered image, sixteen taps, and the bias. -/
def conv (C : ℕ) (x w : ℕ → ℕ → ℕ → ℕ → EReal) (bias : ℕ → EReal) (b y z o : ℕ) : EReal :=
  (∑ i ∈ Finset.range 4, ∑ j ∈ Finset.range 4, tap C x w b y z o i j) + bias o

/-- The exact GELU, with the printed constants. -/
def gelu (y : EReal) : EReal :=
  Ideal.ofBits .f32 0x3F000000#32 * y * (1 + FloatOps.erf (F := Ideal) (φ := .f32) (y * Ideal.ofBits .f32 0x3F3504F3#32))

/-- What a block of the kernel's later layers computes before the GELU: four shifted windows of the folded image laid
    along the channels against a weight matrix, and the bias row. -/
def patch (C : ℕ) (s : ℕ → ℕ → ℕ → ℕ → EReal) (w bias : ℕ → ℕ → EReal) (b y z o : ℕ) : EReal :=
  (∑ t ∈ Finset.range 4, ∑ u ∈ Finset.range C, s b (y + t / 2) (z + t % 2) u * w (t * C + u) o) + bias 0 o

/-- The sum over four pieces laid end to end, against a weight, as a double sum. -/
theorem sum_four_pieces (C : ℕ) (f0 f1 f2 f3 w : ℕ → EReal) :
    (∑ x : Fin (4 * C), (if (x : ℕ) < C then f0 x else if (x : ℕ) - C < C then f1 (x - C) else
        if (x : ℕ) - C - C < C then f2 (x - C - C) else f3 (x - C - C - C)) * w x)
      = ∑ t ∈ Finset.range 4, ∑ u ∈ Finset.range C,
          (if t = 0 then f0 u else if t = 1 then f1 u else if t = 2 then f2 u else f3 u) * w (t * C + u) := by
  rw [Fin.sum_univ_eq_sum_range (fun x => (if x < C then f0 x else if x - C < C then f1 (x - C) else
        if x - C - C < C then f2 (x - C - C) else f3 (x - C - C - C)) * w x), Finset.sum_range_mul_split]
  refine Finset.sum_congr rfl fun t ht => Finset.sum_congr rfl fun u hu => ?_
  have ht := Finset.mem_range.mp ht
  have hu := Finset.mem_range.mp hu
  congr 1
  interval_cases t
  · simp [hu]
  · have h1 : ¬ (1 * C + u < C) := by omega
    have h2 : 1 * C + u - C = u := by omega
    simp [h1, h2, hu]
  · have h1 : ¬ (2 * C + u < C) := by omega
    have h2 : ¬ (2 * C + u - C < C) := by omega
    have h3 : 2 * C + u - C - C = u := by omega
    simp [h1, h2, h3, hu]
  · have h1 : ¬ (3 * C + u < C) := by omega
    have h2 : ¬ (3 * C + u - C < C) := by omega
    have h3 : ¬ (3 * C + u - C - C < C) := by omega
    have h4 : 3 * C + u - C - C - C = u := by omega
    simp [h1, h2, h3, h4]

/-- `patch` reads the folded image at the two by two shifted positions only. -/
theorem patch_congr {C : ℕ} {s s' : ℕ → ℕ → ℕ → ℕ → EReal} {w w' bias bias' : ℕ → ℕ → EReal} {b b' y z o : ℕ}
    (hs : ∀ y' ≤ y + 1, ∀ z' ≤ z + 1, ∀ u < C, s b y' z' u = s' b' y' z' u)
    (hw : ∀ k < 4 * C, w k o = w' k o) (hb : bias 0 o = bias' 0 o) :
    patch C s w bias b y z o = patch C s' w' bias' b' y z o := by
  unfold patch
  rw [hb]
  congr 1
  refine Finset.sum_congr rfl fun t ht => Finset.sum_congr rfl fun u hu => ?_
  have ht := Finset.mem_range.mp ht
  have hu := Finset.mem_range.mp hu
  rw [hs _ (by omega) _ (by omega) _ hu, hw]
  interval_cases t <;> omega

theorem rd4_of_lt {n0 n1 n2 n3 : ℕ} (v : (⟨4, ![n0, n1, n2, n3]⟩ : Shape).Idx → EReal) {a b c d : ℕ}
    (ha : a < n0) (hb : b < n1) (hc : c < n2) (hd : d < n3) :
    rd4 v a b c d = v (ix4 ⟨a, ha⟩ ⟨b, hb⟩ ⟨c, hc⟩ ⟨d, hd⟩) := by
  simp [rd4, ha, hb, hc, hd]

theorem rd2_of_lt {n0 n1 : ℕ} (v : (⟨2, ![n0, n1]⟩ : Shape).Idx → EReal) {a b : ℕ}
    (ha : a < n0) (hb : b < n1) : rd2 v a b = v (ix2 ⟨a, ha⟩ ⟨b, hb⟩) := by
  simp [rd2, ha, hb]

theorem rd1_of_lt {n0 : ℕ} (v : (⟨1, ![n0]⟩ : Shape).Idx → EReal) {a : ℕ} (ha : a < n0) :
    rd1 v a = v (ix1 ⟨a, ha⟩) := by
  simp [rd1, ha]

theorem rd3_of_lt {n0 n1 n2 : ℕ} (v : (⟨3, ![n0, n1, n2]⟩ : Shape).Idx → EReal) {a b c : ℕ}
    (ha : a < n0) (hb : b < n1) (hc : c < n2) :
    rd3 v a b c = v (ix3 ⟨a, ha⟩ ⟨b, hb⟩ ⟨c, hc⟩) := by
  simp [rd3, ha, hb, hc]

/-- A padding by zeros of one row and one column on every side, read as the bordered image. -/
theorem pad_eq_bordered {n0 H C : ℕ} (x : (⟨4, ![n0, H, H, C]⟩ : Shape).Idx → EReal) (b : Fin n0) (y z : ℕ) (k : Fin C)
    {p : EReal} (hp : p = 0) :
    (if h : (1 ≤ y ∧ y - 1 < H) ∧ 1 ≤ z ∧ z - 1 < H then x (ix4 b ⟨y - 1, h.1.2⟩ ⟨z - 1, h.2.2⟩ k) else p)
      = bordered (rd4 x) b y z k := by
  have hk := k.isLt
  have hb := b.isLt
  simp only [bordered, rd4]
  split_ifs <;> first | rfl | exact hp | omega

/-- A sum over a finite index of the products of a tap, whichever way round they are written. -/
theorem sum_eq_tap {C : ℕ} {x w : ℕ → ℕ → ℕ → ℕ → EReal} {b y z o i j : ℕ} {f : Fin C → EReal}
    (h : ∀ c : Fin C, f c = w o c i j * bordered x b (2 * y + i) (2 * z + j) c) : ∑ c, f c = tap C x w b y z o i j := by
  unfold tap
  rw [← Fin.sum_univ_eq_sum_range (fun c => bordered x b (2 * y + i) (2 * z + j) c * w o c i j)]
  exact Finset.sum_congr rfl fun c _ => (h c).trans (mul_comm _ _)

/-- The sixteen taps summed one after the other, then the bias. -/
theorem conv_eq_chain {C : ℕ} {x w : ℕ → ℕ → ℕ → ℕ → EReal} {bias : ℕ → EReal} {b y z o : ℕ} :
    conv C x w bias b y z o =
      tap C x w b y z o 0 0 + tap C x w b y z o 0 1 + tap C x w b y z o 0 2 + tap C x w b y z o 0 3
        + tap C x w b y z o 1 0 + tap C x w b y z o 1 1 + tap C x w b y z o 1 2 + tap C x w b y z o 1 3
        + tap C x w b y z o 2 0 + tap C x w b y z o 2 1 + tap C x w b y z o 2 2 + tap C x w b y z o 2 3
        + tap C x w b y z o 3 0 + tap C x w b y z o 3 1 + tap C x w b y z o 3 2 + tap C x w b y z o 3 3
        + bias o := by
  unfold conv
  simp only [Finset.sum_range_succ, Finset.sum_range_zero, zero_add]
  abel

/-- A padding by zeros of one row and one column on every side of an image with its channels second. -/
theorem pad_eq_bordered' {n0 H C : ℕ} (x : (⟨4, ![n0, C, H, H]⟩ : Shape).Idx → EReal) (b : Fin n0) (y z : ℕ) (k : Fin C)
    {p : EReal} (hp : p = 0) :
    (if h : (1 ≤ y ∧ y - 1 < H) ∧ 1 ≤ z ∧ z - 1 < H then x (ix4 b k ⟨y - 1, h.1.2⟩ ⟨z - 1, h.2.2⟩) else p)
      = bordered (fun b y z c => rd4 x b c y z) b y z k := by
  have hk := k.isLt
  have hb := b.isLt
  simp only [bordered, rd4]
  split_ifs <;> first | rfl | exact hp | omega

/-- The GELU written with the complementary error function is the one written with the error function. -/
theorem gelu_erfc (y : EReal) :
    Ideal.ofBits .f32 0x3F000000#32 * y * Ideal.erfc (-y * Ideal.ofBits .f32 0x3F3504F3#32) = gelu y := by
  rw [EReal.neg_mul, Ideal.erfc_neg]
  rfl

/-- The four windows of the folded image are the sixteen taps of the convolution. -/
theorem patch_eq_conv {C : ℕ} {s x w : ℕ → ℕ → ℕ → ℕ → EReal} {wm bm : ℕ → ℕ → EReal} {bias : ℕ → EReal} {b y z o : ℕ}
    (hs : ∀ Y ≤ y + 1, ∀ Z ≤ z + 1, ∀ q < 4, ∀ c < C, s b Y Z (q * C + c) = bordered x b (2 * Y + q / 2) (2 * Z + q % 2) c)
    (hw : ∀ t < 4, ∀ q < 4, ∀ c < C, wm ((t * 4 + q) * C + c) o = w o c (2 * (t / 2) + q / 2) (2 * (t % 2) + q % 2))
    (hb : bm 0 o = bias o) : patch (4 * C) s wm bm b y z o = conv C x w bias b y z o := by
  unfold patch conv
  rw [hb]
  congr 1
  have h : ∀ t ∈ Finset.range 4,
      ∑ u ∈ Finset.range (4 * C), s b (y + t / 2) (z + t % 2) u * wm (t * (4 * C) + u) o
        = ∑ q ∈ Finset.range 4, tap C x w b y z o (2 * (t / 2) + q / 2) (2 * (t % 2) + q % 2) := by
    intro t ht
    have ht := Finset.mem_range.mp ht
    rw [Finset.sum_range_mul_split]
    refine Finset.sum_congr rfl fun q hq => Finset.sum_congr rfl fun c hc => ?_
    have hq := Finset.mem_range.mp hq
    have hc := Finset.mem_range.mp hc
    rw [hs _ (by omega) _ (by omega) q hq c hc, show t * (4 * C) + (q * C + c) = (t * 4 + q) * C + c by ring,
      hw t ht q hq c hc, show 2 * (y + t / 2) + q / 2 = 2 * y + (2 * (t / 2) + q / 2) by ring,
      show 2 * (z + t % 2) + q % 2 = 2 * z + (2 * (t % 2) + q % 2) by ring]
  rw [Finset.sum_congr rfl h]
  simp only [Finset.sum_range_succ, Finset.sum_range_zero, zero_add]
  norm_num
  abel

/-- The patches' product over all forty-eight positions is the sixteen taps of the convolution of three channels. -/
theorem dense_eq_conv {s x w : ℕ → ℕ → ℕ → ℕ → EReal} {wm bm : ℕ → ℕ → EReal} {bias : ℕ → EReal} {b y z o : ℕ}
    (hs : ∀ i < 4, ∀ j < 4, ∀ c < 3, s b y z ((i * 4 + j) * 3 + c) = bordered x b (2 * y + i) (2 * z + j) c)
    (hw : ∀ i < 4, ∀ j < 4, ∀ c < 3, wm ((i * 4 + j) * 3 + c) o = w o c i j)
    (hb : bm 0 o = bias o) :
    (∑ k ∈ Finset.range 48, s b y z k * wm k o) + bm 0 o = conv 3 x w bias b y z o := by
  unfold conv
  rw [hb]
  congr 1
  rw [show (48 : ℕ) = (4 * 4) * 3 from rfl, Finset.sum_range_mul_split, Finset.sum_range_mul_split]
  refine Finset.sum_congr rfl fun i hi => Finset.sum_congr rfl fun j hj => Finset.sum_congr rfl fun c hc => ?_
  have hi := Finset.mem_range.mp hi
  have hj := Finset.mem_range.mp hj
  have hc := Finset.mem_range.mp hc
  rw [hs i hi j hj c hc, hw i hi j hj c hc]

end Cert.Spec

end
-- ==== Proof.Payload.lean ====
/-
  A block of each convolution layer of the kernel, at an index.
-/
module

public import proofs.«01_k».proof.Proof.Spec
public import proofs.«01_k».proof.Proof.Gen.KernelIdeal.Skeleton

@[expose] public section

set_option maxRecDepth 16384

noncomputable section

namespace Cert.Layers

open Idealize.ShloMosaic Cert.Spec Cert.KernelIdeal Cert.KernelIdeal.Gen

/-- A block of layer 1: the GELU of the patches' product and the bias. -/
theorem k0_apply (v0 : S4x32x32x48.Idx → EReal) (v3 : S48x32.Idx → EReal) (v6 : S1x32.Idx → EReal)
    (b : Fin 4) (y z : Fin 32) (o : Fin 32) :
    k0_pay1 (F := Ideal) v0 v3 v6 (ix4 b y z o)
      = gelu ((∑ k ∈ Finset.range 48, rd4 v0 b y z k * rd2 v3 k o) + rd2 v6 0 o) := by
  pointwise [k0_pay1]
  simp only [rd4_eq, rd2_eq]
  rw [Fin.sum_univ_eq_sum_range (fun k => rd4 v0 b y z k * rd2 v3 k o)]
  rfl

/-- A block of layer 2: the GELU of the four windows' product and the bias. -/
theorem k1_apply (v0 : S16x17x17x128.Idx → EReal) (v3 : S512x64.Idx → EReal) (v6 : S1x64.Idx → EReal)
    (b : Fin 16) (y z : Fin 16) (o : Fin 64) :
    k1_pay1 (F := Ideal) v0 v3 v6 (ix4 b y z o) = gelu (patch 128 (rd4 v0) (rd2 v3) (rd2 v6) b y z o) := by
  pointwise [k1_pay1]
  simp only [rd4_eq, rd2_eq, dite_eq_ite]
  rw [sum_four_pieces 128 (rd4 v0 b y z) (rd4 v0 b y (1 + z)) (rd4 v0 b (1 + y) z) (rd4 v0 b (1 + y) (1 + z))
    (fun k => rd2 v3 k o)]
  unfold gelu patch
  simp [Finset.sum_range_succ, Nat.add_comm]

/-- A block of layer 3: the GELU of the four windows' product and the bias. -/
theorem k2_apply (v0 : S32x9x9x256.Idx → EReal) (v3 : S1024x128.Idx → EReal) (v6 : S1x128.Idx → EReal)
    (b : Fin 32) (y z : Fin 8) (o : Fin 128) :
    k2_pay1 (F := Ideal) v0 v3 v6 (ix4 b y z o) = gelu (patch 256 (rd4 v0) (rd2 v3) (rd2 v6) b y z o) := by
  pointwise [k2_pay1]
  simp only [rd4_eq, rd2_eq, dite_eq_ite]
  rw [sum_four_pieces 256 (rd4 v0 b y z) (rd4 v0 b y (1 + z)) (rd4 v0 b (1 + y) z) (rd4 v0 b (1 + y) (1 + z))
    (fun k => rd2 v3 k o)]
  unfold gelu patch
  simp [Finset.sum_range_succ, Nat.add_comm]

/-- A block of layer 4: the GELU of the four windows' product and the bias. -/
theorem k3_apply (v0 : S64x5x5x512.Idx → EReal) (v3 : S2048x256.Idx → EReal) (v6 : S1x256.Idx → EReal)
    (b : Fin 64) (y z : Fin 4) (o : Fin 256) :
    k3_pay1 (F := Ideal) v0 v3 v6 (ix4 b y z o) = gelu (patch 512 (rd4 v0) (rd2 v3) (rd2 v6) b y z o) := by
  pointwise [k3_pay1]
  simp only [rd4_eq, rd2_eq, dite_eq_ite]
  rw [sum_four_pieces 512 (rd4 v0 b y z) (rd4 v0 b y (1 + z)) (rd4 v0 b (1 + y) z) (rd4 v0 b (1 + y) (1 + z))
    (fun k => rd2 v3 k o)]
  unfold gelu patch
  simp [Finset.sum_range_succ, Nat.add_comm]

end Cert.Layers

end
-- ==== Proof.First.lean ====
/-
  The first index at which a row of 256 values is least, and the two ways a program finds it: an arg-min of the row, and
  the smallest of the indices whose value equals the row's minimum.
-/
module

public import proofs.«01_k».proof.Proof.Payload

@[expose] public section

set_option maxRecDepth 16384

noncomputable section

namespace Cert.Spec

open Idealize.ShloMosaic Cert.KernelIdeal Cert.KernelIdeal.Gen

/-- The row is least at `k` and at no index before it. -/
def IsFirst (f : Fin 256 → EReal) (k : Fin 256) : Prop := (∀ k', f k ≤ f k') ∧ ∀ k', k' < k → f k < f k'

theorem IsFirst.unique {f : Fin 256 → EReal} {k l : Fin 256} (hk : IsFirst f k) (hl : IsFirst f l) : k = l := by
  rcases lt_trichotomy k l with h | h | h
  · exact absurd (hl.2 k h) (not_lt.mpr (hk.1 l))
  · exact h
  · exact absurd (hk.2 l h) (not_lt.mpr (hl.1 k))

theorem exists_first (f : Fin 256 → EReal) : ∃ k, IsFirst f k := by
  classical
  obtain ⟨k₀, h₀⟩ := Finite.exists_min f
  let s : Finset (Fin 256) := Finset.univ.filter fun k => ∀ k', f k ≤ f k'
  have hs : s.Nonempty := ⟨k₀, by simp [s, h₀]⟩
  have hm : ∀ k', f (s.min' hs) ≤ f k' := (Finset.mem_filter.mp (s.min'_mem hs)).2
  refine ⟨s.min' hs, hm, fun k' hk' => lt_of_le_of_ne (hm k') fun he => ?_⟩
  exact absurd (s.min'_le k' (by simp only [s, Finset.mem_filter, Finset.mem_univ, true_and, ← he]; exact hm)) (not_le.mpr hk')

/-- The first index at which the row is least. -/
def first (f : Fin 256 → EReal) : Fin 256 := (exists_first f).choose

theorem first_spec (f : Fin 256 → EReal) : IsFirst f (first f) := (exists_first f).choose_spec

/-- Adding one real number to every value of a row moves no minimum. -/
theorem first_add_left (f g : Fin 256 → EReal) (s : ℝ) (a : Fin 256 → ℝ) (hf : ∀ k, f k = ((a k : ℝ) : EReal))
    (hg : ∀ k, g k = ((s + a k : ℝ) : EReal)) : first g = first f := by
  refine (first_spec g).unique ⟨fun k' => ?_, fun k' hk' => ?_⟩
  · have h := (first_spec f).1 k'
    rw [hf, hf, EReal.coe_le_coe_iff] at h
    rw [hg, hg, EReal.coe_le_coe_iff]
    linarith
  · have h := (first_spec f).2 k' hk'
    rw [hf, hf, EReal.coe_lt_coe_iff] at h
    rw [hg, hg, EReal.coe_lt_coe_iff]
    linarith

/-- An arg-min along the rows of a square array is the first index at which the row is least. -/
theorem argMin_apply (x : S256x256.Idx → EReal) (h : S256x256.Reduces [1] S256) (n : Fin 256) :
    reduceIndex (F := Ideal) .argMin 1 S256 x h (ix1 n) = BitVec.ofNat 32 (first fun k => x (ix2 n k)).val := by
  classical
  change Ideal.reduceIndex .argMin 1 h x (ix1 n) = _
  have hd : ∀ a b : Fin 256, h.drop (ix2 a b) = ix1 a := fun a b => by
    funext q
    obtain rfl : q = 0 := Subsingleton.elim _ _
    exact Fin.ext (h.drop_apply_val_of_eq (ix2 a b) 0 0 (by decide))
  have hinj : ∀ a : Fin 256, (ix1 a : S256.Idx) = ix1 n → a = n := fun a e => congrFun e 0
  set k := first fun k => x (ix2 n k) with hk
  have hspec : IsFirst (fun k => x (ix2 n k)) k := first_spec _
  unfold Ideal.reduceIndex
  simp only [reduceCtorEq, if_false]
  congr 1
  have : ∀ (s : Finset ℕ), k.val ∈ s → (∀ i ∈ s, k.val ≤ i) → s.min.getD 0 = k.val := fun s h1 h2 => by
    have : s.min = (k.val : WithTop ℕ) := le_antisymm (Finset.min_le h1) (Finset.le_min fun i hi => WithTop.coe_le_coe.mpr (h2 i hi))
    rw [this]; rfl
  apply this
  · refine Finset.mem_image.mpr ⟨ix2 n k, ?_, rfl⟩
    simp only [Finset.mem_filter, Finset.mem_univ, true_and]
    refine ⟨hd n k, fun i' hi' => ?_⟩
    obtain ⟨a, b, rfl⟩ : ∃ a b, i' = ix2 a b := ⟨i' 0, i' 1, eq_ix2 i'⟩
    obtain rfl := hinj a ((hd a b).symm.trans hi')
    exact not_lt.mpr (hspec.1 b)
  · intro i hi
    obtain ⟨i', hi', rfl⟩ := Finset.mem_image.mp hi
    simp only [Finset.mem_filter, Finset.mem_univ, true_and] at hi'
    obtain ⟨a, b, rfl⟩ : ∃ a b, i' = ix2 a b := ⟨i' 0, i' 1, eq_ix2 i'⟩
    obtain rfl := hinj a ((hd a b).symm.trans hi'.1)
    by_contra hlt
    exact hi'.2 (ix2 a k) (hd a k) (hspec.2 b (not_le.mp hlt))

/-- The smallest of the indices whose value is the row's least, counted from 256 on where the value is another, is the first
    index at which the row is least. -/
theorem fold_minsi_first (f : Fin 256 → EReal) (v : Fin 256 → BitVec 32)
    (hv : ∀ k, v k = if f k = f (first f) then BitVec.ofNat 32 k.val else 256#32) :
    Finset.univ.fold IntOp.minsi 2147483647#32 v = BitVec.ofNat 32 (first f).val := by
  have hk := (first f).isLt
  have small : ∀ a : ℕ, a < 257 → (BitVec.ofNat 32 a).toInt = a := fun a ha => by
    rw [BitVec.toInt_eq_toNat_of_lt (by simp; omega), BitVec.toNat_ofNat, Nat.mod_eq_of_lt (by omega)]
  have hom : ∀ a b : BitVec 32, (IntOp.minsi a b).toInt = min a.toInt b.toInt := fun a b => by
    unfold IntOp.minsi
    simp only [BitVec.slt, min_def]
    split_ifs <;> simp_all <;> omega
  refine BitVec.eq_of_toInt_eq ?_
  rw [small _ (by omega)]
  rw [← Finset.fold_hom (op := IntOp.minsi) (op' := min) (m := BitVec.toInt) hom]
  have hfirst : (v (first f)).toInt = (first f).val := by rw [hv, if_pos rfl, small _ (by omega)]
  refine le_antisymm ?_ ?_
  · rw [Finset.fold_min_le]
    exact Or.inr ⟨first f, Finset.mem_univ _, hfirst.le⟩
  · rw [Finset.le_fold_min]
    refine ⟨by rw [show (2147483647#32 : BitVec 32).toInt = 2147483647 from rfl]; omega, fun k _ => ?_⟩
    rw [hv]
    split_ifs with he
    · rw [small _ (by omega)]
      by_contra hlt
      exact absurd ((first_spec f).2 k (Fin.lt_def.mpr (by omega))) (by rw [he]; exact lt_irrefl _)
    · rw [show (256#32 : BitVec 32).toInt = 256 from rfl]; omega

/-- The least value of a row, from a start no value exceeds. -/
theorem fold_min_first (f : Fin 256 → EReal) : Finset.univ.fold min ⊤ f = f (first f) := by
  refine le_antisymm ?_ ?_
  · rw [Finset.fold_min_le]
    exact Or.inr ⟨first f, Finset.mem_univ _, le_rfl⟩
  · rw [Finset.le_fold_min]
    exact ⟨le_top, fun k _ => (first_spec f).1 k⟩

end Cert.Spec
-- ==== Proof.Quant.lean ====
/-
  The quantizer at its three levels: the codes, their distances to the codebook, the chosen entries and the loss, as
  functions of the features, the weights and the codebook; and what the kernel's last body computes, read as them.
-/
module

public import proofs.«01_k».proof.Proof.First

@[expose] public section

set_option maxRecDepth 16384

noncomputable section

namespace Cert.Spec

open Idealize.ShloMosaic

/-- Level `l` keeps the first `8 · 2 ^ l` dimensions. -/
def dimBit (l : ℕ) (d : Fin 32) : EReal := if d.val < 8 * 2 ^ l then 1 else 0

/-- Level `l` has the first `64 · 2 ^ l` entries of its codebook; this marks the others. -/
def offBit (l : ℕ) (k : Fin 256) : EReal := if k.val < 64 * 2 ^ l then 0 else 1

/-- The distance an entry that a level does not have is moved by, and the kernel's factor two. -/
def far : EReal := Ideal.ofBits .f32 0x4E6E6B28#32
def two : EReal := Ideal.ofBits .f32 0x40000000#32

/-- One coordinate of the code of a row of features at level `l`. -/
def code (l : ℕ) (h : Fin 256 → EReal) (w : Fin 256 → Fin 32 → EReal) (b : Fin 32 → EReal) (d : Fin 32) : EReal :=
  (∑ j, h j * w j d + b d) * dimBit l d

/-- The kernel's distance of a code to an entry of the codebook, less the code's own square. -/
def codeDist (l : ℕ) (e : Fin 32 → EReal) (c : Fin 256 → Fin 32 → EReal) (k : Fin 256) : EReal :=
  (∑ d, c k d * c k d - two * ∑ d, e d * c k d) + offBit l k * far

/-- The entry chosen for a code. -/
def pick (l : ℕ) (e : Fin 32 → EReal) (c : Fin 256 → Fin 32 → EReal) : Fin 256 := first (codeDist l e c)

/-- The squared error of one level. -/
def err (l : ℕ) (e : Fin 256 → Fin 32 → EReal) (c : Fin 256 → Fin 32 → EReal) : EReal :=
  ∑ n, ∑ d, (e n d - c (pick l (e n) c) d) * (e n d - c (pick l (e n) c) d) * dimBit l d

theorem bit_of_slt (a : ℕ) (ha : a < 2 ^ 31) (b : ℕ) (hb : b < 2 ^ 31) :
    (FloatOps.sitofp (F := Ideal) .f32
      (BitVec.setWidth 32 (IntOp.cmpi .slt (BitVec.ofNat 32 a) (BitVec.ofNat 32 b))) : EReal) = if a < b then 1 else 0 := by
  have hs : ∀ n : ℕ, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  have : IntOp.cmpi .slt (BitVec.ofNat 32 a) (BitVec.ofNat 32 b) = BitVec.ofBool (decide (a < b)) := by
    unfold IntOp.cmpi
    simp only [BitVec.slt, hs a ha, hs b hb]
    norm_num
  rw [this]
  by_cases h : a < b <;> simp [h, FloatOps.sitofp] <;> rfl

theorem bit_of_sge (a : ℕ) (ha : a < 2 ^ 31) (b : ℕ) (hb : b < 2 ^ 31) :
    (FloatOps.sitofp (F := Ideal) .f32
      (BitVec.setWidth 32 (IntOp.cmpi .sge (BitVec.ofNat 32 a) (BitVec.ofNat 32 b))) : EReal) = if a < b then 0 else 1 := by
  have hs : ∀ n : ℕ, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  have : IntOp.cmpi .sge (BitVec.ofNat 32 a) (BitVec.ofNat 32 b) = BitVec.ofBool (decide (b ≤ a)) := by
    unfold IntOp.cmpi
    simp only [BitVec.sle, hs a ha, hs b hb]
    norm_num
  rw [this]
  by_cases h : a < b
  · simp [h, not_le.mpr h, FloatOps.sitofp]
  · simp [h, not_lt.mp h, FloatOps.sitofp]

theorem bit_of_eq (a b : Fin 256) :
    (FloatOps.sitofp (F := Ideal) .f32
      (BitVec.setWidth 32 (IntOp.cmpi .eq (BitVec.ofNat 32 a.val) (BitVec.ofNat 32 b.val))) : EReal) = if a = b then 1 else 0 := by
  have ha := a.isLt
  have hb := b.isLt
  have : IntOp.cmpi .eq (BitVec.ofNat 32 a.val) (BitVec.ofNat 32 b.val) = BitVec.ofBool (decide (a = b)) := by
    unfold IntOp.cmpi
    congr 1
    rw [Bool.eq_iff_iff]
    simp only [beq_iff_eq, decide_eq_true_eq]
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  rw [this]
  by_cases h : a = b
  · simp [h, FloatOps.sitofp]
  · simp [h, FloatOps.sitofp]

/-- A one-hot row's product with a matrix is the matrix' row. -/
theorem sum_one_hot (k : Fin 256) (f : Fin 256 → EReal) :
    ∑ x : Fin 256, (FloatOps.sitofp (F := Ideal) .f32
      (BitVec.setWidth 32 (IntOp.cmpi .eq (BitVec.ofNat 32 x.val) (BitVec.ofNat 32 k.val))) : EReal) * f x = f k := by
  simp only [bit_of_eq, ite_mul, one_mul, zero_mul]
  simp

end Cert.Spec

namespace Cert.Layers

open Idealize.ShloMosaic Cert.Spec Cert.KernelIdeal Cert.KernelIdeal.Gen

/-- The features. -/
theorem feat_apply (v0 : S256x4096.Idx → EReal) (v2 : S4096x256.Idx → EReal) (v5 : S1x256.Idx → EReal) (n j : Fin 256) :
    k4_pay6 (F := Ideal) v0 v2 v5 (ix2 n j) = ∑ k, v0 (ix2 n k) * v2 (ix2 k j) + v5 (ix2 0 j) := by
  pointwise [k4_pay6]

theorem dim_apply0 (d : Fin 32) : k4_pay7 (F := Ideal) (ix2 0 d) = dimBit 0 d := by
  pointwise [k4_pay7]
  exact bit_of_slt d (by omega) 8 (by norm_num)

theorem dim_apply1 (d : Fin 32) : k4_pay20 (F := Ideal) (ix2 0 d) = dimBit 1 d := by
  pointwise [k4_pay20]
  exact bit_of_slt d (by omega) 16 (by norm_num)

theorem dim_apply2 (d : Fin 32) : k4_pay30 (F := Ideal) (ix2 0 d) = dimBit 2 d := by
  pointwise [k4_pay30]
  exact bit_of_slt d (by omega) 32 (by norm_num)

/-! ### Level 0 -/

section Level0
variable (v0 : S256x4096.Idx → EReal) (v2 : S4096x256.Idx → EReal) (v5 : S1x256.Idx → EReal)
  (w c : S1x256x32.Idx → EReal) (b : S1x32.Idx → EReal)

theorem code_apply0 (n : Fin 256) (d : Fin 32) :
    k4_pay8 (F := Ideal) v0 v2 v5 w b (ix2 n d)
      = code 0 (fun j => k4_pay6 (F := Ideal) v0 v2 v5 (ix2 n j)) (fun j d => w (ix3 0 j d)) (fun d => b (ix2 0 d)) d := by
  pointwise [k4_pay8]
  rw [dim_apply0]
  rfl

theorem off_apply0 (k : Fin 256) : k4_pay11 (F := Ideal) (ix2 0 k) = offBit 0 k := by
  pointwise [k4_pay11]
  exact bit_of_sge k (by omega) 64 (by norm_num)

theorem pick_apply0 (n : Fin 256) :
    k4_pay12 (F := Ideal) (k4_pay10 v0 v2 v5 w b c) (k4_pay11 (F := Ideal)) (ix1 n)
      = BitVec.ofNat 32 (pick 0 (fun d => k4_pay8 (F := Ideal) v0 v2 v5 w b (ix2 n d)) fun k d => c (ix3 0 k d)).val := by
  unfold k4_pay12
  refine (argMin_apply _ _ n).trans ?_
  unfold pick
  congr 3
  funext k
  pointwise [k4_pay10, k4_pay9]
  rw [off_apply0]
  rfl

theorem near_apply0 (n : Fin 256) (d : Fin 32) :
    k4_pay13 (F := Ideal) (k4_pay9 c) (k4_pay10 v0 v2 v5 w b c) (k4_pay11 (F := Ideal)) (ix2 n d)
      = c (ix3 0 (pick 0 (fun d => k4_pay8 (F := Ideal) v0 v2 v5 w b (ix2 n d)) fun k d => c (ix3 0 k d)) d) := by
  pointwise [k4_pay13]
  rw [pick_apply0]
  refine (sum_one_hot _ _).trans ?_
  pointwise [k4_pay9]

theorem err_apply0 :
    k4_pay14 (F := Ideal) (k4_pay7 (F := Ideal)) (k4_pay8 v0 v2 v5 w b) (k4_pay9 c) (k4_pay10 v0 v2 v5 w b c) (k4_pay11 (F := Ideal))
      = err 0 (fun n d => k4_pay8 (F := Ideal) v0 v2 v5 w b (ix2 n d)) fun k d => c (ix3 0 k d) := by
  pointwise [k4_pay14]
  simp only [near_apply0, dim_apply0]
  rfl

end Level0

/-! ### Level 1 -/

section Level1
variable (h : S256x256.Idx → EReal) (w c : S1x256x32.Idx → EReal) (b : S1x32.Idx → EReal)

theorem code_apply1 (n : Fin 256) (d : Fin 32) :
    k4_pay21 (F := Ideal) (k4_pay18 h w) (k4_pay19 b) (ix2 n d)
      = code 1 (fun j => h (ix2 n j)) (fun j d => w (ix3 0 j d)) (fun d => b (ix2 0 d)) d := by
  pointwise [k4_pay21, k4_pay18, k4_pay19]
  rw [dim_apply1]
  rfl

theorem pick_apply1 (v73 v77 : S256x32.Idx → EReal) (n : Fin 256) :
    k4_pay23 (F := Ideal) v73 v77 c (ix1 n)
      = BitVec.ofNat 32 (pick 1 (fun d => k4_pay21 (F := Ideal) v73 v77 (ix2 n d)) fun k d => c (ix3 0 k d)).val := by
  unfold k4_pay23
  refine (argMin_apply _ _ n).trans ?_
  unfold pick
  congr 3
  funext k
  pointwise [k4_pay22]
  rw [bit_of_sge k (by omega) 128 (by norm_num)]
  rfl

theorem near_apply1 (v73 v77 : S256x32.Idx → EReal) (n : Fin 256) (d : Fin 32) :
    k4_pay24 (F := Ideal) v73 v77 c (ix2 n d)
      = c (ix3 0 (pick 1 (fun d => k4_pay21 (F := Ideal) v73 v77 (ix2 n d)) fun k d => c (ix3 0 k d)) d) := by
  pointwise [k4_pay24]
  rw [pick_apply1]
  refine (sum_one_hot _ _).trans ?_
  pointwise [k4_pay22]

theorem err_apply1 (a : EReal) (v73 v77 : S256x32.Idx → EReal) :
    k4_pay25 (F := Ideal) a v73 v77 c
      = a + err 1 (fun n d => k4_pay21 (F := Ideal) v73 v77 (ix2 n d)) fun k d => c (ix3 0 k d) := by
  pointwise [k4_pay25]
  simp only [near_apply1, dim_apply1]
  rfl

end Level1

/-! ### Level 2 -/

section Level2
variable (h : S256x256.Idx → EReal) (w c : S1x256x32.Idx → EReal) (b : S1x32.Idx → EReal)

theorem code_apply2 (n : Fin 256) (d : Fin 32) :
    k4_pay31 (F := Ideal) h w b (ix2 n d)
      = code 2 (fun j => h (ix2 n j)) (fun j d => w (ix3 0 j d)) (fun d => b (ix2 0 d)) d := by
  pointwise [k4_pay31]
  rw [dim_apply2]
  rfl

/-- Level 2 has every entry of its codebook. -/
theorem codeDist_two (e : Fin 32 → EReal) (c : Fin 256 → Fin 32 → EReal) (k : Fin 256) :
    codeDist 2 e c k = ∑ d, c k d * c k d - two * ∑ d, e d * c k d := by
  have : offBit 2 k = 0 := if_pos (by have := k.isLt; omega)
  unfold codeDist
  rw [this, zero_mul, add_zero]

theorem pick_apply2 (n : Fin 256) :
    k4_pay33 (F := Ideal) h w b c (ix1 n)
      = BitVec.ofNat 32 (pick 2 (fun d => k4_pay31 (F := Ideal) h w b (ix2 n d)) fun k d => c (ix3 0 k d)).val := by
  unfold k4_pay33
  refine (argMin_apply _ _ n).trans ?_
  unfold pick
  congr 3
  funext k
  rw [codeDist_two]
  pointwise [k4_pay32]
  rfl

theorem near_apply2 (n : Fin 256) (d : Fin 32) :
    k4_pay1 (F := Ideal) (k4_pay32 c) (k4_pay34 (F := Ideal) h w b c) (ix2 n d)
      = c (ix3 0 (pick 2 (fun d => k4_pay31 (F := Ideal) h w b (ix2 n d)) fun k d => c (ix3 0 k d)) d) := by
  pointwise [k4_pay1, k4_pay34]
  rw [pick_apply2]
  refine (sum_one_hot _ _).trans ?_
  pointwise [k4_pay32]

theorem loss_apply (a : EReal) :
    k4_pay5 (F := Ideal) a (k4_pay30 (F := Ideal)) (k4_pay31 h w b) (k4_pay32 c) (k4_pay34 (F := Ideal) h w b c) (ix2 0 0)
      = (a + err 2 (fun n d => k4_pay31 (F := Ideal) h w b (ix2 n d)) fun k d => c (ix3 0 k d)) * ((5 / 98304 : ℝ) : EReal) := by
  pointwise [k4_pay5]
  simp only [near_apply2, dim_apply2]
  rw [IdealRules.named_const.ideal_named_scalar _ _ _ _ rfl]
  rfl

end Level2

end Cert.Layers

end
-- ==== Proof.Finite.lean ====
/-
  Numbers that are real: the operations of both programs keep them so.
-/
module

public import proofs.«01_k».proof.Proof.Quant

@[expose] public section

noncomputable section

namespace Cert.Spec

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} {s : Finset ι} {f : ι → EReal} (h : ∀ i ∈ s, IsReal (f i)) : IsReal (∑ i ∈ s, f i) :=
  Finset.sum_induction f IsReal (fun _ _ => IsReal.add) IsReal.zero h

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A number whose absolute value is below infinity is real. -/
theorem IsReal.of_abs_lt {x : EReal} (h : max x (-x) < ⊤) : IsReal x := by
  induction x with
  | bot => simp at h
  | top => simp at h
  | coe r => exact ⟨r, rfl⟩

theorem IsReal.half : IsReal (Ideal.ofBits .f32 0x3F000000#32) :=
  ⟨1 / 2, by simp [Ideal.ofBits, Ideal.ieee, -EReal.coe_mul]; norm_num⟩

theorem IsReal.root : IsReal (Ideal.ofBits .f32 0x3F3504F3#32) :=
  ⟨11863283 / 16777216, by simp [Ideal.ofBits, Ideal.ieee, -EReal.coe_mul]; norm_num⟩

theorem far_eq : far = ((1000000000 : ℝ) : EReal) := by
  unfold far
  simp [Ideal.ofBits, Ideal.ieee, -EReal.coe_mul]; norm_num

theorem two_eq : two = ((2 : ℝ) : EReal) := by
  unfold two
  simp [Ideal.ofBits, Ideal.ieee, -EReal.coe_mul]; norm_num

/-- How many numbers the loss is the mean of. -/
theorem count_eq : Ideal.ofBits .f32 1186988032#32 = ((24576 : ℝ) : EReal) := by
  simp [Ideal.ofBits, Ideal.ieee, -EReal.coe_mul]; norm_num

theorem quarter_eq : Ideal.ofBits .f32 1048576000#32 = ((1 / 4 : ℝ) : EReal) := by
  simp [Ideal.ofBits, Ideal.ieee, -EReal.coe_mul]; norm_num

theorem IsReal.erf {x : EReal} (hx : IsReal x) : IsReal (FloatOps.erf (F := Ideal) (φ := .f32) x) := by
  obtain ⟨r, rfl⟩ := hx
  exact ⟨_, Ideal.erf_coe r⟩

theorem IsReal.gelu {y : EReal} (hy : IsReal y) : IsReal (gelu y) := by
  unfold Spec.gelu
  exact (IsReal.half.mul hy).mul (IsReal.one.add (hy.mul IsReal.root).erf)

theorem IsReal.conv {C : ℕ} {x w : ℕ → ℕ → ℕ → ℕ → EReal} {bias : ℕ → EReal} (hx : ∀ b y z c, IsReal (x b y z c))
    (hw : ∀ o c i j, IsReal (w o c i j)) (hb : ∀ o, IsReal (bias o)) (b y z o : ℕ) :
    IsReal (conv C x w bias b y z o) := by
  unfold Spec.conv
  refine (IsReal.sum fun i _ => IsReal.sum fun j _ => IsReal.sum fun c _ => ?_).add (hb o)
  refine IsReal.mul ?_ (hw _ _ _ _)
  unfold bordered
  split_ifs
  · exact IsReal.zero
  · exact hx _ _ _ _

theorem IsReal.rd1 {n0 : ℕ} {v : (⟨1, ![n0]⟩ : Shape).Idx → EReal} (h : ∀ i, IsReal (v i)) (a : ℕ) :
    IsReal (Spec.rd1 v a) := by
  unfold Spec.rd1
  split_ifs
  · exact h _
  · exact IsReal.zero

theorem IsReal.rd4 {n0 n1 n2 n3 : ℕ} {v : (⟨4, ![n0, n1, n2, n3]⟩ : Shape).Idx → EReal} (h : ∀ i, IsReal (v i))
    (a b c d : ℕ) : IsReal (Spec.rd4 v a b c d) := by
  unfold Spec.rd4
  split_ifs
  · exact h _
  · exact IsReal.zero

theorem IsReal.dimBit (l : ℕ) (d : Fin 32) : IsReal (Spec.dimBit l d) := by
  unfold Spec.dimBit
  split_ifs
  · exact IsReal.one
  · exact IsReal.zero

theorem IsReal.offBit (l : ℕ) (k : Fin 256) : IsReal (Spec.offBit l k) := by
  unfold Spec.offBit
  split_ifs
  · exact IsReal.zero
  · exact IsReal.one

theorem IsReal.far : IsReal far := ⟨_, far_eq⟩

theorem IsReal.two : IsReal two := ⟨_, two_eq⟩

/-- The square of a difference against its three parts: the code's square is the same for every entry, so that the
    first entry at which the distance is least is the first at which the two other parts are. -/
theorem dist_eq_code {l : ℕ} {e : Fin 32 → EReal} {c : Fin 256 → Fin 32 → EReal} (he : ∀ d, IsReal (e d))
    (hc : ∀ k d, IsReal (c k d)) :
    ∃ s : ℝ, ∃ a : Fin 256 → ℝ, ∀ k, codeDist l e c k = (a k : EReal)
      ∧ (∑ d, (e d - c k d) * (e d - c k d)) + Spec.offBit l k * Spec.far = ((s + a k : ℝ) : EReal) := by
  choose e' he' using he
  choose c' hc' using hc
  choose o' ho' using fun k : Fin 256 => IsReal.offBit l k
  refine ⟨∑ d, e' d * e' d, fun k => (∑ d, c' k d * c' k d - 2 * ∑ d, e' d * c' k d) + o' k * 1000000000, fun k => ⟨?_, ?_⟩⟩
  · simp only [codeDist, he', hc', ho', far_eq, two_eq, ← EReal.coe_mul, ← coe_sum, ← EReal.coe_sub, ← EReal.coe_add]
  · simp only [he', hc', ho', far_eq, two_eq, ← EReal.coe_mul, ← coe_sum, ← EReal.coe_sub, ← EReal.coe_add]
    rw [EReal.coe_eq_coe_iff]
    have : ∀ d, (e' d - c' k d) * (e' d - c' k d) = e' d * e' d + (c' k d * c' k d - 2 * (e' d * c' k d)) := fun d => by ring
    simp only [this, Finset.sum_add_distrib, Finset.sum_sub_distrib, ← Finset.mul_sum]
    ring

end Cert.Spec

end
-- ==== Proof.Precondition.lean ====
/-
  What the precondition gives: every element of every argument is a real number.
-/
module

public import proofs.«01_k».proof.Pre_finite_and_no_tie
public import proofs.«01_k».proof.Proof.Finite

@[expose] public section

set_option maxRecDepth 16384

noncomputable section

namespace Cert.Bounds

open Idealize.ShloMosaic Cert.Spec Cert.Pre_finite_and_no_tie Cert.Pre_finite_and_no_tie.Facts

/-- A bit that the conjunction of a set of bits holds at is every bit of it. -/
theorem all_of_fold {ι : Type*} (s : Finset ι) (x : ι → BitVec 1) (h : s.fold IntOp.andi 1#1 x = 1#1) :
    ∀ i ∈ s, x i = 1#1 := by
  classical
  induction s using Finset.induction_on with
  | empty => exact fun i hi => absurd hi (Finset.notMem_empty i)
  | insert a s ha ih =>
    rw [Finset.fold_insert ha] at h
    have both : ∀ p q : BitVec 1, IntOp.andi p q = 1#1 → p = 1#1 ∧ q = 1#1 := by decide
    obtain ⟨h1, h2⟩ := both _ _ h
    intro i hi
    rcases Finset.mem_insert.mp hi with rfl | hi
    · exact h1
    · exact ih h2 i hi

variable [Facts]

/-- The precondition's word for one argument: the conjunction of the comparisons of its absolute values to infinity. -/
def finiteWord {s : Shape} {axes : List (Fin s.rank)} (hb : S_.BroadcastsInDim s ![]) (hr : s.ReducesTo axes S_)
    (x : FVec Ideal s .f32) : IVec S_ 1 :=
  Host.reduce IntOp.andi (cmpf .olt (Host.absf x) (broadcastInDim s ![] hb (constant S_ .f32 0x7F800000#32)))
    (constantI S_ 1 1#1) hr h_S_

theorem real_of_word {s : Shape} {axes : List (Fin s.rank)} {hb : S_.BroadcastsInDim s ![]} {hr : s.ReducesTo axes S_}
    {x : FVec Ideal s .f32} (h : finiteWord hb hr x ix0 = 1#1) (i : s.Idx) : IsReal (x i) := by
  unfold finiteWord at h
  rw [Host.reduce_eq_fold] at h
  have hi := all_of_fold _ _ h i (Finset.mem_filter.mpr ⟨Finset.mem_univ _, funext fun a => a.elim0⟩)
  refine IsReal.of_abs_lt ?_
  have ht : Ideal.ofBits .f32 0x7F800000#32 = ⊤ := by simp [Ideal.ofBits, Ideal.ieee]
  change BitVec.ofBool (decide (max (x i) (-(x i)) < Ideal.ofBits .f32 0x7F800000#32)) = 1#1 at hi
  rw [ht] at hi
  by_contra hn
  rw [decide_eq_false hn] at hi
  exact absurd hi (by decide)

theorem both {p q : IVec S_ 1} (h : andi p q ix0 = 1#1) : p ix0 = 1#1 ∧ q ix0 = 1#1 := by
  have : ∀ p q : BitVec 1, IntOp.andi p q = 1#1 → p = 1#1 ∧ q = 1#1 := by decide
  exact this _ _ h

/-- The last part of the precondition is a conjunction with the word that it is given. -/
theorem of_last {w : IVec S_ 1} {u : FVec Ideal S256x3x256 .f32} {v : IVec S3x256 1}
    (h : fn_part24 (F := Ideal) w u v = fun _ => 1#1) : w ix0 = 1#1 :=
  (both (congrFun h ix0)).1

variable {x0 : FVec Ideal S256x3x64x64 .f32} {x1 : FVec Ideal S32x3x4x4 .f32} {x2 : FVec Ideal S32 .f32}
  {x3 : FVec Ideal S64x32x4x4 .f32} {x4 : FVec Ideal S64 .f32} {x5 : FVec Ideal S128x64x4x4 .f32}
  {x6 : FVec Ideal S128 .f32} {x7 : FVec Ideal S256x128x4x4 .f32} {x8 : FVec Ideal S256 .f32}
  {x9 : FVec Ideal S256x4096 .f32} {x10 : FVec Ideal S256 .f32} {x11 : FVec Ideal S3x256x32 .f32}
  {x12 : FVec Ideal S3x32 .f32} {x13 : FVec Ideal S3x256x32 .f32}

/-- Under the precondition the words of all arguments hold. -/
theorem words (h : fn (F := Ideal) x0 x1 x2 x3 x4 x5 x6 x7 x8 x9 x10 x11 x12 x13 = fun _ => 1#1) :
    andi (andi (andi (andi (andi (andi (andi (andi (andi (andi (andi (andi (andi
      (finiteWord bcast_S_S256x3x64x64 reducesTo_S256x3x64x64_S_d0_1_2_3 x0)
      (finiteWord bcast_S_S32x3x4x4 reducesTo_S32x3x4x4_S_d0_1_2_3 x1))
      (finiteWord bcast_S_S32 reducesTo_S32_S_d0 x2))
      (finiteWord bcast_S_S64x32x4x4 reducesTo_S64x32x4x4_S_d0_1_2_3 x3))
      (finiteWord bcast_S_S64 reducesTo_S64_S_d0 x4))
      (finiteWord bcast_S_S128x64x4x4 reducesTo_S128x64x4x4_S_d0_1_2_3 x5))
      (finiteWord bcast_S_S128 reducesTo_S128_S_d0 x6))
      (finiteWord bcast_S_S256x128x4x4 reducesTo_S256x128x4x4_S_d0_1_2_3 x7))
      (finiteWord bcast_S_S256 reducesTo_S256_S_d0 x8))
      (finiteWord bcast_S_S256x4096 reducesTo_S256x4096_S_d0_1 x9))
      (finiteWord bcast_S_S256 reducesTo_S256_S_d0 x10))
      (finiteWord bcast_S_S3x256x32 reducesTo_S3x256x32_S_d0_1_2 x11))
      (finiteWord bcast_S_S3x32 reducesTo_S3x32_S_d0_1 x12))
      (finiteWord bcast_S_S3x256x32 reducesTo_S3x256x32_S_d0_1_2 x13) ix0 = 1#1 :=
  of_last h

/-- Under the precondition every argument is real. -/
theorem reals (h : fn (F := Ideal) x0 x1 x2 x3 x4 x5 x6 x7 x8 x9 x10 x11 x12 x13 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) ∧ (∀ i, IsReal (x9 i))
      ∧ (∀ i, IsReal (x10 i)) ∧ (∀ i, IsReal (x11 i)) ∧ (∀ i, IsReal (x12 i)) ∧ (∀ i, IsReal (x13 i)) := by
  obtain ⟨h, h13⟩ := both (words h)
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  exact ⟨real_of_word h0, real_of_word h1, real_of_word h2, real_of_word h3, real_of_word h4, real_of_word h5,
    real_of_word h6, real_of_word h7, real_of_word h8, real_of_word h9, real_of_word h10, real_of_word h11,
    real_of_word h12, real_of_word h13⟩

end Cert.Bounds

end
-- ==== Proof.Region.lean ====
/-
  The array each convolution region of the kernel leaves, as one function of the arrays it finds: the blocks the grid's
  points write back tile it, and each is the same function of the point's images.
-/
module

public import proofs.«01_k».proof.Proof.Payload
public import proofs.«01_k».proof.Proof.Gen.KernelIdeal.Frame

@[expose] public section

set_option maxRecDepth 16384

noncomputable section

namespace Cert.Layers

open Idealize.ShloMosaic Idealize.ShloMosaic.TcCoe Cert.Spec Cert.KernelIdeal Cert.KernelIdeal.Gen Idealize.SL.Sem
open Idealize.ShloMosaic.Pipeline (Dat)

variable (V : (c : Dev nD) → (b : Ref sig .tc) → Buf (Elt Ideal) ((c : Thread nD τ).loc b))

/-! ### Region 0 -/

theorem idx0 : ∀ t : Fin cfg0.N, win0_0.index t = ![t.val, 0, 0, 0] ∧ win0_1.index t = ![0, 0]
    ∧ win0_2.index t = ![0, 0] ∧ win0_3.index t = ![t.val, 0, 0, 0] := by
  decide +kernel

/-- The patches of point `t`'s block are the array's from image `4 t` on. -/
theorem blk0_0 (c : Dev nD) (t : Fin cfg0.N) (b : Fin 4) (y z : Fin 32) (u : Fin 48) :
    (iblk0 V c 0 t : S4x32x32x48.Idx → EReal) (ix4 b y z u)
      = (V c main_v18 : S256x32x32x48.Idx → EReal)
          (ix4 ⟨t.val * 4 + b, by have : t.val < 64 := t.isLt; omega⟩ y z u) := by
  blk_ext [iblk0, idx0 t]

/-- The weights' and the bias' blocks are the whole arrays. -/
theorem blk0_1 (c : Dev nD) (t : Fin cfg0.N) :
    (iblk0 V c 1 t : S48x32.Idx → EReal) = (V c main_v20 : S48x32.Idx → EReal) := by
  funext i
  blk_ext [iblk0, idx0 t]

theorem blk0_2 (c : Dev nD) (t : Fin cfg0.N) :
    (iblk0 V c 2 t : S1x32.Idx → EReal) = (V c main_v30 : S1x32.Idx → EReal) := by
  funext i
  blk_ext [iblk0, idx0 t]

/-- The array region 0 leaves: layer 1 of the patches it found. -/
theorem arr0 (c : Dev nD) : (dat0 V c).arrAt 3 cfg0.N = fun i : S256x32x32x32.Idx =>
    gelu ((∑ k ∈ Finset.range 48, rd4 (V c main_v18) (i 0) (i 1) (i 2) k * rd2 (V c main_v20) k (i 3))
      + rd2 (V c main_v30) 0 (i 3)) := by
  refine (dat0 V c).arrAt_eq_of_covers 3 _ (by decide +kernel) fun t hf y => ?_
  blk_simp
  rw [after0_3]
  frame_out
  have ht : t.val < 64 := t.isLt
  change S4x32x32x32.Idx at y
  rw [blk0_1 V c t, blk0_2 V c t, (idx0 t).2.2.2]
  obtain ⟨b, y1, y2, o, rfl⟩ : ∃ b y1 y2 o, y = ix4 b y1 y2 o := ⟨y 0, y 1, y 2, y 3, eq_ix4 y⟩
  refine (k0_apply _ _ _ b y1 y2 o).trans ?_
  simp only [ix4, Matrix.cons_val, zero_mul, zero_add]
  congr 2
  refine Finset.sum_congr rfl fun k hk => ?_
  have hk := Finset.mem_range.mp hk
  congr 1
  rw [rd4_of_lt _ b.isLt y1.isLt y2.isLt hk, rd4_of_lt _ (show t.val * 4 + b < 256 by omega) y1.isLt y2.isLt hk]
  exact blk0_0 V c t b y1 y2 ⟨k, hk⟩

/-! ### Region 1 -/

theorem idx1 : ∀ t : Fin cfg1.N, win1_0.index t = ![t.val, 0, 0, 0] ∧ win1_1.index t = ![0, 0]
    ∧ win1_2.index t = ![0, 0] ∧ win1_3.index t = ![t.val, 0, 0, 0] := by
  decide +kernel

/-- The images of point `t`'s block are the array's images from `16 t` on. -/
theorem blk1_0 (c : Dev nD) (t : Fin cfg1.N) (b : Fin 16) (y z : Fin 17) (u : Fin 128) :
    (iblk1 V c 0 t : S16x17x17x128.Idx → EReal) (ix4 b y z u)
      = (V c main_v35 : S256x17x17x128.Idx → EReal)
          (ix4 ⟨t.val * 16 + b, by have : t.val < 16 := t.isLt; omega⟩ y z u) := by
  blk_ext [iblk1, idx1 t]

/-- The weights' and the bias' blocks are the whole arrays. -/
theorem blk1_1 (c : Dev nD) (t : Fin cfg1.N) :
    (iblk1 V c 1 t : S512x64.Idx → EReal) = (V c main_v23 : S512x64.Idx → EReal) := by
  funext i
  blk_ext [iblk1, idx1 t]

theorem blk1_2 (c : Dev nD) (t : Fin cfg1.N) :
    (iblk1 V c 2 t : S1x64.Idx → EReal) = (V c main_v36 : S1x64.Idx → EReal) := by
  funext i
  blk_ext [iblk1, idx1 t]

/-- The array region 1 leaves: layer 2 of the images it found. -/
theorem arr1 (c : Dev nD) : (dat1 V c).arrAt 3 cfg1.N = fun i : S256x16x16x64.Idx =>
    gelu (patch 128 (rd4 (V c main_v35)) (rd2 (V c main_v23)) (rd2 (V c main_v36)) (i 0) (i 1) (i 2) (i 3)) := by
  refine (dat1 V c).arrAt_eq_of_covers 3 _ (by decide +kernel) fun t hf y => ?_
  blk_simp
  rw [after1_3]
  frame_out
  have ht : t.val < 16 := t.isLt
  change S16x16x16x64.Idx at y
  rw [blk1_1 V c t, blk1_2 V c t, (idx1 t).2.2.2]
  obtain ⟨b, y1, y2, o, rfl⟩ : ∃ b y1 y2 o, y = ix4 b y1 y2 o := ⟨y 0, y 1, y 2, y 3, eq_ix4 y⟩
  refine (k1_apply _ _ _ b y1 y2 o).trans ?_
  simp only [ix4, Matrix.cons_val, zero_mul, zero_add]
  congr 1
  refine patch_congr (fun y' hy z' hz u hu => ?_) (fun _ _ => rfl) rfl
  rw [rd4_of_lt _ b.isLt (show y' < 17 by omega) (show z' < 17 by omega) hu,
    rd4_of_lt _ (show t.val * 16 + b < 256 by omega) (show y' < 17 by omega) (show z' < 17 by omega) hu]
  exact blk1_0 V c t b ⟨y', _⟩ ⟨z', _⟩ ⟨u, hu⟩

/-! ### Region 2 -/

theorem idx2 : ∀ t : Fin cfg2.N, win2_0.index t = ![t.val, 0, 0, 0] ∧ win2_1.index t = ![0, 0]
    ∧ win2_2.index t = ![0, 0] ∧ win2_3.index t = ![t.val, 0, 0, 0] := by
  decide +kernel

/-- The images of point `t`'s block are the array's images from `32 t` on. -/
theorem blk2_0 (c : Dev nD) (t : Fin cfg2.N) (b : Fin 32) (y z : Fin 9) (u : Fin 256) :
    (iblk2 V c 0 t : S32x9x9x256.Idx → EReal) (ix4 b y z u)
      = (V c main_v41 : S256x9x9x256.Idx → EReal)
          (ix4 ⟨t.val * 32 + b, by have : t.val < 8 := t.isLt; omega⟩ y z u) := by
  blk_ext [iblk2, idx2 t]

/-- The weights' and the bias' blocks are the whole arrays. -/
theorem blk2_1 (c : Dev nD) (t : Fin cfg2.N) :
    (iblk2 V c 1 t : S1024x128.Idx → EReal) = (V c main_v26 : S1024x128.Idx → EReal) := by
  funext i
  blk_ext [iblk2, idx2 t]

theorem blk2_2 (c : Dev nD) (t : Fin cfg2.N) :
    (iblk2 V c 2 t : S1x128.Idx → EReal) = (V c main_v42 : S1x128.Idx → EReal) := by
  funext i
  blk_ext [iblk2, idx2 t]

/-- The array region 2 leaves: layer 3 of the images it found. -/
theorem arr2 (c : Dev nD) : (dat2 V c).arrAt 3 cfg2.N = fun i : S256x8x8x128.Idx =>
    gelu (patch 256 (rd4 (V c main_v41)) (rd2 (V c main_v26)) (rd2 (V c main_v42)) (i 0) (i 1) (i 2) (i 3)) := by
  refine (dat2 V c).arrAt_eq_of_covers 3 _ (by decide +kernel) fun t hf y => ?_
  blk_simp
  rw [after2_3]
  frame_out
  have ht : t.val < 8 := t.isLt
  change S32x8x8x128.Idx at y
  rw [blk2_1 V c t, blk2_2 V c t, (idx2 t).2.2.2]
  obtain ⟨b, y1, y2, o, rfl⟩ : ∃ b y1 y2 o, y = ix4 b y1 y2 o := ⟨y 0, y 1, y 2, y 3, eq_ix4 y⟩
  refine (k2_apply _ _ _ b y1 y2 o).trans ?_
  simp only [ix4, Matrix.cons_val, zero_mul, zero_add]
  congr 1
  refine patch_congr (fun y' hy z' hz u hu => ?_) (fun _ _ => rfl) rfl
  rw [rd4_of_lt _ b.isLt (show y' < 9 by omega) (show z' < 9 by omega) hu,
    rd4_of_lt _ (show t.val * 32 + b < 256 by omega) (show y' < 9 by omega) (show z' < 9 by omega) hu]
  exact blk2_0 V c t b ⟨y', _⟩ ⟨z', _⟩ ⟨u, hu⟩

/-! ### Region 3 -/

theorem idx3 : ∀ t : Fin cfg3.N, win3_0.index t = ![t.val, 0, 0, 0] ∧ win3_1.index t = ![0, 0]
    ∧ win3_2.index t = ![0, 0] ∧ win3_3.index t = ![t.val, 0, 0, 0] := by
  decide +kernel

/-- The images of point `t`'s block are the array's images from `64 t` on. -/
theorem blk3_0 (c : Dev nD) (t : Fin cfg3.N) (b : Fin 64) (y z : Fin 5) (u : Fin 512) :
    (iblk3 V c 0 t : S64x5x5x512.Idx → EReal) (ix4 b y z u)
      = (V c main_v47 : S256x5x5x512.Idx → EReal)
          (ix4 ⟨t.val * 64 + b, by have : t.val < 4 := t.isLt; omega⟩ y z u) := by
  blk_ext [iblk3, idx3 t]

/-- The weights' and the bias' blocks are the whole arrays. -/
theorem blk3_1 (c : Dev nD) (t : Fin cfg3.N) :
    (iblk3 V c 1 t : S2048x256.Idx → EReal) = (V c main_v29 : S2048x256.Idx → EReal) := by
  funext i
  blk_ext [iblk3, idx3 t]

theorem blk3_2 (c : Dev nD) (t : Fin cfg3.N) :
    (iblk3 V c 2 t : S1x256.Idx → EReal) = (V c main_v48 : S1x256.Idx → EReal) := by
  funext i
  blk_ext [iblk3, idx3 t]

/-- The array region 3 leaves: layer 4 of the images it found. -/
theorem arr3 (c : Dev nD) : (dat3 V c).arrAt 3 cfg3.N = fun i : S256x4x4x256.Idx =>
    gelu (patch 512 (rd4 (V c main_v47)) (rd2 (V c main_v29)) (rd2 (V c main_v48)) (i 0) (i 1) (i 2) (i 3)) := by
  refine (dat3 V c).arrAt_eq_of_covers 3 _ (by decide +kernel) fun t hf y => ?_
  blk_simp
  rw [after3_3]
  frame_out
  have ht : t.val < 4 := t.isLt
  change S64x4x4x256.Idx at y
  rw [blk3_1 V c t, blk3_2 V c t, (idx3 t).2.2.2]
  obtain ⟨b, y1, y2, o, rfl⟩ : ∃ b y1 y2 o, y = ix4 b y1 y2 o := ⟨y 0, y 1, y 2, y 3, eq_ix4 y⟩
  refine (k3_apply _ _ _ b y1 y2 o).trans ?_
  simp only [ix4, Matrix.cons_val, zero_mul, zero_add]
  congr 1
  refine patch_congr (fun y' hy z' hz u hu => ?_) (fun _ _ => rfl) rfl
  rw [rd4_of_lt _ b.isLt (show y' < 5 by omega) (show z' < 5 by omega) hu,
    rd4_of_lt _ (show t.val * 64 + b < 256 by omega) (show y' < 5 by omega) (show z' < 5 by omega) hu]
  exact blk3_0 V c t b ⟨y', _⟩ ⟨z', _⟩ ⟨u, hu⟩

end Cert.Layers

end
-- ==== Proof.HostReads.lean ====
/-
  What the host computes between the kernel's regions: the zero border and the 2×2 folding of each layer's image, the
  patches of the first layer, and the weights and biases laid out as matrices — each read at natural numbers.
-/
module

public import proofs.«01_k».proof.Proof.Spec
public import proofs.«01_k».proof.Proof.Gen.KernelIdeal.Frame
public import Idealize.ShloMosaic.Lib.StableHlo.RunRead

@[expose] public section

set_option maxRecDepth 16384

noncomputable section

namespace Cert.Layers

open Idealize.ShloMosaic Idealize.ShloMosaic.TcCoe Idealize.SL.Sem Cert.Spec Cert.KernelIdeal Cert.KernelIdeal.Gen

variable (V : Valuation τ sig (Elt Ideal))

/-- The word the host pads with is the number zero. -/
theorem pad_zero : (FloatOps.sitofp (F := Ideal) .f32 (0#32 : BitVec 32) : EReal) = 0 := by
  simp [FloatOps.sitofp]

/-! ## Layer 1 -/

/-- The image under its border. -/
def padded0 (x : S256x64x64x3.Idx → EReal) : S256x66x66x3.Idx → EReal :=
  pad S256x66x66x3 ![0, 1, 1, 0] ![0, 1, 1, 0] ![0, 0, 0, 0] x
    (sitofp (F := Ideal) .f32 (constantI S_ 32 0#32)) pads_S256x64x64x3_S256x66x66x3_000_110_110_000 h_S_

theorem padded0_apply (x : S256x64x64x3.Idx → EReal) (b : Fin 256) (y z : Fin 66) (k : Fin 3) :
    padded0 x (ix4 b y z k) = bordered (rd4 x) b y z k := by
  pointwise [padded0]
  exact pad_eq_bordered x b y z k pad_zero

/-- The image with its channels last. -/
def channelsLast (x : S256x3x64x64.Idx → EReal) : S256x64x64x3.Idx → EReal :=
  transpose S256x64x64x3 [0, 2, 3, 1] x transposes_S256x3x64x64_S256x64x64x3_0_2_3_1

theorem rd4_channelsLast (x : S256x3x64x64.Idx → EReal) (b y z c : ℕ) :
    rd4 (channelsLast x) b y z c = rd4 x b c y z := by
  by_cases h : b < 256 ∧ y < 64 ∧ z < 64 ∧ c < 3
  · obtain ⟨hb, hy, hz, hc⟩ := h
    rw [rd4_of_lt _ hb hy hz hc, rd4_of_lt _ hb hc hy hz]
    pointwise [channelsLast]
  · unfold rd4
    rw [dif_neg h, dif_neg (by omega)]

/-- The sixteen strided windows of the bordered image. -/
def windows0 (x : S256x66x66x3.Idx → EReal) : Fin 16 → (S256x32x32x3.Idx → EReal) :=
  ![Host.slice S256x32x32x3 ![0, 0, 0, 0] ![1, 2, 2, 1] x
       slicesBy_S256x66x66x3_S256x32x32x3_0s1_0s2_0s2_0s1,
     Host.slice S256x32x32x3 ![0, 0, 1, 0] ![1, 2, 2, 1] x
       slicesBy_S256x66x66x3_S256x32x32x3_0s1_0s2_1s2_0s1,
     Host.slice S256x32x32x3 ![0, 0, 2, 0] ![1, 2, 2, 1] x
       slicesBy_S256x66x66x3_S256x32x32x3_0s1_0s2_2s2_0s1,
     Host.slice S256x32x32x3 ![0, 0, 3, 0] ![1, 2, 2, 1] x
       slicesBy_S256x66x66x3_S256x32x32x3_0s1_0s2_3s2_0s1,
     Host.slice S256x32x32x3 ![0, 1, 0, 0] ![1, 2, 2, 1] x
       slicesBy_S256x66x66x3_S256x32x32x3_0s1_1s2_0s2_0s1,
     Host.slice S256x32x32x3 ![0, 1, 1, 0] ![1, 2, 2, 1] x
       slicesBy_S256x66x66x3_S256x32x32x3_0s1_1s2_1s2_0s1,
     Host.slice S256x32x32x3 ![0, 1, 2, 0] ![1, 2, 2, 1] x
       slicesBy_S256x66x66x3_S256x32x32x3_0s1_1s2_2s2_0s1,
     Host.slice S256x32x32x3 ![0, 1, 3, 0] ![1, 2, 2, 1] x
       slicesBy_S256x66x66x3_S256x32x32x3_0s1_1s2_3s2_0s1,
     Host.slice S256x32x32x3 ![0, 2, 0, 0] ![1, 2, 2, 1] x
       slicesBy_S256x66x66x3_S256x32x32x3_0s1_2s2_0s2_0s1,
     Host.slice S256x32x32x3 ![0, 2, 1, 0] ![1, 2, 2, 1] x
       slicesBy_S256x66x66x3_S256x32x32x3_0s1_2s2_1s2_0s1,
     Host.slice S256x32x32x3 ![0, 2, 2, 0] ![1, 2, 2, 1] x
       slicesBy_S256x66x66x3_S256x32x32x3_0s1_2s2_2s2_0s1,
     Host.slice S256x32x32x3 ![0, 2, 3, 0] ![1, 2, 2, 1] x
       slicesBy_S256x66x66x3_S256x32x32x3_0s1_2s2_3s2_0s1,
     Host.slice S256x32x32x3 ![0, 3, 0, 0] ![1, 2, 2, 1] x
       slicesBy_S256x66x66x3_S256x32x32x3_0s1_3s2_0s2_0s1,
     Host.slice S256x32x32x3 ![0, 3, 1, 0] ![1, 2, 2, 1] x
       slicesBy_S256x66x66x3_S256x32x32x3_0s1_3s2_1s2_0s1,
     Host.slice S256x32x32x3 ![0, 3, 2, 0] ![1, 2, 2, 1] x
       slicesBy_S256x66x66x3_S256x32x32x3_0s1_3s2_2s2_0s1,
     Host.slice S256x32x32x3 ![0, 3, 3, 0] ![1, 2, 2, 1] x
       slicesBy_S256x66x66x3_S256x32x32x3_0s1_3s2_3s2_0s1]

theorem windows0_apply (x : S256x66x66x3.Idx → EReal) (n : Fin 16) (b : Fin 256) (y z : Fin 32) (c : Fin 3) :
    windows0 x n (ix4 b y z c) = rd4 x b (2 * y + n / 4) (2 * z + n % 4) c := by
  rcases n with ⟨n, hn⟩
  interval_cases n
  · change (Host.slice S256x32x32x3 ![0, 0, 0, 0] ![1, 2, 2, 1] x
       slicesBy_S256x66x66x3_S256x32x32x3_0s1_0s2_0s2_0s1) (ix4 b y z c) = _
    pointwise
    simp only [rd4_eq]
  · change (Host.slice S256x32x32x3 ![0, 0, 1, 0] ![1, 2, 2, 1] x
       slicesBy_S256x66x66x3_S256x32x32x3_0s1_0s2_1s2_0s1) (ix4 b y z c) = _
    pointwise
    simp only [rd4_eq]
    congr 1 <;> omega
  · change (Host.slice S256x32x32x3 ![0, 0, 2, 0] ![1, 2, 2, 1] x
       slicesBy_S256x66x66x3_S256x32x32x3_0s1_0s2_2s2_0s1) (ix4 b y z c) = _
    pointwise
    simp only [rd4_eq]
    congr 1 <;> omega
  · change (Host.slice S256x32x32x3 ![0, 0, 3, 0] ![1, 2, 2, 1] x
       slicesBy_S256x66x66x3_S256x32x32x3_0s1_0s2_3s2_0s1) (ix4 b y z c) = _
    pointwise
    simp only [rd4_eq]
    congr 1 <;> omega
  · change (Host.slice S256x32x32x3 ![0, 1, 0, 0] ![1, 2, 2, 1] x
       slicesBy_S256x66x66x3_S256x32x32x3_0s1_1s2_0s2_0s1) (ix4 b y z c) = _
    pointwise
    simp only [rd4_eq]
    congr 1 <;> omega
  · change (Host.slice S256x32x32x3 ![0, 1, 1, 0] ![1, 2, 2, 1] x
       slicesBy_S256x66x66x3_S256x32x32x3_0s1_1s2_1s2_0s1) (ix4 b y z c) = _
    pointwise
    simp only [rd4_eq]
    congr 1 <;> omega
  · change (Host.slice S256x32x32x3 ![0, 1, 2, 0] ![1, 2, 2, 1] x
       slicesBy_S256x66x66x3_S256x32x32x3_0s1_1s2_2s2_0s1) (ix4 b y z c) = _
    pointwise
    simp only [rd4_eq]
    congr 1 <;> omega
  · change (Host.slice S256x32x32x3 ![0, 1, 3, 0] ![1, 2, 2, 1] x
       slicesBy_S256x66x66x3_S256x32x32x3_0s1_1s2_3s2_0s1) (ix4 b y z c) = _
    pointwise
    simp only [rd4_eq]
    congr 1 <;> omega
  · change (Host.slice S256x32x32x3 ![0, 2, 0, 0] ![1, 2, 2, 1] x
       slicesBy_S256x66x66x3_S256x32x32x3_0s1_2s2_0s2_0s1) (ix4 b y z c) = _
    pointwise
    simp only [rd4_eq]
    congr 1 <;> omega
  · change (Host.slice S256x32x32x3 ![0, 2, 1, 0] ![1, 2, 2, 1] x
       slicesBy_S256x66x66x3_S256x32x32x3_0s1_2s2_1s2_0s1) (ix4 b y z c) = _
    pointwise
    simp only [rd4_eq]
    congr 1 <;> omega
  · change (Host.slice S256x32x32x3 ![0, 2, 2, 0] ![1, 2, 2, 1] x
       slicesBy_S256x66x66x3_S256x32x32x3_0s1_2s2_2s2_0s1) (ix4 b y z c) = _
    pointwise
    simp only [rd4_eq]
    congr 1 <;> omega
  · change (Host.slice S256x32x32x3 ![0, 2, 3, 0] ![1, 2, 2, 1] x
       slicesBy_S256x66x66x3_S256x32x32x3_0s1_2s2_3s2_0s1) (ix4 b y z c) = _
    pointwise
    simp only [rd4_eq]
    congr 1 <;> omega
  · change (Host.slice S256x32x32x3 ![0, 3, 0, 0] ![1, 2, 2, 1] x
       slicesBy_S256x66x66x3_S256x32x32x3_0s1_3s2_0s2_0s1) (ix4 b y z c) = _
    pointwise
    simp only [rd4_eq]
    congr 1 <;> omega
  · change (Host.slice S256x32x32x3 ![0, 3, 1, 0] ![1, 2, 2, 1] x
       slicesBy_S256x66x66x3_S256x32x32x3_0s1_3s2_1s2_0s1) (ix4 b y z c) = _
    pointwise
    simp only [rd4_eq]
    congr 1 <;> omega
  · change (Host.slice S256x32x32x3 ![0, 3, 2, 0] ![1, 2, 2, 1] x
       slicesBy_S256x66x66x3_S256x32x32x3_0s1_3s2_2s2_0s1) (ix4 b y z c) = _
    pointwise
    simp only [rd4_eq]
    congr 1 <;> omega
  · change (Host.slice S256x32x32x3 ![0, 3, 3, 0] ![1, 2, 2, 1] x
       slicesBy_S256x66x66x3_S256x32x32x3_0s1_3s2_3s2_0s1) (ix4 b y z c) = _
    pointwise
    simp only [rd4_eq]
    congr 1 <;> omega

/-- The sixteen windows laid along the channels. -/
def patches0 (x : S256x66x66x3.Idx → EReal) : S256x32x32x48.Idx → EReal :=
  concatenate S256x32x32x48 3 (List.ofFn fun n : Fin 16 => ⟨S256x32x32x3, windows0 x n⟩)
    concatenates_S256x32x32x3_S256x32x32x3_S256x32x32x3_S256x32x32x3_S256x32x32x3_S256x32x32x3_S256x32x32x3_S256x32x32x3_S256x32x32x3_S256x32x32x3_S256x32x32x3_S256x32x32x3_S256x32x32x3_S256x32x32x3_S256x32x32x3_S256x32x32x3_S256x32x32x48_d3

theorem patches0_apply (x : S256x66x66x3.Idx → EReal) (b : Fin 256) (y z : Fin 32) (k : Fin 48) :
    patches0 x (ix4 b y z k) = rd4 x b (2 * y + k / 12) (2 * z + k / 3 % 4) (k % 3) := by
  have h := concatenate_ofFn_apply (t := S256x32x32x48) 3 (windows0 x)
    concatenates_S256x32x32x3_S256x32x32x3_S256x32x32x3_S256x32x32x3_S256x32x32x3_S256x32x32x3_S256x32x32x3_S256x32x32x3_S256x32x32x3_S256x32x32x3_S256x32x32x3_S256x32x32x3_S256x32x32x3_S256x32x32x3_S256x32x32x3_S256x32x32x3_S256x32x32x48_d3
    rfl 3 rfl (ix4 b y z k) ⟨k / 3, by omega⟩ rfl (ix4 b y z ⟨k % 3, by omega⟩) rfl
    (fun a _ => by fin_cases a <;> first | rfl | contradiction)
  refine h.trans ?_
  rw [windows0_apply]
  congr 2
  simp only [Nat.div_div_eq_div_mul]

set_option maxHeartbeats 2000000 in
theorem read_patches0 : StableHlo.after hostOps0_2 V (Proc.devRef .tc main_v18) = patches0 (V main_v1) := by
  after_reads_simp
  rfl

theorem read_padded0 : StableHlo.after hostOps0_1 (StableHlo.after hostOps0 V) (Proc.devRef .tc main_v1)
    = padded0 (channelsLast (V main_arg0)) := rfl

/-- The first layer's weights as a matrix. -/
def wmat0 (x : S32x3x4x4.Idx → EReal) : S48x32.Idx → EReal :=
  shapeCast S48x32 (transpose S4x4x3x32 [2, 3, 1, 0] x transposes_S32x3x4x4_S4x4x3x32_2_3_1_0)
    shapeCasts_S4x4x3x32_S48x32

theorem rd2_wmat0 (x : S32x3x4x4.Idx → EReal) {i j c o : ℕ} (hi : i < 4) (hj : j < 4) (hc : c < 3) (ho : o < 32) :
    rd2 (wmat0 x) ((i * 4 + j) * 3 + c) o = rd4 x o c i j := by
  rw [rd2_of_lt _ (by omega) ho]
  pointwise [wmat0]
  simp only [rd4_eq]
  congr 1 <;> omega

theorem read_wmat0 : StableHlo.after hostOps0_2 V (Proc.devRef .tc main_v20) = wmat0 (V main_arg1) := rfl

/-- The first layer's bias as a row. -/
def brow0 (x : S32.Idx → EReal) : S1x32.Idx → EReal := shapeCast S1x32 x shapeCasts_S32_S1x32

theorem rd2_brow0 (x : S32.Idx → EReal) (o : ℕ) : rd2 (brow0 x) 0 o = rd1 x o := by
  by_cases h : o < 32
  · rw [rd2_of_lt _ (by omega) h, rd1_of_lt _ h]
    pointwise [brow0]
  · unfold rd2 rd1
    rw [dif_neg (by omega), dif_neg h]

theorem read_brow0 : StableHlo.after hostOps0_2 V (Proc.devRef .tc main_v30) = brow0 (V main_arg2) := rfl

/-- The patches are the taps' positions of the bordered image. -/
theorem rd4_patches0 (x : S256x3x64x64.Idx → EReal) {b y z i j c : ℕ} (hb : b < 256) (hy : y < 32) (hz : z < 32)
    (hi : i < 4) (hj : j < 4) (hc : c < 3) :
    rd4 (patches0 (padded0 (channelsLast x))) b y z ((i * 4 + j) * 3 + c)
      = bordered (fun b y z c => rd4 x b c y z) b (2 * y + i) (2 * z + j) c := by
  rw [rd4_of_lt _ hb hy hz (by omega), patches0_apply]
  have h1 : ((i * 4 + j) * 3 + c) / 12 = i := by omega
  have h2 : ((i * 4 + j) * 3 + c) / 3 % 4 = j := by omega
  have h3 : ((i * 4 + j) * 3 + c) % 3 = c := by omega
  simp only [h1, h2, h3]
  rw [rd4_of_lt _ hb (by omega) (by omega) hc, padded0_apply]
  simp only [bordered, rd4_channelsLast]

/-! ## Layer 2 -/

/-- The image under its border. -/
def padded1 (x : S256x32x32x32.Idx → EReal) : S256x34x34x32.Idx → EReal :=
  pad S256x34x34x32 ![0, 1, 1, 0] ![0, 1, 1, 0] ![0, 0, 0, 0] x
    (sitofp (F := Ideal) .f32 (constantI S_ 32 0#32)) pads_S256x32x32x32_S256x34x34x32_000_110_110_000 h_S_

theorem padded1_apply (x : S256x32x32x32.Idx → EReal) (b : Fin 256) (y z : Fin 34) (k : Fin 32) :
    padded1 x (ix4 b y z k) = bordered (rd4 x) b y z k := by
  pointwise [padded1]
  exact pad_eq_bordered x b y z k pad_zero

/-- The bordered image folded two by two: each position's four neighbours along the channels. -/
def folded1 (x : S256x34x34x32.Idx → EReal) : S256x17x17x128.Idx → EReal :=
  shapeCast S256x17x17x128
    (transpose S256x17x17x2x2x32 [0, 1, 3, 2, 4, 5]
      (shapeCast S256x17x2x17x2x32 x shapeCasts_S256x34x34x32_S256x17x2x17x2x32)
      transposes_S256x17x2x17x2x32_S256x17x17x2x2x32_0_1_3_2_4_5)
    shapeCasts_S256x17x17x2x2x32_S256x17x17x128

theorem folded1_apply (x : S256x34x34x32.Idx → EReal) (b : Fin 256) (Y Z : Fin 17) (k : Fin 128) :
    folded1 x (ix4 b Y Z k) = rd4 x b (2 * Y + k / 64) (2 * Z + k / 32 % 2) (k % 32) := by
  pointwise [folded1]
  simp only [rd4_eq]
  congr 1 <;> omega

theorem rd4_folded1 (x : S256x32x32x32.Idx → EReal) {b Y Z q c : ℕ} (hb : b < 256) (hY : Y < 17) (hZ : Z < 17)
    (hq : q < 4) (hc : c < 32) :
    rd4 (folded1 (padded1 x)) b Y Z (q * 32 + c) = bordered (rd4 x) b (2 * Y + q / 2) (2 * Z + q % 2) c := by
  rw [rd4_of_lt _ hb hY hZ (by omega), folded1_apply]
  have h1 : (q * 32 + c) / 64 = q / 2 := by omega
  have h2 : (q * 32 + c) / 32 % 2 = q % 2 := by omega
  have h3 : (q * 32 + c) % 32 = c := by omega
  simp only [h1, h2, h3]
  rw [rd4_of_lt _ hb (by omega) (by omega) hc, padded1_apply]

theorem read_folded1 :
    StableHlo.after hostOps1_2 (StableHlo.after hostOps1_1 (StableHlo.after hostOps1 V)) (Proc.devRef .tc main_v35)
      = folded1 (padded1 (V main_v31)) := rfl

/-- The layer's weights as a matrix: the two by two windows, then the positions folded inside each. -/
def wmat1 (x : S64x32x4x4.Idx → EReal) : S512x64.Idx → EReal :=
  shapeCast S512x64
    (transpose S2x2x2x2x32x64 [2, 4, 3, 5, 1, 0] (shapeCast S64x32x2x2x2x2 x shapeCasts_S64x32x4x4_S64x32x2x2x2x2)
      transposes_S64x32x2x2x2x2_S2x2x2x2x32x64_2_4_3_5_1_0)
    shapeCasts_S2x2x2x2x32x64_S512x64

theorem rd2_wmat1 (x : S64x32x4x4.Idx → EReal) {t q c o : ℕ} (ht : t < 4) (hq : q < 4) (hc : c < 32) (ho : o < 64) :
    rd2 (wmat1 x) ((t * 4 + q) * 32 + c) o = rd4 x o c (2 * (t / 2) + q / 2) (2 * (t % 2) + q % 2) := by
  rw [rd2_of_lt _ (by omega) ho]
  pointwise [wmat1]
  simp only [rd4_eq]
  congr 1 <;> omega

theorem read_wmat1 : StableHlo.after hostOps0_2 V (Proc.devRef .tc main_v23) = wmat1 (V main_arg3) := rfl

/-- The layer's bias as a row. -/
def brow1 (x : S64.Idx → EReal) : S1x64.Idx → EReal := shapeCast S1x64 x shapeCasts_S64_S1x64

theorem rd2_brow1 (x : S64.Idx → EReal) (o : ℕ) : rd2 (brow1 x) 0 o = rd1 x o := by
  by_cases h : o < 64
  · rw [rd2_of_lt _ (by omega) h, rd1_of_lt _ h]
    pointwise [brow1]
  · unfold rd2 rd1
    rw [dif_neg (by omega), dif_neg h]

theorem read_brow1 : StableHlo.after hostOps1_2 V (Proc.devRef .tc main_v36) = brow1 (V main_arg4) := rfl

/-! ## Layer 3 -/

/-- The image under its border. -/
def padded2 (x : S256x16x16x64.Idx → EReal) : S256x18x18x64.Idx → EReal :=
  pad S256x18x18x64 ![0, 1, 1, 0] ![0, 1, 1, 0] ![0, 0, 0, 0] x
    (sitofp (F := Ideal) .f32 (constantI S_ 32 0#32)) pads_S256x16x16x64_S256x18x18x64_000_110_110_000 h_S_

theorem padded2_apply (x : S256x16x16x64.Idx → EReal) (b : Fin 256) (y z : Fin 18) (k : Fin 64) :
    padded2 x (ix4 b y z k) = bordered (rd4 x) b y z k := by
  pointwise [padded2]
  exact pad_eq_bordered x b y z k pad_zero

/-- The bordered image folded two by two: each position's four neighbours along the channels. -/
def folded2 (x : S256x18x18x64.Idx → EReal) : S256x9x9x256.Idx → EReal :=
  shapeCast S256x9x9x256
    (transpose S256x9x9x2x2x64 [0, 1, 3, 2, 4, 5]
      (shapeCast S256x9x2x9x2x64 x shapeCasts_S256x18x18x64_S256x9x2x9x2x64)
      transposes_S256x9x2x9x2x64_S256x9x9x2x2x64_0_1_3_2_4_5)
    shapeCasts_S256x9x9x2x2x64_S256x9x9x256

theorem folded2_apply (x : S256x18x18x64.Idx → EReal) (b : Fin 256) (Y Z : Fin 9) (k : Fin 256) :
    folded2 x (ix4 b Y Z k) = rd4 x b (2 * Y + k / 128) (2 * Z + k / 64 % 2) (k % 64) := by
  pointwise [folded2]
  simp only [rd4_eq]
  congr 1 <;> omega

theorem rd4_folded2 (x : S256x16x16x64.Idx → EReal) {b Y Z q c : ℕ} (hb : b < 256) (hY : Y < 9) (hZ : Z < 9)
    (hq : q < 4) (hc : c < 64) :
    rd4 (folded2 (padded2 x)) b Y Z (q * 64 + c) = bordered (rd4 x) b (2 * Y + q / 2) (2 * Z + q % 2) c := by
  rw [rd4_of_lt _ hb hY hZ (by omega), folded2_apply]
  have h1 : (q * 64 + c) / 128 = q / 2 := by omega
  have h2 : (q * 64 + c) / 64 % 2 = q % 2 := by omega
  have h3 : (q * 64 + c) % 64 = c := by omega
  simp only [h1, h2, h3]
  rw [rd4_of_lt _ hb (by omega) (by omega) hc, padded2_apply]

theorem read_folded2 :
    StableHlo.after hostOps2_2 (StableHlo.after hostOps2_1 (StableHlo.after hostOps2 V)) (Proc.devRef .tc main_v41)
      = folded2 (padded2 (V main_v37)) := rfl

/-- The layer's weights as a matrix: the two by two windows, then the positions folded inside each. -/
def wmat2 (x : S128x64x4x4.Idx → EReal) : S1024x128.Idx → EReal :=
  shapeCast S1024x128
    (transpose S2x2x2x2x64x128 [2, 4, 3, 5, 1, 0] (shapeCast S128x64x2x2x2x2 x shapeCasts_S128x64x4x4_S128x64x2x2x2x2)
      transposes_S128x64x2x2x2x2_S2x2x2x2x64x128_2_4_3_5_1_0)
    shapeCasts_S2x2x2x2x64x128_S1024x128

theorem rd2_wmat2 (x : S128x64x4x4.Idx → EReal) {t q c o : ℕ} (ht : t < 4) (hq : q < 4) (hc : c < 64) (ho : o < 128) :
    rd2 (wmat2 x) ((t * 4 + q) * 64 + c) o = rd4 x o c (2 * (t / 2) + q / 2) (2 * (t % 2) + q % 2) := by
  rw [rd2_of_lt _ (by omega) ho]
  pointwise [wmat2]
  simp only [rd4_eq]
  congr 1 <;> omega

theorem read_wmat2 : StableHlo.after hostOps0_2 V (Proc.devRef .tc main_v26) = wmat2 (V main_arg5) := rfl

/-- The layer's bias as a row. -/
def brow2 (x : S128.Idx → EReal) : S1x128.Idx → EReal := shapeCast S1x128 x shapeCasts_S128_S1x128

theorem rd2_brow2 (x : S128.Idx → EReal) (o : ℕ) : rd2 (brow2 x) 0 o = rd1 x o := by
  by_cases h : o < 128
  · rw [rd2_of_lt _ (by omega) h, rd1_of_lt _ h]
    pointwise [brow2]
  · unfold rd2 rd1
    rw [dif_neg (by omega), dif_neg h]

theorem read_brow2 : StableHlo.after hostOps2_2 V (Proc.devRef .tc main_v42) = brow2 (V main_arg6) := rfl

/-! ## Layer 4 -/

/-- The image under its border. -/
def padded3 (x : S256x8x8x128.Idx → EReal) : S256x10x10x128.Idx → EReal :=
  pad S256x10x10x128 ![0, 1, 1, 0] ![0, 1, 1, 0] ![0, 0, 0, 0] x
    (sitofp (F := Ideal) .f32 (constantI S_ 32 0#32)) pads_S256x8x8x128_S256x10x10x128_000_110_110_000 h_S_

theorem padded3_apply (x : S256x8x8x128.Idx → EReal) (b : Fin 256) (y z : Fin 10) (k : Fin 128) :
    padded3 x (ix4 b y z k) = bordered (rd4 x) b y z k := by
  pointwise [padded3]
  exact pad_eq_bordered x b y z k pad_zero

/-- The bordered image folded two by two: each position's four neighbours along the channels. -/
def folded3 (x : S256x10x10x128.Idx → EReal) : S256x5x5x512.Idx → EReal :=
  shapeCast S256x5x5x512
    (transpose S256x5x5x2x2x128 [0, 1, 3, 2, 4, 5]
      (shapeCast S256x5x2x5x2x128 x shapeCasts_S256x10x10x128_S256x5x2x5x2x128)
      transposes_S256x5x2x5x2x128_S256x5x5x2x2x128_0_1_3_2_4_5)
    shapeCasts_S256x5x5x2x2x128_S256x5x5x512

theorem folded3_apply (x : S256x10x10x128.Idx → EReal) (b : Fin 256) (Y Z : Fin 5) (k : Fin 512) :
    folded3 x (ix4 b Y Z k) = rd4 x b (2 * Y + k / 256) (2 * Z + k / 128 % 2) (k % 128) := by
  pointwise [folded3]
  simp only [rd4_eq]
  congr 1 <;> omega

theorem rd4_folded3 (x : S256x8x8x128.Idx → EReal) {b Y Z q c : ℕ} (hb : b < 256) (hY : Y < 5) (hZ : Z < 5)
    (hq : q < 4) (hc : c < 128) :
    rd4 (folded3 (padded3 x)) b Y Z (q * 128 + c) = bordered (rd4 x) b (2 * Y + q / 2) (2 * Z + q % 2) c := by
  rw [rd4_of_lt _ hb hY hZ (by omega), folded3_apply]
  have h1 : (q * 128 + c) / 256 = q / 2 := by omega
  have h2 : (q * 128 + c) / 128 % 2 = q % 2 := by omega
  have h3 : (q * 128 + c) % 128 = c := by omega
  simp only [h1, h2, h3]
  rw [rd4_of_lt _ hb (by omega) (by omega) hc, padded3_apply]

theorem read_folded3 :
    StableHlo.after hostOps3_2 (StableHlo.after hostOps3_1 (StableHlo.after hostOps3 V)) (Proc.devRef .tc main_v47)
      = folded3 (padded3 (V main_v43)) := rfl

/-- The layer's weights as a matrix: the two by two windows, then the positions folded inside each. -/
def wmat3 (x : S256x128x4x4.Idx → EReal) : S2048x256.Idx → EReal :=
  shapeCast S2048x256
    (transpose S2x2x2x2x128x256 [2, 4, 3, 5, 1, 0] (shapeCast S256x128x2x2x2x2 x shapeCasts_S256x128x4x4_S256x128x2x2x2x2)
      transposes_S256x128x2x2x2x2_S2x2x2x2x128x256_2_4_3_5_1_0)
    shapeCasts_S2x2x2x2x128x256_S2048x256

theorem rd2_wmat3 (x : S256x128x4x4.Idx → EReal) {t q c o : ℕ} (ht : t < 4) (hq : q < 4) (hc : c < 128) (ho : o < 256) :
    rd2 (wmat3 x) ((t * 4 + q) * 128 + c) o = rd4 x o c (2 * (t / 2) + q / 2) (2 * (t % 2) + q % 2) := by
  rw [rd2_of_lt _ (by omega) ho]
  pointwise [wmat3]
  simp only [rd4_eq]
  congr 1 <;> omega

theorem read_wmat3 : StableHlo.after hostOps0_2 V (Proc.devRef .tc main_v29) = wmat3 (V main_arg7) := rfl

/-- The layer's bias as a row. -/
def brow3 (x : S256.Idx → EReal) : S1x256.Idx → EReal := shapeCast S1x256 x shapeCasts_S256_S1x256

theorem rd2_brow3 (x : S256.Idx → EReal) (o : ℕ) : rd2 (brow3 x) 0 o = rd1 x o := by
  by_cases h : o < 256
  · rw [rd2_of_lt _ (by omega) h, rd1_of_lt _ h]
    pointwise [brow3]
  · unfold rd2 rd1
    rw [dif_neg (by omega), dif_neg h]

theorem read_brow3 : StableHlo.after hostOps3_2 V (Proc.devRef .tc main_v48) = brow3 (V main_arg8) := rfl

/-! ## The last region's arguments -/

/-- The image as a row per sample. -/
def flat (x : S256x4x4x256.Idx → EReal) : S256x4096.Idx → EReal := shapeCast S256x4096 x shapeCasts_S256x4x4x256_S256x4096

theorem flat_apply (x : S256x4x4x256.Idx → EReal) (b : Fin 256) (k : Fin 4096) :
    flat x (ix2 b k) = rd4 x b (k / 1024) (k / 256 % 4) (k % 256) := by
  pointwise [flat]
  simp only [rd4_eq]

theorem read_flat : StableHlo.after hostOps4 V (Proc.devRef .tc main_v50) = flat (V main_v49) := rfl

/-- The projection's weights, their rows in the order of the image. -/
def wproj (x : S256x4096.Idx → EReal) : S4096x256.Idx → EReal :=
  shapeCast S4096x256 (transpose S4x4x256x256 [2, 3, 1, 0] (shapeCast S256x256x4x4 x shapeCasts_S256x4096_S256x256x4x4)
      transposes_S256x256x4x4_S4x4x256x256_2_3_1_0) shapeCasts_S4x4x256x256_S4096x256

theorem wproj_apply (x : S256x4096.Idx → EReal) (k : Fin 4096) (o : Fin 256) :
    wproj x (ix2 k o) = rd2 x o (k % 256 * 16 + k / 1024 * 4 + k / 256 % 4) := by
  pointwise [wproj]
  simp only [rd2_eq]

theorem read_wproj : StableHlo.after hostOps4 V (Proc.devRef .tc main_v53) = wproj (V main_arg9) := rfl

/-- The projection's bias as a row. -/
theorem read_bproj : StableHlo.after hostOps4 V (Proc.devRef .tc main_v54) = brow3 (V main_arg10) := rfl

end Cert.Layers

end
-- ==== Proof.RefLayers.lean ====
/-
  The reference's four convolution layers, at an index: each is the GELU of the sixteen taps' sum and the bias.
-/
module

public import proofs.«01_k».proof.Proof.Spec
public import proofs.«01_k».proof.Proof.Gen.ReferenceIdeal.Read

@[expose] public section

set_option maxRecDepth 16384

noncomputable section

namespace Cert.RefLayers

open Idealize.ShloMosaic Idealize.ShloMosaic.TcCoe Cert.Spec Cert.ReferenceIdeal Cert.ReferenceIdeal.Gen
  Cert.ReferenceIdeal.Read

variable (x0 : S256x3x64x64.Idx → EReal) (x1 : S32x3x4x4.Idx → EReal) (x2 : S32.Idx → EReal)
  (x3 : S64x32x4x4.Idx → EReal) (x4 : S64.Idx → EReal) (x5 : S128x64x4x4.Idx → EReal) (x6 : S128.Idx → EReal)
  (x7 : S256x128x4x4.Idx → EReal) (x8 : S256.Idx → EReal)

/-- The word the reference pads with is the number zero. -/
theorem pad_zero : (FloatOps.sitofp (F := Ideal) .f32 (0#32 : BitVec 32) : EReal) = 0 := by
  simp [FloatOps.sitofp]

/-! ## Layer 1 -/

/-- The bordered image. -/
theorem padded0 (b : Fin 256) (k : Fin 3) (y z : Fin 66) :
    val_main_v20 (F := Ideal) x0 (ix4 b k y z)
      = bordered (fun b y z c => rd4 x0 b c y z) b y z k := by
  pointwise [val_main_v20, val_main_call0_v0, val_main_c_1]
  exact pad_eq_bordered' x0 b y z k pad_zero

theorem tap0_0 (b : Fin 256) (o : Fin 32) (y z : Fin 32) :
    val_main_v25 (F := Ideal) x0 x1 (ix4 b o y z)
      = tap 3 (fun b y z c => rd4 x0 b c y z) (rd4 x1) b y z o 0 0 := by
  pointwise [val_main_v25, val_main_v24, val_main_v23, val_main_v22, val_main_v21]
  refine sum_eq_tap fun c => ?_
  rw [padded0, rd4_eq x1]
  simp only [Nat.add_comm, Nat.add_zero, Nat.zero_add]
  rfl

theorem tap0_1 (b : Fin 256) (o : Fin 32) (y z : Fin 32) :
    val_main_v32 (F := Ideal) x0 x1 (ix4 b o y z)
      = tap 3 (fun b y z c => rd4 x0 b c y z) (rd4 x1) b y z o 0 1 := by
  pointwise [val_main_v32, val_main_v31, val_main_v30, val_main_v29, val_main_v28]
  refine sum_eq_tap fun c => ?_
  rw [padded0, rd4_eq x1]
  simp only [Nat.add_comm, Nat.add_zero, Nat.zero_add]
  rfl

theorem tap0_2 (b : Fin 256) (o : Fin 32) (y z : Fin 32) :
    val_main_v38 (F := Ideal) x0 x1 (ix4 b o y z)
      = tap 3 (fun b y z c => rd4 x0 b c y z) (rd4 x1) b y z o 0 2 := by
  pointwise [val_main_v38, val_main_v37, val_main_v36, val_main_v35, val_main_v34]
  refine sum_eq_tap fun c => ?_
  rw [padded0, rd4_eq x1]
  simp only [Nat.add_comm, Nat.add_zero, Nat.zero_add]
  rfl

theorem tap0_3 (b : Fin 256) (o : Fin 32) (y z : Fin 32) :
    val_main_v44 (F := Ideal) x0 x1 (ix4 b o y z)
      = tap 3 (fun b y z c => rd4 x0 b c y z) (rd4 x1) b y z o 0 3 := by
  pointwise [val_main_v44, val_main_v43, val_main_v42, val_main_v41, val_main_v40]
  refine sum_eq_tap fun c => ?_
  rw [padded0, rd4_eq x1]
  simp only [Nat.add_comm, Nat.add_zero, Nat.zero_add]
  rfl

theorem tap0_4 (b : Fin 256) (o : Fin 32) (y z : Fin 32) :
    val_main_v50 (F := Ideal) x0 x1 (ix4 b o y z)
      = tap 3 (fun b y z c => rd4 x0 b c y z) (rd4 x1) b y z o 1 0 := by
  pointwise [val_main_v50, val_main_v49, val_main_v48, val_main_v47, val_main_v46]
  refine sum_eq_tap fun c => ?_
  rw [padded0, rd4_eq x1]
  simp only [Nat.add_comm, Nat.add_zero, Nat.zero_add]
  rfl

theorem tap0_5 (b : Fin 256) (o : Fin 32) (y z : Fin 32) :
    val_main_v56 (F := Ideal) x0 x1 (ix4 b o y z)
      = tap 3 (fun b y z c => rd4 x0 b c y z) (rd4 x1) b y z o 1 1 := by
  pointwise [val_main_v56, val_main_v55, val_main_v54, val_main_v53, val_main_v52]
  refine sum_eq_tap fun c => ?_
  rw [padded0, rd4_eq x1]
  simp only [Nat.add_comm, Nat.add_zero, Nat.zero_add]
  rfl

theorem tap0_6 (b : Fin 256) (o : Fin 32) (y z : Fin 32) :
    val_main_v62 (F := Ideal) x0 x1 (ix4 b o y z)
      = tap 3 (fun b y z c => rd4 x0 b c y z) (rd4 x1) b y z o 1 2 := by
  pointwise [val_main_v62, val_main_v61, val_main_v60, val_main_v59, val_main_v58]
  refine sum_eq_tap fun c => ?_
  rw [padded0, rd4_eq x1]
  simp only [Nat.add_comm, Nat.add_zero, Nat.zero_add]
  rfl

theorem tap0_7 (b : Fin 256) (o : Fin 32) (y z : Fin 32) :
    val_main_v68 (F := Ideal) x0 x1 (ix4 b o y z)
      = tap 3 (fun b y z c => rd4 x0 b c y z) (rd4 x1) b y z o 1 3 := by
  pointwise [val_main_v68, val_main_v67, val_main_v66, val_main_v65, val_main_v64]
  refine sum_eq_tap fun c => ?_
  rw [padded0, rd4_eq x1]
  simp only [Nat.add_comm, Nat.add_zero, Nat.zero_add]
  rfl

theorem tap0_8 (b : Fin 256) (o : Fin 32) (y z : Fin 32) :
    val_main_v74 (F := Ideal) x0 x1 (ix4 b o y z)
      = tap 3 (fun b y z c => rd4 x0 b c y z) (rd4 x1) b y z o 2 0 := by
  pointwise [val_main_v74, val_main_v73, val_main_v72, val_main_v71, val_main_v70]
  refine sum_eq_tap fun c => ?_
  rw [padded0, rd4_eq x1]
  simp only [Nat.add_comm, Nat.add_zero, Nat.zero_add]
  rfl

theorem tap0_9 (b : Fin 256) (o : Fin 32) (y z : Fin 32) :
    val_main_v80 (F := Ideal) x0 x1 (ix4 b o y z)
      = tap 3 (fun b y z c => rd4 x0 b c y z) (rd4 x1) b y z o 2 1 := by
  pointwise [val_main_v80, val_main_v79, val_main_v78, val_main_v77, val_main_v76]
  refine sum_eq_tap fun c => ?_
  rw [padded0, rd4_eq x1]
  simp only [Nat.add_comm, Nat.add_zero, Nat.zero_add]
  rfl

theorem tap0_10 (b : Fin 256) (o : Fin 32) (y z : Fin 32) :
    val_main_v86 (F := Ideal) x0 x1 (ix4 b o y z)
      = tap 3 (fun b y z c => rd4 x0 b c y z) (rd4 x1) b y z o 2 2 := by
  pointwise [val_main_v86, val_main_v85, val_main_v84, val_main_v83, val_main_v82]
  refine sum_eq_tap fun c => ?_
  rw [padded0, rd4_eq x1]
  simp only [Nat.add_comm, Nat.add_zero, Nat.zero_add]
  rfl

theorem tap0_11 (b : Fin 256) (o : Fin 32) (y z : Fin 32) :
    val_main_v92 (F := Ideal) x0 x1 (ix4 b o y z)
      = tap 3 (fun b y z c => rd4 x0 b c y z) (rd4 x1) b y z o 2 3 := by
  pointwise [val_main_v92, val_main_v91, val_main_v90, val_main_v89, val_main_v88]
  refine sum_eq_tap fun c => ?_
  rw [padded0, rd4_eq x1]
  simp only [Nat.add_comm, Nat.add_zero, Nat.zero_add]
  rfl

theorem tap0_12 (b : Fin 256) (o : Fin 32) (y z : Fin 32) :
    val_main_v98 (F := Ideal) x0 x1 (ix4 b o y z)
      = tap 3 (fun b y z c => rd4 x0 b c y z) (rd4 x1) b y z o 3 0 := by
  pointwise [val_main_v98, val_main_v97, val_main_v96, val_main_v95, val_main_v94]
  refine sum_eq_tap fun c => ?_
  rw [padded0, rd4_eq x1]
  simp only [Nat.add_comm, Nat.add_zero, Nat.zero_add]
  rfl

theorem tap0_13 (b : Fin 256) (o : Fin 32) (y z : Fin 32) :
    val_main_v104 (F := Ideal) x0 x1 (ix4 b o y z)
      = tap 3 (fun b y z c => rd4 x0 b c y z) (rd4 x1) b y z o 3 1 := by
  pointwise [val_main_v104, val_main_v103, val_main_v102, val_main_v101, val_main_v100]
  refine sum_eq_tap fun c => ?_
  rw [padded0, rd4_eq x1]
  simp only [Nat.add_comm, Nat.add_zero, Nat.zero_add]
  rfl

theorem tap0_14 (b : Fin 256) (o : Fin 32) (y z : Fin 32) :
    val_main_v110 (F := Ideal) x0 x1 (ix4 b o y z)
      = tap 3 (fun b y z c => rd4 x0 b c y z) (rd4 x1) b y z o 3 2 := by
  pointwise [val_main_v110, val_main_v109, val_main_v108, val_main_v107, val_main_v106]
  refine sum_eq_tap fun c => ?_
  rw [padded0, rd4_eq x1]
  simp only [Nat.add_comm, Nat.add_zero, Nat.zero_add]
  rfl

theorem tap0_15 (b : Fin 256) (o : Fin 32) (y z : Fin 32) :
    val_main_v116 (F := Ideal) x0 x1 (ix4 b o y z)
      = tap 3 (fun b y z c => rd4 x0 b c y z) (rd4 x1) b y z o 3 3 := by
  pointwise [val_main_v116, val_main_v115, val_main_v114, val_main_v113, val_main_v112]
  refine sum_eq_tap fun c => ?_
  rw [padded0, rd4_eq x1]
  simp only [Nat.add_comm, Nat.add_zero, Nat.zero_add]
  rfl

/-- The layer before its GELU. -/
theorem conv0 (b : Fin 256) (o : Fin 32) (y z : Fin 32) :
    val_main_v120 (F := Ideal) x0 x1 x2 (ix4 b o y z)
      = conv 3 (fun b y z c => rd4 x0 b c y z) (rd4 x1) (rd1 x2) b y z o := by
  pointwise [val_main_v120, val_main_v119, val_main_v118, val_main_v117, val_main_v111, val_main_v105, val_main_v99, val_main_v93, val_main_v87, val_main_v81, val_main_v75, val_main_v69, val_main_v63, val_main_v57, val_main_v51, val_main_v45, val_main_v39, val_main_v33, val_main_v27,
    val_main_v26, val_main_cst]
  rw [tap0_0, tap0_1, tap0_2, tap0_3, tap0_4, tap0_5, tap0_6, tap0_7, tap0_8, tap0_9, tap0_10, tap0_11, tap0_12, tap0_13, tap0_14, tap0_15, rd1_eq x2, conv_eq_chain]

/-- The layer. -/
theorem layer0 (b : Fin 256) (o : Fin 32) (y z : Fin 32) :
    val_main_v127 (F := Ideal) x0 x1 x2 (ix4 b o y z)
      = gelu (conv 3 (fun b y z c => rd4 x0 b c y z) (rd4 x1) (rd1 x2) b y z o) := by
  pointwise [val_main_v127, val_main_v126, val_main_v125, val_main_v124, val_main_v123, val_main_v122, val_main_v121, val_main_cst_2, val_main_cst_3]
  rw [conv0]
  exact gelu_erfc _

/-! ## Layer 2 -/

/-- The bordered image. -/
theorem padded1 (b : Fin 256) (k : Fin 32) (y z : Fin 34) :
    val_main_v128 (F := Ideal) x0 x1 x2 (ix4 b k y z)
      = bordered (fun b y z c => rd4 (val_main_v127 (F := Ideal) x0 x1 x2) b c y z) b y z k := by
  pointwise [val_main_v128, val_main_call1_v0, val_main_c_4]
  exact pad_eq_bordered' (val_main_v127 (F := Ideal) x0 x1 x2) b y z k pad_zero

theorem tap1_0 (b : Fin 256) (o : Fin 64) (y z : Fin 16) :
    val_main_v133 (F := Ideal) x0 x1 x2 x3 (ix4 b o y z)
      = tap 32 (fun b y z c => rd4 (val_main_v127 (F := Ideal) x0 x1 x2) b c y z) (rd4 x3) b y z o 0 0 := by
  pointwise [val_main_v133, val_main_v132, val_main_v131, val_main_v130, val_main_v129]
  refine sum_eq_tap fun c => ?_
  rw [padded1, rd4_eq x3]
  simp only [Nat.add_comm, Nat.add_zero, Nat.zero_add]
  rfl

theorem tap1_1 (b : Fin 256) (o : Fin 64) (y z : Fin 16) :
    val_main_v140 (F := Ideal) x0 x1 x2 x3 (ix4 b o y z)
      = tap 32 (fun b y z c => rd4 (val_main_v127 (F := Ideal) x0 x1 x2) b c y z) (rd4 x3) b y z o 0 1 := by
  pointwise [val_main_v140, val_main_v139, val_main_v138, val_main_v137, val_main_v136]
  refine sum_eq_tap fun c => ?_
  rw [padded1, rd4_eq x3]
  simp only [Nat.add_comm, Nat.add_zero, Nat.zero_add]
  rfl

theorem tap1_2 (b : Fin 256) (o : Fin 64) (y z : Fin 16) :
    val_main_v146 (F := Ideal) x0 x1 x2 x3 (ix4 b o y z)
      = tap 32 (fun b y z c => rd4 (val_main_v127 (F := Ideal) x0 x1 x2) b c y z) (rd4 x3) b y z o 0 2 := by
  pointwise [val_main_v146, val_main_v145, val_main_v144, val_main_v143, val_main_v142]
  refine sum_eq_tap fun c => ?_
  rw [padded1, rd4_eq x3]
  simp only [Nat.add_comm, Nat.add_zero, Nat.zero_add]
  rfl

theorem tap1_3 (b : Fin 256) (o : Fin 64) (y z : Fin 16) :
    val_main_v152 (F := Ideal) x0 x1 x2 x3 (ix4 b o y z)
      = tap 32 (fun b y z c => rd4 (val_main_v127 (F := Ideal) x0 x1 x2) b c y z) (rd4 x3) b y z o 0 3 := by
  pointwise [val_main_v152, val_main_v151, val_main_v150, val_main_v149, val_main_v148]
  refine sum_eq_tap fun c => ?_
  rw [padded1, rd4_eq x3]
  simp only [Nat.add_comm, Nat.add_zero, Nat.zero_add]
  rfl

theorem tap1_4 (b : Fin 256) (o : Fin 64) (y z : Fin 16) :
    val_main_v158 (F := Ideal) x0 x1 x2 x3 (ix4 b o y z)
      = tap 32 (fun b y z c => rd4 (val_main_v127 (F := Ideal) x0 x1 x2) b c y z) (rd4 x3) b y z o 1 0 := by
  pointwise [val_main_v158, val_main_v157, val_main_v156, val_main_v155, val_main_v154]
  refine sum_eq_tap fun c => ?_
  rw [padded1, rd4_eq x3]
  simp only [Nat.add_comm, Nat.add_zero, Nat.zero_add]
  rfl

theorem tap1_5 (b : Fin 256) (o : Fin 64) (y z : Fin 16) :
    val_main_v164 (F := Ideal) x0 x1 x2 x3 (ix4 b o y z)
      = tap 32 (fun b y z c => rd4 (val_main_v127 (F := Ideal) x0 x1 x2) b c y z) (rd4 x3) b y z o 1 1 := by
  pointwise [val_main_v164, val_main_v163, val_main_v162, val_main_v161, val_main_v160]
  refine sum_eq_tap fun c => ?_
  rw [padded1, rd4_eq x3]
  simp only [Nat.add_comm, Nat.add_zero, Nat.zero_add]
  rfl

theorem tap1_6 (b : Fin 256) (o : Fin 64) (y z : Fin 16) :
    val_main_v170 (F := Ideal) x0 x1 x2 x3 (ix4 b o y z)
      = tap 32 (fun b y z c => rd4 (val_main_v127 (F := Ideal) x0 x1 x2) b c y z) (rd4 x3) b y z o 1 2 := by
  pointwise [val_main_v170, val_main_v169, val_main_v168, val_main_v167, val_main_v166]
  refine sum_eq_tap fun c => ?_
  rw [padded1, rd4_eq x3]
  simp only [Nat.add_comm, Nat.add_zero, Nat.zero_add]
  rfl

theorem tap1_7 (b : Fin 256) (o : Fin 64) (y z : Fin 16) :
    val_main_v176 (F := Ideal) x0 x1 x2 x3 (ix4 b o y z)
      = tap 32 (fun b y z c => rd4 (val_main_v127 (F := Ideal) x0 x1 x2) b c y z) (rd4 x3) b y z o 1 3 := by
  pointwise [val_main_v176, val_main_v175, val_main_v174, val_main_v173, val_main_v172]
  refine sum_eq_tap fun c => ?_
  rw [padded1, rd4_eq x3]
  simp only [Nat.add_comm, Nat.add_zero, Nat.zero_add]
  rfl

theorem tap1_8 (b : Fin 256) (o : Fin 64) (y z : Fin 16) :
    val_main_v182 (F := Ideal) x0 x1 x2 x3 (ix4 b o y z)
      = tap 32 (fun b y z c => rd4 (val_main_v127 (F := Ideal) x0 x1 x2) b c y z) (rd4 x3) b y z o 2 0 := by
  pointwise [val_main_v182, val_main_v181, val_main_v180, val_main_v179, val_main_v178]
  refine sum_eq_tap fun c => ?_
  rw [padded1, rd4_eq x3]
  simp only [Nat.add_comm, Nat.add_zero, Nat.zero_add]
  rfl

theorem tap1_9 (b : Fin 256) (o : Fin 64) (y z : Fin 16) :
    val_main_v188 (F := Ideal) x0 x1 x2 x3 (ix4 b o y z)
      = tap 32 (fun b y z c => rd4 (val_main_v127 (F := Ideal) x0 x1 x2) b c y z) (rd4 x3) b y z o 2 1 := by
  pointwise [val_main_v188, val_main_v187, val_main_v186, val_main_v185, val_main_v184]
  refine sum_eq_tap fun c => ?_
  rw [padded1, rd4_eq x3]
  simp only [Nat.add_comm, Nat.add_zero, Nat.zero_add]
  rfl

theorem tap1_10 (b : Fin 256) (o : Fin 64) (y z : Fin 16) :
    val_main_v194 (F := Ideal) x0 x1 x2 x3 (ix4 b o y z)
      = tap 32 (fun b y z c => rd4 (val_main_v127 (F := Ideal) x0 x1 x2) b c y z) (rd4 x3) b y z o 2 2 := by
  pointwise [val_main_v194, val_main_v193, val_main_v192, val_main_v191, val_main_v190]
  refine sum_eq_tap fun c => ?_
  rw [padded1, rd4_eq x3]
  simp only [Nat.add_comm, Nat.add_zero, Nat.zero_add]
  rfl

theorem tap1_11 (b : Fin 256) (o : Fin 64) (y z : Fin 16) :
    val_main_v200 (F := Ideal) x0 x1 x2 x3 (ix4 b o y z)
      = tap 32 (fun b y z c => rd4 (val_main_v127 (F := Ideal) x0 x1 x2) b c y z) (rd4 x3) b y z o 2 3 := by
  pointwise [val_main_v200, val_main_v199, val_main_v198, val_main_v197, val_main_v196]
  refine sum_eq_tap fun c => ?_
  rw [padded1, rd4_eq x3]
  simp only [Nat.add_comm, Nat.add_zero, Nat.zero_add]
  rfl

theorem tap1_12 (b : Fin 256) (o : Fin 64) (y z : Fin 16) :
    val_main_v206 (F := Ideal) x0 x1 x2 x3 (ix4 b o y z)
      = tap 32 (fun b y z c => rd4 (val_main_v127 (F := Ideal) x0 x1 x2) b c y z) (rd4 x3) b y z o 3 0 := by
  pointwise [val_main_v206, val_main_v205, val_main_v204, val_main_v203, val_main_v202]
  refine sum_eq_tap fun c => ?_
  rw [padded1, rd4_eq x3]
  simp only [Nat.add_comm, Nat.add_zero, Nat.zero_add]
  rfl

theorem tap1_13 (b : Fin 256) (o : Fin 64) (y z : Fin 16) :
    val_main_v212 (F := Ideal) x0 x1 x2 x3 (ix4 b o y z)
      = tap 32 (fun b y z c => rd4 (val_main_v127 (F := Ideal) x0 x1 x2) b c y z) (rd4 x3) b y z o 3 1 := by
  pointwise [val_main_v212, val_main_v211, val_main_v210, val_main_v209, val_main_v208]
  refine sum_eq_tap fun c => ?_
  rw [padded1, rd4_eq x3]
  simp only [Nat.add_comm, Nat.add_zero, Nat.zero_add]
  rfl

theorem tap1_14 (b : Fin 256) (o : Fin 64) (y z : Fin 16) :
    val_main_v218 (F := Ideal) x0 x1 x2 x3 (ix4 b o y z)
      = tap 32 (fun b y z c => rd4 (val_main_v127 (F := Ideal) x0 x1 x2) b c y z) (rd4 x3) b y z o 3 2 := by
  pointwise [val_main_v218, val_main_v217, val_main_v216, val_main_v215, val_main_v214]
  refine sum_eq_tap fun c => ?_
  rw [padded1, rd4_eq x3]
  simp only [Nat.add_comm, Nat.add_zero, Nat.zero_add]
  rfl

theorem tap1_15 (b : Fin 256) (o : Fin 64) (y z : Fin 16) :
    val_main_v224 (F := Ideal) x0 x1 x2 x3 (ix4 b o y z)
      = tap 32 (fun b y z c => rd4 (val_main_v127 (F := Ideal) x0 x1 x2) b c y z) (rd4 x3) b y z o 3 3 := by
  pointwise [val_main_v224, val_main_v223, val_main_v222, val_main_v221, val_main_v220]
  refine sum_eq_tap fun c => ?_
  rw [padded1, rd4_eq x3]
  simp only [Nat.add_comm, Nat.add_zero, Nat.zero_add]
  rfl

/-- The layer before its GELU. -/
theorem conv1 (b : Fin 256) (o : Fin 64) (y z : Fin 16) :
    val_main_v228 (F := Ideal) x0 x1 x2 x3 x4 (ix4 b o y z)
      = conv 32 (fun b y z c => rd4 (val_main_v127 (F := Ideal) x0 x1 x2) b c y z) (rd4 x3) (rd1 x4) b y z o := by
  pointwise [val_main_v228, val_main_v227, val_main_v226, val_main_v225, val_main_v219, val_main_v213, val_main_v207, val_main_v201, val_main_v195, val_main_v189, val_main_v183, val_main_v177, val_main_v171, val_main_v165, val_main_v159, val_main_v153, val_main_v147, val_main_v141, val_main_v135,
    val_main_v134, val_main_cst_5]
  rw [tap1_0, tap1_1, tap1_2, tap1_3, tap1_4, tap1_5, tap1_6, tap1_7, tap1_8, tap1_9, tap1_10, tap1_11, tap1_12, tap1_13, tap1_14, tap1_15, rd1_eq x4, conv_eq_chain]

/-- The layer. -/
theorem layer1 (b : Fin 256) (o : Fin 64) (y z : Fin 16) :
    val_main_v235 (F := Ideal) x0 x1 x2 x3 x4 (ix4 b o y z)
      = gelu (conv 32 (fun b y z c => rd4 (val_main_v127 (F := Ideal) x0 x1 x2) b c y z) (rd4 x3) (rd1 x4) b y z o) := by
  pointwise [val_main_v235, val_main_v234, val_main_v233, val_main_v232, val_main_v231, val_main_v230, val_main_v229, val_main_cst_6, val_main_cst_7]
  rw [conv1]
  exact gelu_erfc _

/-! ## Layer 3 -/

/-- The bordered image. -/
theorem padded2 (b : Fin 256) (k : Fin 64) (y z : Fin 18) :
    val_main_v236 (F := Ideal) x0 x1 x2 x3 x4 (ix4 b k y z)
      = bordered (fun b y z c => rd4 (val_main_v235 (F := Ideal) x0 x1 x2 x3 x4) b c y z) b y z k := by
  pointwise [val_main_v236, val_main_call2_v0, val_main_c_8]
  exact pad_eq_bordered' (val_main_v235 (F := Ideal) x0 x1 x2 x3 x4) b y z k pad_zero

theorem tap2_0 (b : Fin 256) (o : Fin 128) (y z : Fin 8) :
    val_main_v241 (F := Ideal) x0 x1 x2 x3 x4 x5 (ix4 b o y z)
      = tap 64 (fun b y z c => rd4 (val_main_v235 (F := Ideal) x0 x1 x2 x3 x4) b c y z) (rd4 x5) b y z o 0 0 := by
  pointwise [val_main_v241, val_main_v240, val_main_v239, val_main_v238, val_main_v237]
  refine sum_eq_tap fun c => ?_
  rw [padded2, rd4_eq x5]
  simp only [Nat.add_comm, Nat.add_zero, Nat.zero_add]
  rfl

theorem tap2_1 (b : Fin 256) (o : Fin 128) (y z : Fin 8) :
    val_main_v248 (F := Ideal) x0 x1 x2 x3 x4 x5 (ix4 b o y z)
      = tap 64 (fun b y z c => rd4 (val_main_v235 (F := Ideal) x0 x1 x2 x3 x4) b c y z) (rd4 x5) b y z o 0 1 := by
  pointwise [val_main_v248, val_main_v247, val_main_v246, val_main_v245, val_main_v244]
  refine sum_eq_tap fun c => ?_
  rw [padded2, rd4_eq x5]
  simp only [Nat.add_comm, Nat.add_zero, Nat.zero_add]
  rfl

theorem tap2_2 (b : Fin 256) (o : Fin 128) (y z : Fin 8) :
    val_main_v254 (F := Ideal) x0 x1 x2 x3 x4 x5 (ix4 b o y z)
      = tap 64 (fun b y z c => rd4 (val_main_v235 (F := Ideal) x0 x1 x2 x3 x4) b c y z) (rd4 x5) b y z o 0 2 := by
  pointwise [val_main_v254, val_main_v253, val_main_v252, val_main_v251, val_main_v250]
  refine sum_eq_tap fun c => ?_
  rw [padded2, rd4_eq x5]
  simp only [Nat.add_comm, Nat.add_zero, Nat.zero_add]
  rfl

theorem tap2_3 (b : Fin 256) (o : Fin 128) (y z : Fin 8) :
    val_main_v260 (F := Ideal) x0 x1 x2 x3 x4 x5 (ix4 b o y z)
      = tap 64 (fun b y z c => rd4 (val_main_v235 (F := Ideal) x0 x1 x2 x3 x4) b c y z) (rd4 x5) b y z o 0 3 := by
  pointwise [val_main_v260, val_main_v259, val_main_v258, val_main_v257, val_main_v256]
  refine sum_eq_tap fun c => ?_
  rw [padded2, rd4_eq x5]
  simp only [Nat.add_comm, Nat.add_zero, Nat.zero_add]
  rfl

theorem tap2_4 (b : Fin 256) (o : Fin 128) (y z : Fin 8) :
    val_main_v266 (F := Ideal) x0 x1 x2 x3 x4 x5 (ix4 b o y z)
      = tap 64 (fun b y z c => rd4 (val_main_v235 (F := Ideal) x0 x1 x2 x3 x4) b c y z) (rd4 x5) b y z o 1 0 := by
  pointwise [val_main_v266, val_main_v265, val_main_v264, val_main_v263, val_main_v262]
  refine sum_eq_tap fun c => ?_
  rw [padded2, rd4_eq x5]
  simp only [Nat.add_comm, Nat.add_zero, Nat.zero_add]
  rfl

theorem tap2_5 (b : Fin 256) (o : Fin 128) (y z : Fin 8) :
    val_main_v272 (F := Ideal) x0 x1 x2 x3 x4 x5 (ix4 b o y z)
      = tap 64 (fun b y z c => rd4 (val_main_v235 (F := Ideal) x0 x1 x2 x3 x4) b c y z) (rd4 x5) b y z o 1 1 := by
  pointwise [val_main_v272, val_main_v271, val_main_v270, val_main_v269, val_main_v268]
  refine sum_eq_tap fun c => ?_
  rw [padded2, rd4_eq x5]
  simp only [Nat.add_comm, Nat.add_zero, Nat.zero_add]
  rfl

theorem tap2_6 (b : Fin 256) (o : Fin 128) (y z : Fin 8) :
    val_main_v278 (F := Ideal) x0 x1 x2 x3 x4 x5 (ix4 b o y z)
      = tap 64 (fun b y z c => rd4 (val_main_v235 (F := Ideal) x0 x1 x2 x3 x4) b c y z) (rd4 x5) b y z o 1 2 := by
  pointwise [val_main_v278, val_main_v277, val_main_v276, val_main_v275, val_main_v274]
  refine sum_eq_tap fun c => ?_
  rw [padded2, rd4_eq x5]
  simp only [Nat.add_comm, Nat.add_zero, Nat.zero_add]
  rfl

theorem tap2_7 (b : Fin 256) (o : Fin 128) (y z : Fin 8) :
    val_main_v284 (F := Ideal) x0 x1 x2 x3 x4 x5 (ix4 b o y z)
      = tap 64 (fun b y z c => rd4 (val_main_v235 (F := Ideal) x0 x1 x2 x3 x4) b c y z) (rd4 x5) b y z o 1 3 := by
  pointwise [val_main_v284, val_main_v283, val_main_v282, val_main_v281, val_main_v280]
  refine sum_eq_tap fun c => ?_
  rw [padded2, rd4_eq x5]
  simp only [Nat.add_comm, Nat.add_zero, Nat.zero_add]
  rfl

theorem tap2_8 (b : Fin 256) (o : Fin 128) (y z : Fin 8) :
    val_main_v290 (F := Ideal) x0 x1 x2 x3 x4 x5 (ix4 b o y z)
      = tap 64 (fun b y z c => rd4 (val_main_v235 (F := Ideal) x0 x1 x2 x3 x4) b c y z) (rd4 x5) b y z o 2 0 := by
  pointwise [val_main_v290, val_main_v289, val_main_v288, val_main_v287, val_main_v286]
  refine sum_eq_tap fun c => ?_
  rw [padded2, rd4_eq x5]
  simp only [Nat.add_comm, Nat.add_zero, Nat.zero_add]
  rfl

theorem tap2_9 (b : Fin 256) (o : Fin 128) (y z : Fin 8) :
    val_main_v296 (F := Ideal) x0 x1 x2 x3 x4 x5 (ix4 b o y z)
      = tap 64 (fun b y z c => rd4 (val_main_v235 (F := Ideal) x0 x1 x2 x3 x4) b c y z) (rd4 x5) b y z o 2 1 := by
  pointwise [val_main_v296, val_main_v295, val_main_v294, val_main_v293, val_main_v292]
  refine sum_eq_tap fun c => ?_
  rw [padded2, rd4_eq x5]
  simp only [Nat.add_comm, Nat.add_zero, Nat.zero_add]
  rfl

theorem tap2_10 (b : Fin 256) (o : Fin 128) (y z : Fin 8) :
    val_main_v302 (F := Ideal) x0 x1 x2 x3 x4 x5 (ix4 b o y z)
      = tap 64 (fun b y z c => rd4 (val_main_v235 (F := Ideal) x0 x1 x2 x3 x4) b c y z) (rd4 x5) b y z o 2 2 := by
  pointwise [val_main_v302, val_main_v301, val_main_v300, val_main_v299, val_main_v298]
  refine sum_eq_tap fun c => ?_
  rw [padded2, rd4_eq x5]
  simp only [Nat.add_comm, Nat.add_zero, Nat.zero_add]
  rfl

theorem tap2_11 (b : Fin 256) (o : Fin 128) (y z : Fin 8) :
    val_main_v308 (F := Ideal) x0 x1 x2 x3 x4 x5 (ix4 b o y z)
      = tap 64 (fun b y z c => rd4 (val_main_v235 (F := Ideal) x0 x1 x2 x3 x4) b c y z) (rd4 x5) b y z o 2 3 := by
  pointwise [val_main_v308, val_main_v307, val_main_v306, val_main_v305, val_main_v304]
  refine sum_eq_tap fun c => ?_
  rw [padded2, rd4_eq x5]
  simp only [Nat.add_comm, Nat.add_zero, Nat.zero_add]
  rfl

theorem tap2_12 (b : Fin 256) (o : Fin 128) (y z : Fin 8) :
    val_main_v314 (F := Ideal) x0 x1 x2 x3 x4 x5 (ix4 b o y z)
      = tap 64 (fun b y z c => rd4 (val_main_v235 (F := Ideal) x0 x1 x2 x3 x4) b c y z) (rd4 x5) b y z o 3 0 := by
  pointwise [val_main_v314, val_main_v313, val_main_v312, val_main_v311, val_main_v310]
  refine sum_eq_tap fun c => ?_
  rw [padded2, rd4_eq x5]
  simp only [Nat.add_comm, Nat.add_zero, Nat.zero_add]
  rfl

theorem tap2_13 (b : Fin 256) (o : Fin 128) (y z : Fin 8) :
    val_main_v320 (F := Ideal) x0 x1 x2 x3 x4 x5 (ix4 b o y z)
      = tap 64 (fun b y z c => rd4 (val_main_v235 (F := Ideal) x0 x1 x2 x3 x4) b c y z) (rd4 x5) b y z o 3 1 := by
  pointwise [val_main_v320, val_main_v319, val_main_v318, val_main_v317, val_main_v316]
  refine sum_eq_tap fun c => ?_
  rw [padded2, rd4_eq x5]
  simp only [Nat.add_comm, Nat.add_zero, Nat.zero_add]
  rfl

theorem tap2_14 (b : Fin 256) (o : Fin 128) (y z : Fin 8) :
    val_main_v326 (F := Ideal) x0 x1 x2 x3 x4 x5 (ix4 b o y z)
      = tap 64 (fun b y z c => rd4 (val_main_v235 (F := Ideal) x0 x1 x2 x3 x4) b c y z) (rd4 x5) b y z o 3 2 := by
  pointwise [val_main_v326, val_main_v325, val_main_v324, val_main_v323, val_main_v322]
  refine sum_eq_tap fun c => ?_
  rw [padded2, rd4_eq x5]
  simp only [Nat.add_comm, Nat.add_zero, Nat.zero_add]
  rfl

theorem tap2_15 (b : Fin 256) (o : Fin 128) (y z : Fin 8) :
    val_main_v332 (F := Ideal) x0 x1 x2 x3 x4 x5 (ix4 b o y z)
      = tap 64 (fun b y z c => rd4 (val_main_v235 (F := Ideal) x0 x1 x2 x3 x4) b c y z) (rd4 x5) b y z o 3 3 := by
  pointwise [val_main_v332, val_main_v331, val_main_v330, val_main_v329, val_main_v328]
  refine sum_eq_tap fun c => ?_
  rw [padded2, rd4_eq x5]
  simp only [Nat.add_comm, Nat.add_zero, Nat.zero_add]
  rfl

/-- The layer before its GELU. -/
theorem conv2 (b : Fin 256) (o : Fin 128) (y z : Fin 8) :
    val_main_v336 (F := Ideal) x0 x1 x2 x3 x4 x5 x6 (ix4 b o y z)
      = conv 64 (fun b y z c => rd4 (val_main_v235 (F := Ideal) x0 x1 x2 x3 x4) b c y z) (rd4 x5) (rd1 x6) b y z o := by
  pointwise [val_main_v336, val_main_v335, val_main_v334, val_main_v333, val_main_v327, val_main_v321, val_main_v315, val_main_v309, val_main_v303, val_main_v297, val_main_v291, val_main_v285, val_main_v279, val_main_v273, val_main_v267, val_main_v261, val_main_v255, val_main_v249, val_main_v243,
    val_main_v242, val_main_cst_9]
  rw [tap2_0, tap2_1, tap2_2, tap2_3, tap2_4, tap2_5, tap2_6, tap2_7, tap2_8, tap2_9, tap2_10, tap2_11, tap2_12, tap2_13, tap2_14, tap2_15, rd1_eq x6, conv_eq_chain]

/-- The layer. -/
theorem layer2 (b : Fin 256) (o : Fin 128) (y z : Fin 8) :
    val_main_v343 (F := Ideal) x0 x1 x2 x3 x4 x5 x6 (ix4 b o y z)
      = gelu (conv 64 (fun b y z c => rd4 (val_main_v235 (F := Ideal) x0 x1 x2 x3 x4) b c y z) (rd4 x5) (rd1 x6) b y z o) := by
  pointwise [val_main_v343, val_main_v342, val_main_v341, val_main_v340, val_main_v339, val_main_v338, val_main_v337, val_main_cst_10, val_main_cst_11]
  rw [conv2]
  exact gelu_erfc _

/-! ## Layer 4 -/

/-- The bordered image. -/
theorem padded3 (b : Fin 256) (k : Fin 128) (y z : Fin 10) :
    val_main_v344 (F := Ideal) x0 x1 x2 x3 x4 x5 x6 (ix4 b k y z)
      = bordered (fun b y z c => rd4 (val_main_v343 (F := Ideal) x0 x1 x2 x3 x4 x5 x6) b c y z) b y z k := by
  pointwise [val_main_v344, val_main_call3_v0, val_main_c_12]
  exact pad_eq_bordered' (val_main_v343 (F := Ideal) x0 x1 x2 x3 x4 x5 x6) b y z k pad_zero

theorem tap3_0 (b : Fin 256) (o : Fin 256) (y z : Fin 4) :
    val_main_v349 (F := Ideal) x0 x1 x2 x3 x4 x5 x6 x7 (ix4 b o y z)
      = tap 128 (fun b y z c => rd4 (val_main_v343 (F := Ideal) x0 x1 x2 x3 x4 x5 x6) b c y z) (rd4 x7) b y z o 0 0 := by
  pointwise [val_main_v349, val_main_v348, val_main_v347, val_main_v346, val_main_v345]
  refine sum_eq_tap fun c => ?_
  rw [padded3, rd4_eq x7]
  simp only [Nat.add_comm, Nat.add_zero, Nat.zero_add]
  rfl

theorem tap3_1 (b : Fin 256) (o : Fin 256) (y z : Fin 4) :
    val_main_v356 (F := Ideal) x0 x1 x2 x3 x4 x5 x6 x7 (ix4 b o y z)
      = tap 128 (fun b y z c => rd4 (val_main_v343 (F := Ideal) x0 x1 x2 x3 x4 x5 x6) b c y z) (rd4 x7) b y z o 0 1 := by
  pointwise [val_main_v356, val_main_v355, val_main_v354, val_main_v353, val_main_v352]
  refine sum_eq_tap fun c => ?_
  rw [padded3, rd4_eq x7]
  simp only [Nat.add_comm, Nat.add_zero, Nat.zero_add]
  rfl

theorem tap3_2 (b : Fin 256) (o : Fin 256) (y z : Fin 4) :
    val_main_v362 (F := Ideal) x0 x1 x2 x3 x4 x5 x6 x7 (ix4 b o y z)
      = tap 128 (fun b y z c => rd4 (val_main_v343 (F := Ideal) x0 x1 x2 x3 x4 x5 x6) b c y z) (rd4 x7) b y z o 0 2 := by
  pointwise [val_main_v362, val_main_v361, val_main_v360, val_main_v359, val_main_v358]
  refine sum_eq_tap fun c => ?_
  rw [padded3, rd4_eq x7]
  simp only [Nat.add_comm, Nat.add_zero, Nat.zero_add]
  rfl

theorem tap3_3 (b : Fin 256) (o : Fin 256) (y z : Fin 4) :
    val_main_v368 (F := Ideal) x0 x1 x2 x3 x4 x5 x6 x7 (ix4 b o y z)
      = tap 128 (fun b y z c => rd4 (val_main_v343 (F := Ideal) x0 x1 x2 x3 x4 x5 x6) b c y z) (rd4 x7) b y z o 0 3 := by
  pointwise [val_main_v368, val_main_v367, val_main_v366, val_main_v365, val_main_v364]
  refine sum_eq_tap fun c => ?_
  rw [padded3, rd4_eq x7]
  simp only [Nat.add_comm, Nat.add_zero, Nat.zero_add]
  rfl

theorem tap3_4 (b : Fin 256) (o : Fin 256) (y z : Fin 4) :
    val_main_v374 (F := Ideal) x0 x1 x2 x3 x4 x5 x6 x7 (ix4 b o y z)
      = tap 128 (fun b y z c => rd4 (val_main_v343 (F := Ideal) x0 x1 x2 x3 x4 x5 x6) b c y z) (rd4 x7) b y z o 1 0 := by
  pointwise [val_main_v374, val_main_v373, val_main_v372, val_main_v371, val_main_v370]
  refine sum_eq_tap fun c => ?_
  rw [padded3, rd4_eq x7]
  simp only [Nat.add_comm, Nat.add_zero, Nat.zero_add]
  rfl

theorem tap3_5 (b : Fin 256) (o : Fin 256) (y z : Fin 4) :
    val_main_v380 (F := Ideal) x0 x1 x2 x3 x4 x5 x6 x7 (ix4 b o y z)
      = tap 128 (fun b y z c => rd4 (val_main_v343 (F := Ideal) x0 x1 x2 x3 x4 x5 x6) b c y z) (rd4 x7) b y z o 1 1 := by
  pointwise [val_main_v380, val_main_v379, val_main_v378, val_main_v377, val_main_v376]
  refine sum_eq_tap fun c => ?_
  rw [padded3, rd4_eq x7]
  simp only [Nat.add_comm, Nat.add_zero, Nat.zero_add]
  rfl

theorem tap3_6 (b : Fin 256) (o : Fin 256) (y z : Fin 4) :
    val_main_v386 (F := Ideal) x0 x1 x2 x3 x4 x5 x6 x7 (ix4 b o y z)
      = tap 128 (fun b y z c => rd4 (val_main_v343 (F := Ideal) x0 x1 x2 x3 x4 x5 x6) b c y z) (rd4 x7) b y z o 1 2 := by
  pointwise [val_main_v386, val_main_v385, val_main_v384, val_main_v383, val_main_v382]
  refine sum_eq_tap fun c => ?_
  rw [padded3, rd4_eq x7]
  simp only [Nat.add_comm, Nat.add_zero, Nat.zero_add]
  rfl

theorem tap3_7 (b : Fin 256) (o : Fin 256) (y z : Fin 4) :
    val_main_v392 (F := Ideal) x0 x1 x2 x3 x4 x5 x6 x7 (ix4 b o y z)
      = tap 128 (fun b y z c => rd4 (val_main_v343 (F := Ideal) x0 x1 x2 x3 x4 x5 x6) b c y z) (rd4 x7) b y z o 1 3 := by
  pointwise [val_main_v392, val_main_v391, val_main_v390, val_main_v389, val_main_v388]
  refine sum_eq_tap fun c => ?_
  rw [padded3, rd4_eq x7]
  simp only [Nat.add_comm, Nat.add_zero, Nat.zero_add]
  rfl

theorem tap3_8 (b : Fin 256) (o : Fin 256) (y z : Fin 4) :
    val_main_v398 (F := Ideal) x0 x1 x2 x3 x4 x5 x6 x7 (ix4 b o y z)
      = tap 128 (fun b y z c => rd4 (val_main_v343 (F := Ideal) x0 x1 x2 x3 x4 x5 x6) b c y z) (rd4 x7) b y z o 2 0 := by
  pointwise [val_main_v398, val_main_v397, val_main_v396, val_main_v395, val_main_v394]
  refine sum_eq_tap fun c => ?_
  rw [padded3, rd4_eq x7]
  simp only [Nat.add_comm, Nat.add_zero, Nat.zero_add]
  rfl

theorem tap3_9 (b : Fin 256) (o : Fin 256) (y z : Fin 4) :
    val_main_v404 (F := Ideal) x0 x1 x2 x3 x4 x5 x6 x7 (ix4 b o y z)
      = tap 128 (fun b y z c => rd4 (val_main_v343 (F := Ideal) x0 x1 x2 x3 x4 x5 x6) b c y z) (rd4 x7) b y z o 2 1 := by
  pointwise [val_main_v404, val_main_v403, val_main_v402, val_main_v401, val_main_v400]
  refine sum_eq_tap fun c => ?_
  rw [padded3, rd4_eq x7]
  simp only [Nat.add_comm, Nat.add_zero, Nat.zero_add]
  rfl

theorem tap3_10 (b : Fin 256) (o : Fin 256) (y z : Fin 4) :
    val_main_v410 (F := Ideal) x0 x1 x2 x3 x4 x5 x6 x7 (ix4 b o y z)
      = tap 128 (fun b y z c => rd4 (val_main_v343 (F := Ideal) x0 x1 x2 x3 x4 x5 x6) b c y z) (rd4 x7) b y z o 2 2 := by
  pointwise [val_main_v410, val_main_v409, val_main_v408, val_main_v407, val_main_v406]
  refine sum_eq_tap fun c => ?_
  rw [padded3, rd4_eq x7]
  simp only [Nat.add_comm, Nat.add_zero, Nat.zero_add]
  rfl

theorem tap3_11 (b : Fin 256) (o : Fin 256) (y z : Fin 4) :
    val_main_v416 (F := Ideal) x0 x1 x2 x3 x4 x5 x6 x7 (ix4 b o y z)
      = tap 128 (fun b y z c => rd4 (val_main_v343 (F := Ideal) x0 x1 x2 x3 x4 x5 x6) b c y z) (rd4 x7) b y z o 2 3 := by
  pointwise [val_main_v416, val_main_v415, val_main_v414, val_main_v413, val_main_v412]
  refine sum_eq_tap fun c => ?_
  rw [padded3, rd4_eq x7]
  simp only [Nat.add_comm, Nat.add_zero, Nat.zero_add]
  rfl

theorem tap3_12 (b : Fin 256) (o : Fin 256) (y z : Fin 4) :
    val_main_v422 (F := Ideal) x0 x1 x2 x3 x4 x5 x6 x7 (ix4 b o y z)
      = tap 128 (fun b y z c => rd4 (val_main_v343 (F := Ideal) x0 x1 x2 x3 x4 x5 x6) b c y z) (rd4 x7) b y z o 3 0 := by
  pointwise [val_main_v422, val_main_v421, val_main_v420, val_main_v419, val_main_v418]
  refine sum_eq_tap fun c => ?_
  rw [padded3, rd4_eq x7]
  simp only [Nat.add_comm, Nat.add_zero, Nat.zero_add]
  rfl

theorem tap3_13 (b : Fin 256) (o : Fin 256) (y z : Fin 4) :
    val_main_v428 (F := Ideal) x0 x1 x2 x3 x4 x5 x6 x7 (ix4 b o y z)
      = tap 128 (fun b y z c => rd4 (val_main_v343 (F := Ideal) x0 x1 x2 x3 x4 x5 x6) b c y z) (rd4 x7) b y z o 3 1 := by
  pointwise [val_main_v428, val_main_v427, val_main_v426, val_main_v425, val_main_v424]
  refine sum_eq_tap fun c => ?_
  rw [padded3, rd4_eq x7]
  simp only [Nat.add_comm, Nat.add_zero, Nat.zero_add]
  rfl

theorem tap3_14 (b : Fin 256) (o : Fin 256) (y z : Fin 4) :
    val_main_v434 (F := Ideal) x0 x1 x2 x3 x4 x5 x6 x7 (ix4 b o y z)
      = tap 128 (fun b y z c => rd4 (val_main_v343 (F := Ideal) x0 x1 x2 x3 x4 x5 x6) b c y z) (rd4 x7) b y z o 3 2 := by
  pointwise [val_main_v434, val_main_v433, val_main_v432, val_main_v431, val_main_v430]
  refine sum_eq_tap fun c => ?_
  rw [padded3, rd4_eq x7]
  simp only [Nat.add_comm, Nat.add_zero, Nat.zero_add]
  rfl

theorem tap3_15 (b : Fin 256) (o : Fin 256) (y z : Fin 4) :
    val_main_v440 (F := Ideal) x0 x1 x2 x3 x4 x5 x6 x7 (ix4 b o y z)
      = tap 128 (fun b y z c => rd4 (val_main_v343 (F := Ideal) x0 x1 x2 x3 x4 x5 x6) b c y z) (rd4 x7) b y z o 3 3 := by
  pointwise [val_main_v440, val_main_v439, val_main_v438, val_main_v437, val_main_v436]
  refine sum_eq_tap fun c => ?_
  rw [padded3, rd4_eq x7]
  simp only [Nat.add_comm, Nat.add_zero, Nat.zero_add]
  rfl

/-- The layer before its GELU. -/
theorem conv3 (b : Fin 256) (o : Fin 256) (y z : Fin 4) :
    val_main_v444 (F := Ideal) x0 x1 x2 x3 x4 x5 x6 x7 x8 (ix4 b o y z)
      = conv 128 (fun b y z c => rd4 (val_main_v343 (F := Ideal) x0 x1 x2 x3 x4 x5 x6) b c y z) (rd4 x7) (rd1 x8) b y z o := by
  pointwise [val_main_v444, val_main_v443, val_main_v442, val_main_v441, val_main_v435, val_main_v429, val_main_v423, val_main_v417, val_main_v411, val_main_v405, val_main_v399, val_main_v393, val_main_v387, val_main_v381, val_main_v375, val_main_v369, val_main_v363, val_main_v357, val_main_v351,
    val_main_v350, val_main_cst_13]
  rw [tap3_0, tap3_1, tap3_2, tap3_3, tap3_4, tap3_5, tap3_6, tap3_7, tap3_8, tap3_9, tap3_10, tap3_11, tap3_12, tap3_13, tap3_14, tap3_15, rd1_eq x8, conv_eq_chain]

/-- The layer. -/
theorem layer3 (b : Fin 256) (o : Fin 256) (y z : Fin 4) :
    val_main_v451 (F := Ideal) x0 x1 x2 x3 x4 x5 x6 x7 x8 (ix4 b o y z)
      = gelu (conv 128 (fun b y z c => rd4 (val_main_v343 (F := Ideal) x0 x1 x2 x3 x4 x5 x6) b c y z) (rd4 x7) (rd1 x8) b y z o) := by
  pointwise [val_main_v451, val_main_v450, val_main_v449, val_main_v448, val_main_v447, val_main_v446, val_main_v445, val_main_cst_14, val_main_cst_15]
  rw [conv3]
  exact gelu_erfc _

end Cert.RefLayers

end
-- ==== Proof.Chain.lean ====
/-
  The kernel's four convolution layers through the run: each region's array is the layer of the array before it and of
  the arguments, and so each equals the reference's layer at every position.
-/
module

public import proofs.«01_k».proof.Proof.Region
public import proofs.«01_k».proof.Proof.HostReads
public import proofs.«01_k».proof.Proof.RefLayers

@[expose] public section

set_option maxRecDepth 16384

noncomputable section

namespace Cert.Layers

open Idealize.ShloMosaic Idealize.ShloMosaic.TcCoe Idealize.SL.Sem Cert.Spec Cert.KernelIdeal Cert.KernelIdeal.Gen

variable (m : (ℓ : Loc nD τ sig) → Buf (Elt Ideal) ℓ) (ρ : Dev nD → PrngReg) (c : Dev nD)

/-! ## The arguments -/

/-- Argument 0 on device `c`. -/
def a0 : S256x3x64x64.Idx → EReal := m ((c : Thread nD τ).loc main_arg0)

/-- Argument 1 on device `c`. -/
def a1 : S32x3x4x4.Idx → EReal := m ((c : Thread nD τ).loc main_arg1)

/-- Argument 2 on device `c`. -/
def a2 : S32.Idx → EReal := m ((c : Thread nD τ).loc main_arg2)

/-- Argument 3 on device `c`. -/
def a3 : S64x32x4x4.Idx → EReal := m ((c : Thread nD τ).loc main_arg3)

/-- Argument 4 on device `c`. -/
def a4 : S64.Idx → EReal := m ((c : Thread nD τ).loc main_arg4)

/-- Argument 5 on device `c`. -/
def a5 : S128x64x4x4.Idx → EReal := m ((c : Thread nD τ).loc main_arg5)

/-- Argument 6 on device `c`. -/
def a6 : S128.Idx → EReal := m ((c : Thread nD τ).loc main_arg6)

/-- Argument 7 on device `c`. -/
def a7 : S256x128x4x4.Idx → EReal := m ((c : Thread nD τ).loc main_arg7)

/-- Argument 8 on device `c`. -/
def a8 : S256.Idx → EReal := m ((c : Thread nD τ).loc main_arg8)

/-- Argument 9 on device `c`. -/
def a9 : S256x4096.Idx → EReal := m ((c : Thread nD τ).loc main_arg9)

/-- Argument 10 on device `c`. -/
def a10 : S256.Idx → EReal := m ((c : Thread nD τ).loc main_arg10)

/-- Argument 11 on device `c`. -/
def a11 : S3x256x32.Idx → EReal := m ((c : Thread nD τ).loc main_arg11)

/-- Argument 12 on device `c`. -/
def a12 : S3x32.Idx → EReal := m ((c : Thread nD τ).loc main_arg12)

/-- Argument 13 on device `c`. -/
def a13 : S3x256x32.Idx → EReal := m ((c : Thread nD τ).loc main_arg13)

/-! ## The weights, kept from the first stretch to the region that reads them -/

theorem weights0 : (W3 m ρ c (Proc.devRef .tc main_v20) : _) = wmat0 (a1 m c) := by
  refine (read_wmat0 (W2 m ρ c)).trans ?_
  exact congrArg wmat0 (W2_args m ρ c main_arg1 (by decide))

theorem bias0 : (W3 m ρ c (Proc.devRef .tc main_v30) : _) = brow0 (a2 m c) :=
  (read_brow0 (W2 m ρ c)).trans (congrArg brow0 (W2_args m ρ c main_arg2 (by decide)))

theorem weights1 : (W7 m ρ c (Proc.devRef .tc main_v23) : _) = wmat1 (a3 m c) := by
  refine (W7_of m ρ c main_v23 (by decide)).trans ?_
  refine (W6_of m ρ c main_v23 (by decide)).trans ?_
  refine (W5_of m ρ c main_v23 (by decide)).trans ?_
  refine (W4_of m ρ c main_v23 (by decide)).trans ?_
  refine (read_wmat1 (W2 m ρ c)).trans ?_
  exact congrArg wmat1 (W2_args m ρ c main_arg3 (by decide))

theorem bias1 : (W7 m ρ c (Proc.devRef .tc main_v36) : _) = brow1 (a4 m c) :=
  (read_brow1 (W6 m ρ c)).trans (congrArg brow1 (W6_args m ρ c main_arg4 (by decide)))

theorem weights2 : (W11 m ρ c (Proc.devRef .tc main_v26) : _) = wmat2 (a5 m c) := by
  refine (W11_of m ρ c main_v26 (by decide)).trans ?_
  refine (W10_of m ρ c main_v26 (by decide)).trans ?_
  refine (W9_of m ρ c main_v26 (by decide)).trans ?_
  refine (W8_of m ρ c main_v26 (by decide)).trans ?_
  refine (W7_of m ρ c main_v26 (by decide)).trans ?_
  refine (W6_of m ρ c main_v26 (by decide)).trans ?_
  refine (W5_of m ρ c main_v26 (by decide)).trans ?_
  refine (W4_of m ρ c main_v26 (by decide)).trans ?_
  refine (read_wmat2 (W2 m ρ c)).trans ?_
  exact congrArg wmat2 (W2_args m ρ c main_arg5 (by decide))

theorem bias2 : (W11 m ρ c (Proc.devRef .tc main_v42) : _) = brow2 (a6 m c) :=
  (read_brow2 (W10 m ρ c)).trans (congrArg brow2 (W10_args m ρ c main_arg6 (by decide)))

theorem weights3 : (W15 m ρ c (Proc.devRef .tc main_v29) : _) = wmat3 (a7 m c) := by
  refine (W15_of m ρ c main_v29 (by decide)).trans ?_
  refine (W14_of m ρ c main_v29 (by decide)).trans ?_
  refine (W13_of m ρ c main_v29 (by decide)).trans ?_
  refine (W12_of m ρ c main_v29 (by decide)).trans ?_
  refine (W11_of m ρ c main_v29 (by decide)).trans ?_
  refine (W10_of m ρ c main_v29 (by decide)).trans ?_
  refine (W9_of m ρ c main_v29 (by decide)).trans ?_
  refine (W8_of m ρ c main_v29 (by decide)).trans ?_
  refine (W7_of m ρ c main_v29 (by decide)).trans ?_
  refine (W6_of m ρ c main_v29 (by decide)).trans ?_
  refine (W5_of m ρ c main_v29 (by decide)).trans ?_
  refine (W4_of m ρ c main_v29 (by decide)).trans ?_
  refine (read_wmat3 (W2 m ρ c)).trans ?_
  exact congrArg wmat3 (W2_args m ρ c main_arg7 (by decide))

theorem bias3 : (W15 m ρ c (Proc.devRef .tc main_v48) : _) = brow3 (a8 m c) :=
  (read_brow3 (W14 m ρ c)).trans (congrArg brow3 (W14_args m ρ c main_arg8 (by decide)))

/-! ## The layers -/

theorem image0 : (W3 m ρ c (Proc.devRef .tc main_v18) : _) = patches0 (padded0 (channelsLast (a0 m c))) :=
  (read_patches0 (W2 m ρ c)).trans (congrArg patches0 (read_padded0 (W0 m ρ c)))

/-- Layer 1 of the kernel, at an index. -/
theorem out0 (b : Fin 256) (y z : Fin 32) (o : Fin 32) :
    (W4 m ρ c (Proc.devRef .tc main_v31) : S256x32x32x32.Idx → EReal) (ix4 b y z o)
      = gelu (conv 3 (fun b y z c' => rd4 (a0 m c) b c' y z) (rd4 (a1 m c)) (rd1 (a2 m c)) b y z o) := by
  refine (congrFun ((W4_arr m ρ c 3).trans (arr0 (V3 m ρ) c)) (ix4 b y z o)).trans ?_
  change gelu ((∑ k ∈ Finset.range 48, rd4 (n0 := 256) (n1 := 32) (n2 := 32) (n3 := 48) (W3 m ρ c main_v18) b y z k
    * rd2 (n0 := 48) (n1 := 32) (W3 m ρ c main_v20) k o) + rd2 (n0 := 1) (n1 := 32) (W3 m ρ c main_v30) 0 o) = _
  rw [image0, weights0, bias0]
  congr 1
  exact dense_eq_conv (fun i hi j hj c' hc => rd4_patches0 _ b.isLt y.isLt z.isLt hi hj hc)
    (fun i hi j hj c' hc => rd2_wmat0 _ hi hj hc o.isLt) (rd2_brow0 _ _)

theorem image1 : (W7 m ρ c (Proc.devRef .tc main_v35) : _)
    = folded1 (padded1 (W4 m ρ c (Proc.devRef .tc main_v31))) :=
  read_folded1 (W4 m ρ c)

/-- Layer 2 of the kernel, at an index. -/
theorem out1 (b : Fin 256) (y z : Fin 16) (o : Fin 64) :
    (W8 m ρ c (Proc.devRef .tc main_v37) : S256x16x16x64.Idx → EReal) (ix4 b y z o)
      = gelu (conv 32 (rd4 (n0 := 256) (n1 := 32) (n2 := 32) (n3 := 32) (W4 m ρ c (Proc.devRef .tc main_v31)))
          (rd4 (a3 m c)) (rd1 (a4 m c)) b y z o) := by
  refine (congrFun ((W8_arr m ρ c 3).trans (arr1 (V7 m ρ) c)) (ix4 b y z o)).trans ?_
  change gelu (patch (4 * 32) (rd4 (n0 := 256) (n1 := 17) (n2 := 17) (n3 := 128) (W7 m ρ c main_v35))
    (rd2 (n0 := 512) (n1 := 64) (W7 m ρ c main_v23)) (rd2 (n0 := 1) (n1 := 64) (W7 m ρ c main_v36)) b y z o) = _
  rw [image1, weights1, bias1]
  congr 1
  exact patch_eq_conv
    (fun Y hY Z hZ q hq c' hc => rd4_folded1 _ b.isLt (by omega) (by omega) hq hc)
    (fun t ht q hq c' hc => rd2_wmat1 _ ht hq hc o.isLt) (rd2_brow1 _ _)

theorem image2 : (W11 m ρ c (Proc.devRef .tc main_v41) : _)
    = folded2 (padded2 (W8 m ρ c (Proc.devRef .tc main_v37))) :=
  read_folded2 (W8 m ρ c)

/-- Layer 3 of the kernel, at an index. -/
theorem out2 (b : Fin 256) (y z : Fin 8) (o : Fin 128) :
    (W12 m ρ c (Proc.devRef .tc main_v43) : S256x8x8x128.Idx → EReal) (ix4 b y z o)
      = gelu (conv 64 (rd4 (n0 := 256) (n1 := 16) (n2 := 16) (n3 := 64) (W8 m ρ c (Proc.devRef .tc main_v37)))
          (rd4 (a5 m c)) (rd1 (a6 m c)) b y z o) := by
  refine (congrFun ((W12_arr m ρ c 3).trans (arr2 (V11 m ρ) c)) (ix4 b y z o)).trans ?_
  change gelu (patch (4 * 64) (rd4 (n0 := 256) (n1 := 9) (n2 := 9) (n3 := 256) (W11 m ρ c main_v41))
    (rd2 (n0 := 1024) (n1 := 128) (W11 m ρ c main_v26)) (rd2 (n0 := 1) (n1 := 128) (W11 m ρ c main_v42)) b y z o) = _
  rw [image2, weights2, bias2]
  congr 1
  exact patch_eq_conv
    (fun Y hY Z hZ q hq c' hc => rd4_folded2 _ b.isLt (by omega) (by omega) hq hc)
    (fun t ht q hq c' hc => rd2_wmat2 _ ht hq hc o.isLt) (rd2_brow2 _ _)

theorem image3 : (W15 m ρ c (Proc.devRef .tc main_v47) : _)
    = folded3 (padded3 (W12 m ρ c (Proc.devRef .tc main_v43))) :=
  read_folded3 (W12 m ρ c)

/-- Layer 4 of the kernel, at an index. -/
theorem out3 (b : Fin 256) (y z : Fin 4) (o : Fin 256) :
    (W16 m ρ c (Proc.devRef .tc main_v49) : S256x4x4x256.Idx → EReal) (ix4 b y z o)
      = gelu (conv 128 (rd4 (n0 := 256) (n1 := 8) (n2 := 8) (n3 := 128) (W12 m ρ c (Proc.devRef .tc main_v43)))
          (rd4 (a7 m c)) (rd1 (a8 m c)) b y z o) := by
  refine (congrFun ((W16_arr m ρ c 3).trans (arr3 (V15 m ρ) c)) (ix4 b y z o)).trans ?_
  change gelu (patch (4 * 128) (rd4 (n0 := 256) (n1 := 5) (n2 := 5) (n3 := 512) (W15 m ρ c main_v47))
    (rd2 (n0 := 2048) (n1 := 256) (W15 m ρ c main_v29)) (rd2 (n0 := 1) (n1 := 256) (W15 m ρ c main_v48)) b y z o) = _
  rw [image3, weights3, bias3]
  congr 1
  exact patch_eq_conv
    (fun Y hY Z hZ q hq c' hc => rd4_folded3 _ b.isLt (by omega) (by omega) hq hc)
    (fun t ht q hq c' hc => rd2_wmat3 _ ht hq hc o.isLt) (rd2_brow3 _ _)

/-! ## Against the reference's layers -/

/-- Two arrays of rank 4 with their last three coordinates turned, equal at every index, are equal at natural numbers. -/
theorem rd4_turn {n0 n1 n2 n3 : ℕ} {x : (⟨4, ![n0, n1, n2, n3]⟩ : Shape).Idx → EReal}
    {x' : (⟨4, ![n0, n3, n1, n2]⟩ : Shape).Idx → EReal}
    (h : ∀ (b : Fin n0) (y : Fin n1) (z : Fin n2) (o : Fin n3), x (ix4 b y z o) = x' (ix4 b o y z)) :
    rd4 x = fun b y z o => rd4 x' b o y z := by
  funext b y z o
  by_cases hb : b < n0 ∧ y < n1 ∧ z < n2 ∧ o < n3
  · obtain ⟨h0, h1, h2, h3⟩ := hb
    rw [rd4_of_lt _ h0 h1 h2 h3, rd4_of_lt _ h0 h3 h1 h2]
    exact h _ _ _ _
  · unfold rd4
    rw [dif_neg hb, dif_neg (by tauto)]

theorem same0 : rd4 (n0 := 256) (n1 := 32) (n2 := 32) (n3 := 32) (W4 m ρ c (Proc.devRef .tc main_v31))
    = fun b y z o => rd4 (n0 := 256) (n1 := 32) (n2 := 32) (n3 := 32)
        (Cert.ReferenceIdeal.Read.val_main_v127 (F := Ideal) (a0 m c) (a1 m c) (a2 m c)) b o y z := by
  refine rd4_turn fun b y z o => ?_
  rw [out0, Cert.RefLayers.layer0]

theorem same1 : rd4 (n0 := 256) (n1 := 16) (n2 := 16) (n3 := 64) (W8 m ρ c (Proc.devRef .tc main_v37))
    = fun b y z o => rd4 (n0 := 256) (n1 := 64) (n2 := 16) (n3 := 16)
        (Cert.ReferenceIdeal.Read.val_main_v235 (F := Ideal) (a0 m c) (a1 m c) (a2 m c) (a3 m c) (a4 m c)) b o y z := by
  refine rd4_turn fun b y z o => ?_
  rw [out1, Cert.RefLayers.layer1, same0]

theorem same2 : rd4 (n0 := 256) (n1 := 8) (n2 := 8) (n3 := 128) (W12 m ρ c (Proc.devRef .tc main_v43))
    = fun b y z o => rd4 (n0 := 256) (n1 := 128) (n2 := 8) (n3 := 8)
        (Cert.ReferenceIdeal.Read.val_main_v343 (F := Ideal) (a0 m c) (a1 m c) (a2 m c) (a3 m c) (a4 m c) (a5 m c) (a6 m c)) b o y z := by
  refine rd4_turn fun b y z o => ?_
  rw [out2, Cert.RefLayers.layer2, same1]

theorem same3 : rd4 (n0 := 256) (n1 := 4) (n2 := 4) (n3 := 256) (W16 m ρ c (Proc.devRef .tc main_v49))
    = fun b y z o => rd4 (n0 := 256) (n1 := 256) (n2 := 4) (n3 := 4)
        (Cert.ReferenceIdeal.Read.val_main_v451 (F := Ideal) (a0 m c) (a1 m c) (a2 m c) (a3 m c) (a4 m c) (a5 m c) (a6 m c) (a7 m c) (a8 m c)) b o y z := by
  refine rd4_turn fun b y z o => ?_
  rw [out3, Cert.RefLayers.layer3, same2]

end Cert.Layers

end
-- ==== Proof.Region4.lean ====
/-
  The four arrays the kernel's last region leaves, as functions of the arrays it finds: its one point's blocks are the whole
  arrays, and each of its stores is one level of one of them.
-/
module

public import proofs.«01_k».proof.Proof.Quant
public import proofs.«01_k».proof.Proof.Gen.KernelIdeal.Frame

@[expose] public section

set_option maxRecDepth 16384

noncomputable section

namespace Cert.Layers

open Idealize.ShloMosaic Idealize.ShloMosaic.TcCoe Cert.Spec Cert.KernelIdeal Cert.KernelIdeal.Gen Idealize.SL.Sem
open Idealize.ShloMosaic.Pipeline (Dat)

/-! ### What the body loads -/

theorem emb_level (l : Fin 3) (j : Fin 256) (d : Fin 32)
    (inb : ∀ a, (![l.val, 0, 0] : Fin 3 → ℕ) a + S1x256x32.size a ≤ S3x256x32.size a) :
    (Rect.unit (s := S3x256x32) ![l.val, 0, 0] S1x256x32.size inb).emb (ix3 0 j d) = ix3 l j d := by
  refine funext fun a => Fin.ext ?_
  change ((Rect.unit (s := S3x256x32) ![l.val, 0, 0] S1x256x32.size inb).idx (ix3 0 j d) a).val = _
  rw [Rect.idx_unit_val]
  fin_cases a <;> simp

theorem emb_row32 (l : Fin 3) (d : Fin 32)
    (inb : ∀ a, (![l.val, 0] : Fin 2 → ℕ) a + S1x32.size a ≤ S3x32.size a) :
    (Rect.unit (s := S3x32) ![l.val, 0] S1x32.size inb).emb (ix2 0 d) = ix2 l d := by
  refine funext fun a => Fin.ext ?_
  change ((Rect.unit (s := S3x32) ![l.val, 0] S1x32.size inb).idx (ix2 0 d) a).val = _
  rw [Rect.idx_unit_val]
  fin_cases a <;> simp

theorem emb_row256 (l : Fin 3) (d : Fin 256)
    (inb : ∀ a, (![l.val, 0] : Fin 2 → ℕ) a + S1x256.size a ≤ S3x256.size a) :
    (Rect.unit (s := S3x256) ![l.val, 0] S1x256.size inb).emb (ix2 0 d) = ix2 l d := by
  refine funext fun a => Fin.ext ?_
  change ((Rect.unit (s := S3x256) ![l.val, 0] S1x256.size inb).idx (ix2 0 d) a).val = _
  rw [Rect.idx_unit_val]
  fin_cases a <;> simp

theorem ld_level (x : S3x256x32.Idx → EReal) (l : Fin 3) (j : Fin 256) (d : Fin 32)
    (inb : ∀ a, (![l.val, 0, 0] : Fin 3 → ℕ) a + S1x256x32.size a ≤ S3x256x32.size a) :
    View.ld (Val := Elt Ideal) (e' := .f32) x (Rect.unit (s := S3x256x32) ![l.val, 0, 0] S1x256x32.size inb) (ix3 0 j d)
      = x (ix3 l j d) :=
  congrArg x (emb_level l j d inb)

theorem ld_row32 (x : S3x32.Idx → EReal) (l : Fin 3) (d : Fin 32)
    (inb : ∀ a, (![l.val, 0] : Fin 2 → ℕ) a + S1x32.size a ≤ S3x32.size a) :
    View.ld (Val := Elt Ideal) (e' := .f32) x (Rect.unit (s := S3x32) ![l.val, 0] S1x32.size inb) (ix2 0 d) = x (ix2 l d) :=
  congrArg x (emb_row32 l d inb)

theorem ld_whole2 {n0 n1 : ℕ} (x : (⟨2, ![n0, n1]⟩ : Shape).Idx → EReal)
    (inb : ∀ a, (![0, 0] : Fin 2 → ℕ) a + (⟨2, ![n0, n1]⟩ : Shape).size a ≤ (⟨2, ![n0, n1]⟩ : Shape).size a) :
    View.ld (Val := Elt Ideal) (e' := .f32) x
      (Rect.unit (s := (⟨2, ![n0, n1]⟩ : Shape)) ![0, 0] (⟨2, ![n0, n1]⟩ : Shape).size inb) = x := by
  funext i
  refine congrArg x (funext fun a => Fin.ext ?_)
  fin_cases a <;> simp [Rect.unit]

/-! ### The four results -/

section Results
variable (x0 : S256x4096.Idx → EReal) (x1 : S4096x256.Idx → EReal) (x2 : S1x256.Idx → EReal)
  (x3 : S3x256x32.Idx → EReal) (x4 : S3x32.Idx → EReal) (x5 : S3x256x32.Idx → EReal)

/-- The features of row `n`. -/
def feat (n j : Fin 256) : EReal := ∑ k, x0 (ix2 n k) * x1 (ix2 k j) + x2 (ix2 0 j)

/-- The code of row `n` at level `l`. -/
def codeAt (l : Fin 3) (n : Fin 256) (d : Fin 32) : EReal :=
  code l (feat x0 x1 x2 n) (fun j d => x3 (ix3 l j d)) (fun d => x4 (ix2 l d)) d

/-- The entry of level `l`'s codebook chosen for row `n`. -/
def pickAt (l : Fin 3) (n : Fin 256) : Fin 256 :=
  pick l (codeAt x0 x1 x2 x3 x4 l n) fun k d => x5 (ix3 l k d)

/-- The squared error of level `l`. -/
def errAt (l : Fin 3) : EReal := err l (codeAt x0 x1 x2 x3 x4 l) fun k d => x5 (ix3 l k d)

theorem pay35_apply (n j : Fin 256) : k4_pay35 (F := Ideal) x0 x1 x2 x3 x4 x5 (ix2 n j) = feat x0 x1 x2 n j := by
  unfold k4_pay35
  rw [ld_whole2 x0, ld_whole2 x1, ld_whole2 x2]
  exact feat_apply x0 x1 x2 n j

theorem code_at0 (n : Fin 256) (d : Fin 32) :
    k4_pay36 (F := Ideal) x0 x1 x2 x3 x4 x5 (ix2 n d) = codeAt x0 x1 x2 x3 x4 0 n d := by
  unfold k4_pay36
  refine (code_apply0 _ _ _ _ _ n d).trans ?_
  unfold codeAt
  congr 1
  · funext j; exact pay35_apply x0 x1 x2 x3 x4 x5 n j
  · funext j d; exact ld_level x3 0 j d _
  · funext d; exact ld_row32 x4 0 d _

theorem code_at1 (n : Fin 256) (d : Fin 32) :
    k4_pay21 (F := Ideal) (k4_pay40 x0 x1 x2 x3 x4 x5) (k4_pay41 x0 x1 x2 x3 x4 x5) (ix2 n d)
      = codeAt x0 x1 x2 x3 x4 1 n d := by
  unfold k4_pay40 k4_pay41
  refine (code_apply1 _ _ _ n d).trans ?_
  unfold codeAt
  congr 1
  · funext j; exact pay35_apply x0 x1 x2 x3 x4 x5 n j
  · funext j d; exact ld_level x3 1 j d _
  · funext d; exact ld_row32 x4 1 d _

theorem code_at2 (n : Fin 256) (d : Fin 32) :
    k4_pay42 (F := Ideal) x0 x1 x2 x3 x4 x5 (ix2 n d) = codeAt x0 x1 x2 x3 x4 2 n d := by
  unfold k4_pay42
  refine (code_apply2 _ _ _ n d).trans ?_
  unfold codeAt
  congr 1
  · funext j; exact pay35_apply x0 x1 x2 x3 x4 x5 n j
  · funext j d; exact ld_level x3 2 j d _
  · funext d; exact ld_row32 x4 2 d _

theorem pick_at0 (n : Fin 256) :
    k4_pay12 (F := Ideal) (k4_pay38 x0 x1 x2 x3 x4 x5) (k4_pay39 x0 x1 x2 x3 x4 x5) (ix1 n)
      = BitVec.ofNat 32 (pickAt x0 x1 x2 x3 x4 x5 0 n).val := by
  unfold k4_pay38 k4_pay39
  refine (pick_apply0 _ _ _ _ _ _ n).trans ?_
  unfold pickAt
  congr 3
  · funext d; exact code_at0 x0 x1 x2 x3 x4 x5 n d
  · funext k d; exact ld_level x5 0 k d _

theorem pick_at1 (n : Fin 256) :
    k4_pay23 (F := Ideal) (k4_pay40 x0 x1 x2 x3 x4 x5) (k4_pay41 x0 x1 x2 x3 x4 x5) (View.ld x5 r4_6) (ix1 n)
      = BitVec.ofNat 32 (pickAt x0 x1 x2 x3 x4 x5 1 n).val := by
  refine (pick_apply1 _ _ _ n).trans ?_
  unfold pickAt
  congr 3
  · funext d; exact code_at1 x0 x1 x2 x3 x4 x5 n d
  · funext k d; exact ld_level x5 1 k d _

theorem pick_at2 (n : Fin 256) :
    k4_pay33 (F := Ideal) (k4_pay35 x0 x1 x2 x3 x4 x5) (View.ld x3 r4_9) (View.ld x4 r4_10) (View.ld x5 r4_9) (ix1 n)
      = BitVec.ofNat 32 (pickAt x0 x1 x2 x3 x4 x5 2 n).val := by
  refine (pick_apply2 _ _ _ _ n).trans ?_
  unfold pickAt
  congr 3
  · funext d; exact code_at2 x0 x1 x2 x3 x4 x5 n d
  · funext k d; exact ld_level x5 2 k d _

theorem near_at0 (n : Fin 256) (d : Fin 32) :
    k4_pay13 (F := Ideal) (k4_pay37 x0 x1 x2 x3 x4 x5) (k4_pay38 x0 x1 x2 x3 x4 x5) (k4_pay39 x0 x1 x2 x3 x4 x5) (ix2 n d)
      = x5 (ix3 0 (pickAt x0 x1 x2 x3 x4 x5 0 n) d) := by
  unfold k4_pay37 k4_pay38 k4_pay39
  refine (near_apply0 _ _ _ _ _ _ n d).trans ?_
  refine (ld_level x5 0 _ d _).trans ?_
  congr 2
  unfold pickAt
  congr 1
  · funext d; exact code_at0 x0 x1 x2 x3 x4 x5 n d
  · funext k d; exact ld_level x5 0 k d _

theorem near_at1 (n : Fin 256) (d : Fin 32) :
    k4_pay24 (F := Ideal) (k4_pay40 x0 x1 x2 x3 x4 x5) (k4_pay41 x0 x1 x2 x3 x4 x5) (View.ld x5 r4_6) (ix2 n d)
      = x5 (ix3 1 (pickAt x0 x1 x2 x3 x4 x5 1 n) d) := by
  refine (near_apply1 _ _ _ n d).trans ?_
  refine (ld_level x5 1 _ d _).trans ?_
  congr 2
  unfold pickAt
  congr 1
  · funext d; exact code_at1 x0 x1 x2 x3 x4 x5 n d
  · funext k d; exact ld_level x5 1 k d _

theorem near_at2 (n : Fin 256) (d : Fin 32) :
    k4_pay1 (F := Ideal) (k4_pay43 (F := Ideal) x0 x1 x2 x3 x4 x5) (k4_pay44 (F := Ideal) x0 x1 x2 x3 x4 x5) (ix2 n d)
      = x5 (ix3 2 (pickAt x0 x1 x2 x3 x4 x5 2 n) d) := by
  unfold k4_pay43 k4_pay44
  refine (near_apply2 _ _ _ _ n d).trans ?_
  refine (ld_level x5 2 _ d _).trans ?_
  congr 2
  unfold pickAt
  congr 1
  · funext d; exact code_at2 x0 x1 x2 x3 x4 x5 n d
  · funext k d; exact ld_level x5 2 k d _

/-- The codes the region leaves. -/
theorem out7 (l : Fin 3) (n : Fin 256) (d : Fin 32) :
    out4_7 (F := Ideal) x0 x1 x2 x3 x4 x5 (ix3 l n d) = codeAt x0 x1 x2 x3 x4 l n d := by
  refine (View.canon_apply_of_pieces (Val := Elt Ideal) (e := .f32)
    (fun i : S3x256x32.Idx => codeAt x0 x1 x2 x3 x4 (i 0) (i 1) (i 2)) _ ?_ _ (cover4_7 _ _ _ _)).trans rfl
  simp only [List.forall_mem_cons, List.not_mem_nil, false_imp_iff, implies_true, and_true]
  refine ⟨fun i => ?_, fun i => ?_, fun i => ?_⟩
  · change S1x256x32.Idx at i
    obtain ⟨u, n, d, rfl⟩ : ∃ u n d, i = ix3 u n d := ⟨i 0, i 1, i 2, eq_ix3 i⟩
    obtain rfl : u = 0 := Subsingleton.elim _ _
    refine Eq.trans ?_ (congrArg (fun i : S3x256x32.Idx => codeAt x0 x1 x2 x3 x4 (i 0) (i 1) (i 2)) (emb_level 2 n d _).symm)
    refine Eq.trans ?_ (code_at2 x0 x1 x2 x3 x4 x5 n d)
    pointwise [k4_pay3]
  · change S1x256x32.Idx at i
    obtain ⟨u, n, d, rfl⟩ : ∃ u n d, i = ix3 u n d := ⟨i 0, i 1, i 2, eq_ix3 i⟩
    obtain rfl : u = 0 := Subsingleton.elim _ _
    refine Eq.trans ?_ (congrArg (fun i : S3x256x32.Idx => codeAt x0 x1 x2 x3 x4 (i 0) (i 1) (i 2)) (emb_level 1 n d _).symm)
    refine Eq.trans ?_ (code_at1 x0 x1 x2 x3 x4 x5 n d)
    pointwise [k4_pay28]
  · change S1x256x32.Idx at i
    obtain ⟨u, n, d, rfl⟩ : ∃ u n d, i = ix3 u n d := ⟨i 0, i 1, i 2, eq_ix3 i⟩
    obtain rfl : u = 0 := Subsingleton.elim _ _
    refine Eq.trans ?_ (congrArg (fun i : S3x256x32.Idx => codeAt x0 x1 x2 x3 x4 (i 0) (i 1) (i 2)) (emb_level 0 n d _).symm)
    refine Eq.trans ?_ (code_at0 x0 x1 x2 x3 x4 x5 n d)
    pointwise [k4_pay16]

/-- The chosen entries moved to, as the region leaves them: the code and what it lacks. -/
def moved (l : Fin 3) (n : Fin 256) (d : Fin 32) : EReal :=
  codeAt x0 x1 x2 x3 x4 l n d + (x5 (ix3 l (pickAt x0 x1 x2 x3 x4 x5 l n) d) - codeAt x0 x1 x2 x3 x4 l n d)

theorem out6 (l : Fin 3) (n : Fin 256) (d : Fin 32) :
    out4_6 (F := Ideal) x0 x1 x2 x3 x4 x5 (ix3 l n d) = moved x0 x1 x2 x3 x4 x5 l n d := by
  refine (View.canon_apply_of_pieces (Val := Elt Ideal) (e := .f32)
    (fun i : S3x256x32.Idx => moved x0 x1 x2 x3 x4 x5 (i 0) (i 1) (i 2)) _ ?_ _ (cover4_6 _ _ _ _)).trans rfl
  simp only [List.forall_mem_cons, List.not_mem_nil, false_imp_iff, implies_true, and_true]
  refine ⟨fun i => ?_, fun i => ?_, fun i => ?_⟩
  · change S1x256x32.Idx at i
    obtain ⟨u, n, d, rfl⟩ : ∃ u n d, i = ix3 u n d := ⟨i 0, i 1, i 2, eq_ix3 i⟩
    obtain rfl : u = 0 := Subsingleton.elim _ _
    refine Eq.trans ?_ (congrArg (fun i : S3x256x32.Idx => moved x0 x1 x2 x3 x4 x5 (i 0) (i 1) (i 2)) (emb_level 2 n d _).symm)
    pointwise [k4_pay2]
    rw [code_at2, near_at2]
    rfl
  · change S1x256x32.Idx at i
    obtain ⟨u, n, d, rfl⟩ : ∃ u n d, i = ix3 u n d := ⟨i 0, i 1, i 2, eq_ix3 i⟩
    obtain rfl : u = 0 := Subsingleton.elim _ _
    refine Eq.trans ?_ (congrArg (fun i : S3x256x32.Idx => moved x0 x1 x2 x3 x4 x5 (i 0) (i 1) (i 2)) (emb_level 1 n d _).symm)
    pointwise [k4_pay27, k4_pay26]
    rw [code_at1, near_at1]
    rfl
  · change S1x256x32.Idx at i
    obtain ⟨u, n, d, rfl⟩ : ∃ u n d, i = ix3 u n d := ⟨i 0, i 1, i 2, eq_ix3 i⟩
    obtain rfl : u = 0 := Subsingleton.elim _ _
    refine Eq.trans ?_ (congrArg (fun i : S3x256x32.Idx => moved x0 x1 x2 x3 x4 x5 (i 0) (i 1) (i 2)) (emb_level 0 n d _).symm)
    pointwise [k4_pay15]
    rw [code_at0, near_at0]
    rfl

theorem out8 (l : Fin 3) (n : Fin 256) :
    out4_8 (F := Ideal) x0 x1 x2 x3 x4 x5 (ix2 l n) = BitVec.ofNat 32 (pickAt x0 x1 x2 x3 x4 x5 l n).val := by
  refine (View.canon_apply_of_pieces (Val := Elt Ideal) (e := .i32)
    (fun i : S3x256.Idx => BitVec.ofNat 32 (pickAt x0 x1 x2 x3 x4 x5 (i 0) (i 1)).val) _ ?_ _ (cover4_8 _ _ _ _)).trans rfl
  simp only [List.forall_mem_cons, List.not_mem_nil, false_imp_iff, implies_true, and_true]
  refine ⟨fun i => ?_, fun i => ?_, fun i => ?_⟩
  · change S1x256.Idx at i
    obtain ⟨u, n, rfl⟩ : ∃ u n, i = ix2 u n := ⟨i 0, i 1, eq_ix2 i⟩
    obtain rfl : u = 0 := Subsingleton.elim _ _
    refine Eq.trans ?_ (congrArg (fun i : S3x256.Idx => BitVec.ofNat 32 (pickAt x0 x1 x2 x3 x4 x5 (i 0) (i 1)).val)
      (emb_row256 2 n _).symm)
    refine Eq.trans ?_ (pick_at2 x0 x1 x2 x3 x4 x5 n)
    pointwise [k4_pay4]
  · change S1x256.Idx at i
    obtain ⟨u, n, rfl⟩ : ∃ u n, i = ix2 u n := ⟨i 0, i 1, eq_ix2 i⟩
    obtain rfl : u = 0 := Subsingleton.elim _ _
    refine Eq.trans ?_ (congrArg (fun i : S3x256.Idx => BitVec.ofNat 32 (pickAt x0 x1 x2 x3 x4 x5 (i 0) (i 1)).val)
      (emb_row256 1 n _).symm)
    refine Eq.trans ?_ (pick_at1 x0 x1 x2 x3 x4 x5 n)
    pointwise [k4_pay29]
  · change S1x256.Idx at i
    obtain ⟨u, n, rfl⟩ : ∃ u n, i = ix2 u n := ⟨i 0, i 1, eq_ix2 i⟩
    obtain rfl : u = 0 := Subsingleton.elim _ _
    refine Eq.trans ?_ (congrArg (fun i : S3x256.Idx => BitVec.ofNat 32 (pickAt x0 x1 x2 x3 x4 x5 (i 0) (i 1)).val)
      (emb_row256 0 n _).symm)
    refine Eq.trans ?_ (pick_at0 x0 x1 x2 x3 x4 x5 n)
    pointwise [k4_pay17]

/-- The loss the region leaves. -/
def lossOf : EReal :=
  (errAt x0 x1 x2 x3 x4 x5 0 + errAt x0 x1 x2 x3 x4 x5 1 + errAt x0 x1 x2 x3 x4 x5 2) * ((5 / 98304 : ℝ) : EReal)

theorem out9 : out4_9 (F := Ideal) x0 x1 x2 x3 x4 x5 (ix2 0 0) = lossOf x0 x1 x2 x3 x4 x5 := by
  unfold out4_9
  frame_out
  unfold k4_pay43 k4_pay44
  refine (loss_apply _ _ _ _ _).trans ?_
  unfold lossOf
  congr 2
  · refine (err_apply1 _ _ _ _).trans ?_
    congr 1
    · unfold k4_pay36 k4_pay37 k4_pay38 k4_pay39
      refine (err_apply0 _ _ _ _ _ _).trans ?_
      unfold errAt
      congr 1
      · funext n d; exact code_at0 x0 x1 x2 x3 x4 x5 n d
      · funext k d; exact ld_level x5 0 k d _
    · unfold errAt
      congr 1
      · funext n d; exact code_at1 x0 x1 x2 x3 x4 x5 n d
      · funext k d; exact ld_level x5 1 k d _
  · unfold errAt
    congr 1
    · funext n d; exact code_at2 x0 x1 x2 x3 x4 x5 n d
    · funext k d; exact ld_level x5 2 k d _

end Results

/-! ### The arrays -/

section Arrays
variable (V : (c : Dev nD) → (b : Ref sig .tc) → Buf (Elt Ideal) ((c : Thread nD τ).loc b))

theorem idx4 : ∀ t : Fin cfg4.N, win4_0.index t = ![0, 0] ∧ win4_1.index t = ![0, 0] ∧ win4_2.index t = ![0, 0]
    ∧ win4_3.index t = ![0, 0, 0] ∧ win4_4.index t = ![0, 0] ∧ win4_5.index t = ![0, 0, 0] ∧ win4_6.index t = ![0, 0, 0]
    ∧ win4_7.index t = ![0, 0, 0] ∧ win4_8.index t = ![0, 0] ∧ win4_9.index t = ![0, 0] := by
  decide +kernel

theorem blk4_0 (c : Dev nD) (t : Fin cfg4.N) :
    (iblk4 V c 0 t : S256x4096.Idx → EReal) = (V c main_v50 : S256x4096.Idx → EReal) := by
  funext i
  blk_ext [iblk4, idx4 t]

theorem blk4_1 (c : Dev nD) (t : Fin cfg4.N) :
    (iblk4 V c 1 t : S4096x256.Idx → EReal) = (V c main_v53 : S4096x256.Idx → EReal) := by
  funext i
  blk_ext [iblk4, idx4 t]

theorem blk4_2 (c : Dev nD) (t : Fin cfg4.N) :
    (iblk4 V c 2 t : S1x256.Idx → EReal) = (V c main_v54 : S1x256.Idx → EReal) := by
  funext i
  blk_ext [iblk4, idx4 t]

theorem blk4_3 (c : Dev nD) (t : Fin cfg4.N) :
    (iblk4 V c 3 t : S3x256x32.Idx → EReal) = (V c main_arg11 : S3x256x32.Idx → EReal) := by
  funext i
  blk_ext [iblk4, idx4 t]

theorem blk4_4 (c : Dev nD) (t : Fin cfg4.N) :
    (iblk4 V c 4 t : S3x32.Idx → EReal) = (V c main_arg12 : S3x32.Idx → EReal) := by
  funext i
  blk_ext [iblk4, idx4 t]

theorem blk4_5 (c : Dev nD) (t : Fin cfg4.N) :
    (iblk4 V c 5 t : S3x256x32.Idx → EReal) = (V c main_arg13 : S3x256x32.Idx → EReal) := by
  funext i
  blk_ext [iblk4, idx4 t]

theorem arr4_6 (c : Dev nD) : (dat4 V c).arrAt 6 cfg4.N
    = out4_6 (F := Ideal) (V c main_v50) (V c main_v53) (V c main_v54) (V c main_arg11) (V c main_arg12) (V c main_arg13) := by
  refine (dat4 V c).arrAt_eq_of_covers 6 _ (by decide +kernel) fun t hf y => ?_
  blk_simp
  rw [after4_6, blk4_0 V c t, blk4_1 V c t, blk4_2 V c t, blk4_3 V c t, blk4_4 V c t, blk4_5 V c t]
  congr 1
  blk_ext [idx4 t]

theorem arr4_7 (c : Dev nD) : (dat4 V c).arrAt 7 cfg4.N
    = out4_7 (F := Ideal) (V c main_v50) (V c main_v53) (V c main_v54) (V c main_arg11) (V c main_arg12) (V c main_arg13) := by
  refine (dat4 V c).arrAt_eq_of_covers 7 _ (by decide +kernel) fun t hf y => ?_
  blk_simp
  rw [after4_7, blk4_0 V c t, blk4_1 V c t, blk4_2 V c t, blk4_3 V c t, blk4_4 V c t, blk4_5 V c t]
  congr 1
  blk_ext [idx4 t]

theorem arr4_8 (c : Dev nD) : (dat4 V c).arrAt 8 cfg4.N
    = out4_8 (F := Ideal) (V c main_v50) (V c main_v53) (V c main_v54) (V c main_arg11) (V c main_arg12) (V c main_arg13) := by
  refine (dat4 V c).arrAt_eq_of_covers 8 _ (by decide +kernel) fun t hf y => ?_
  blk_simp
  rw [after4_8, blk4_0 V c t, blk4_1 V c t, blk4_2 V c t, blk4_3 V c t, blk4_4 V c t, blk4_5 V c t]
  congr 1
  blk_ext [idx4 t]

theorem arr4_9 (c : Dev nD) : (dat4 V c).arrAt 9 cfg4.N
    = out4_9 (F := Ideal) (V c main_v50) (V c main_v53) (V c main_v54) (V c main_arg11) (V c main_arg12) (V c main_arg13) := by
  refine (dat4 V c).arrAt_eq_of_covers 9 _ (by decide +kernel) fun t hf y => ?_
  blk_simp
  rw [after4_9, blk4_0 V c t, blk4_1 V c t, blk4_2 V c t, blk4_3 V c t, blk4_4 V c t, blk4_5 V c t]
  congr 1
  blk_ext [idx4 t]

end Arrays

end Cert.Layers

end
-- ==== Proof.RefTail.lean ====
/-
  The reference's last part, read at an index: the features, the codes, the distances, the chosen entries and the loss.
-/
module

public import proofs.«01_k».proof.Proof.RefLayers
public import proofs.«01_k».proof.Proof.Quant

@[expose] public section

set_option maxRecDepth 16384

noncomputable section

namespace Cert.RefTail

open Idealize.ShloMosaic Idealize.ShloMosaic.TcCoe Cert.Spec Cert.ReferenceIdeal Cert.ReferenceIdeal.Gen
  Cert.ReferenceIdeal.Read

/-- A bit a comparison of small numbers gives, as the number it stands for. -/
theorem bit_of_slt' (a b : ℕ) (ha : a < 2 ^ 31) (hb : b < 2 ^ 31) :
    (FloatOps.uitofp (F := Ideal) .f32 (IntOp.cmpi .slt (BitVec.ofNat 32 a) (BitVec.ofNat 32 b)) : EReal)
      = if a < b then 1 else 0 := by
  have hs : ∀ n : ℕ, n < 2 ^ 31 → (BitVec.ofNat 32 n).toInt = n := fun n hn => by
    rw [BitVec.toInt_eq_toNat_of_lt (by rw [BitVec.toNat_ofNat]; omega), BitVec.toNat_ofNat, Nat.mod_eq_of_lt (by omega)]
  have : IntOp.cmpi .slt (BitVec.ofNat 32 a) (BitVec.ofNat 32 b) = BitVec.ofBool (decide (a < b)) := by
    unfold IntOp.cmpi
    simp only [BitVec.slt, hs a ha, hs b hb]
    norm_num
  rw [this]
  by_cases h : a < b <;> simp [h, FloatOps.uitofp]

theorem shl_level (l : Fin 3) : IntOp.shli .host 8#32 (BitVec.ofNat 32 l.val) = BitVec.ofNat 32 (8 * 2 ^ l.val)
    ∧ IntOp.shli .host 64#32 (BitVec.ofNat 32 l.val) = BitVec.ofNat 32 (64 * 2 ^ l.val) := by
  fin_cases l <;> decide

theorem pow_level (l : Fin 3) : 2 ^ l.val ≤ 4 := by
  fin_cases l <;> decide

theorem dim_apply (l : Fin 3) (d : Fin 32) : val_main_v12 (F := Ideal) (ix2 l d) = dimBit l d := by
  pointwise [val_main_v12, val_main_v11, val_main_v10, val_main_v9, val_main_v8, val_main_v7, val_main_v6,
    val_main_v5, val_main_v4, val_main_c_0, val_main_v3, val_main_v2, val_main_v1, val_main_c, val_main_v0]
  rw [(shl_level l).1]
  have := pow_level l
  exact bit_of_slt' d (8 * 2 ^ l.val) (by omega) (by omega)

theorem off_apply (l : Fin 3) (k : Fin 256) : 1 - val_main_v19 (F := Ideal) (ix2 l k) = offBit l k := by
  pointwise [val_main_v19, val_main_v18, val_main_v17, val_main_v16, val_main_v15, val_main_v14, val_main_v13,
    val_main_v12, val_main_v11, val_main_v10, val_main_v9, val_main_v8, val_main_v7, val_main_v6, val_main_v5,
    val_main_v4, val_main_c_0, val_main_v3, val_main_v2, val_main_v1, val_main_c, val_main_v0]
  rw [(shl_level l).2]
  have := pow_level l
  rw [bit_of_slt' k (64 * 2 ^ l.val) (by omega) (by omega)]
  unfold offBit
  have h1 : (1 : EReal) - 1 = 0 := by rw [← EReal.coe_one, ← EReal.coe_sub, sub_self, EReal.coe_zero]
  split_ifs
  · exact h1
  · exact sub_zero _

variable (x0 : S256x3x64x64.Idx → EReal) (x1 : S32x3x4x4.Idx → EReal) (x2 : S32.Idx → EReal)
  (x3 : S64x32x4x4.Idx → EReal) (x4 : S64.Idx → EReal) (x5 : S128x64x4x4.Idx → EReal) (x6 : S128.Idx → EReal)
  (x7 : S256x128x4x4.Idx → EReal) (x8 : S256.Idx → EReal) (x9 : S256x4096.Idx → EReal) (x10 : S256.Idx → EReal)
  (x11 : S3x256x32.Idx → EReal) (x12 : S3x32.Idx → EReal) (x13 : S3x256x32.Idx → EReal)

/-- The features: channel, row and column of the last layer, in this order, against the projection's weights. -/
theorem feat_apply (n j : Fin 256) :
    val_main_v457 (F := Ideal) x0 x1 x2 x3 x4 x5 x6 x7 x8 x9 x10 (ix2 n j)
      = ∑ x : Fin 4096, val_main_v451 (F := Ideal) x0 x1 x2 x3 x4 x5 x6 x7 x8
          (ix4 n ⟨x.val / 16, by omega⟩ ⟨x.val / 4 % 4, by omega⟩ ⟨x.val % 4, by omega⟩) * x9 (ix2 j x) + x10 (ix1 j) := by
  pointwise [val_main_v457, val_main_v456, val_main_v455, val_main_v454, val_main_v453, val_main_v452]

/-- The codes. -/
theorem code_apply (n : Fin 256) (l : Fin 3) (d : Fin 32) :
    val_main_v464 (F := Ideal) x0 x1 x2 x3 x4 x5 x6 x7 x8 x9 x10 x11 x12 (ix3 n l d)
      = code l (fun j => val_main_v457 (F := Ideal) x0 x1 x2 x3 x4 x5 x6 x7 x8 x9 x10 (ix2 n j)) (fun j d => x11 (ix3 l j d))
          (fun d => x12 (ix2 l d)) d := by
  pointwise [val_main_v464, val_main_v463, val_main_v462, val_main_v461, val_main_v460, val_main_v459, val_main_v458]
  rw [dim_apply]
  rfl

/-- The distance of a code to an entry: the squares of the differences, and what moves an entry the level does not have. -/
theorem dist_apply (n : Fin 256) (l : Fin 3) (k : Fin 256) :
    val_main_v478 (F := Ideal) x0 x1 x2 x3 x4 x5 x6 x7 x8 x9 x10 x11 x12 x13 (ix3 n l k)
      = ∑ d, (val_main_v464 (F := Ideal) x0 x1 x2 x3 x4 x5 x6 x7 x8 x9 x10 x11 x12 (ix3 n l d) - x13 (ix3 l k d))
            * (val_main_v464 (F := Ideal) x0 x1 x2 x3 x4 x5 x6 x7 x8 x9 x10 x11 x12 (ix3 n l d) - x13 (ix3 l k d))
          + offBit l k * far := by
  pointwise [val_main_v478, val_main_v477, val_main_v476, val_main_v475, val_main_cst_18, val_main_v474,
    val_main_v473, val_main_cst_17, val_main_v472, val_main_v471, val_main_cst_16, val_main_v470, val_main_v469,
    val_main_v468, val_main_v467, val_main_v466, val_main_v465]
  rw [off_apply]
  rfl

/-- The chosen entry of a row at a level. -/
def pickRef (n : Fin 256) (l : Fin 3) : Fin 256 :=
  first fun k => val_main_v478 (F := Ideal) x0 x1 x2 x3 x4 x5 x6 x7 x8 x9 x10 x11 x12 x13 (ix3 n l k)

theorem least_apply (n : Fin 256) (l : Fin 3) :
    val_main_v479 (F := Ideal) x0 x1 x2 x3 x4 x5 x6 x7 x8 x9 x10 x11 x12 x13 (ix2 n l)
      = val_main_v478 (F := Ideal) x0 x1 x2 x3 x4 x5 x6 x7 x8 x9 x10 x11 x12 x13
          (ix3 n l (pickRef x0 x1 x2 x3 x4 x5 x6 x7 x8 x9 x10 x11 x12 x13 n l)) := by
  pointwise [val_main_v479, val_main_cst_19]
  have : Ideal.ofBits .f32 2139095040#32 = ⊤ := by simp [Ideal.ofBits, Ideal.ieee]
  rw [this]
  exact fold_min_first _

theorem pick_apply (n : Fin 256) (l : Fin 3) :
    val_main_v485 (F := Ideal) x0 x1 x2 x3 x4 x5 x6 x7 x8 x9 x10 x11 x12 x13 (ix2 n l)
      = BitVec.ofNat 32 (pickRef x0 x1 x2 x3 x4 x5 x6 x7 x8 x9 x10 x11 x12 x13 n l).val := by
  pointwise [val_main_v485, val_main_c_21, val_main_v484, val_main_call4_v2, val_main_call4_v1, val_main_call4_v0,
    val_main_c_20, val_main_v483, val_main_v482, val_main_v481, val_main_v480]
  refine fold_minsi_first (fun k => val_main_v478 (F := Ideal) x0 x1 x2 x3 x4 x5 x6 x7 x8 x9 x10 x11 x12 x13 (ix3 n l k)) _ fun k => ?_
  rw [least_apply]
  rfl

/-- Where the entry is read: its level and its number. -/
theorem where_apply (n : Fin 256) (l : Fin 3) (q : Fin 2) :
    val_main_v501 (F := Ideal) x0 x1 x2 x3 x4 x5 x6 x7 x8 x9 x10 x11 x12 x13 (ix3 n l q)
      = if q.val < 1 then BitVec.ofNat 32 l.val
        else BitVec.ofNat 32 (pickRef x0 x1 x2 x3 x4 x5 x6 x7 x8 x9 x10 x11 x12 x13 n l).val := by
  pointwise [val_main_v501, val_main_v500, val_main_v499, val_main_v498, val_main_v497, val_main_v496, val_main_v495,
    val_main_c_25, val_main_v494, val_main_v493, val_main_c_24, val_main_v492, val_main_v491, val_main_v490,
    val_main_c_23, val_main_v489, val_main_v488, val_main_c_22, val_main_v487, val_main_v486]
  rw [pick_apply]
  have hs : ∀ a : ℕ, a < 257 → IntOp.cmpi .slt (BitVec.ofNat 32 a) 0#32 = 0#1 := fun a ha => by
    have h : (BitVec.ofNat 32 a).toInt = a := by
      rw [BitVec.toInt_eq_toNat_of_lt (by rw [BitVec.toNat_ofNat]; omega), BitVec.toNat_ofNat, Nat.mod_eq_of_lt (by omega)]
    unfold IntOp.cmpi
    simp only [BitVec.slt, h]
    rw [show (0#32 : BitVec 32).toInt = 0 from rfl, decide_eq_false (by omega)]
    rfl
  rw [hs _ (by have := l.isLt; omega), hs _ (by have := (pickRef x0 x1 x2 x3 x4 x5 x6 x7 x8 x9 x10 x11 x12 x13 n l).isLt; omega)]
  simp only [dite_eq_ite]
  rfl

/-- The chosen entry itself. -/
theorem near_apply (n : Fin 256) (l : Fin 3) (d : Fin 32) :
    val_main_v502 (F := Ideal) x0 x1 x2 x3 x4 x5 x6 x7 x8 x9 x10 x11 x12 x13 (ix3 n l d)
      = x13 (ix3 l (pickRef x0 x1 x2 x3 x4 x5 x6 x7 x8 x9 x10 x11 x12 x13 n l) d) := by
  have hs : ∀ a : ℕ, a < 257 → (BitVec.ofNat 32 a).toInt.toNat = a := fun a ha => by
    rw [BitVec.toInt_eq_toNat_of_lt (by rw [BitVec.toNat_ofNat]; omega), BitVec.toNat_ofNat, Nat.mod_eq_of_lt (by omega),
      Int.toNat_natCast]
  have hl := l.isLt
  have hp := (pickRef x0 x1 x2 x3 x4 x5 x6 x7 x8 x9 x10 x11 x12 x13 n l).isLt
  unfold val_main_v502 Host.gather
  set D := gather_S3x256x32_S256x3x2_S256x3x32_2_01_n_n_01_2_1132 with hD
  have hsi : ∀ q : Fin 2, (fun q hq => D.siIdx (ix3 n l d) ⟨q, hq⟩) q.val q.isLt = ix3 n l q := fun q => by
    funext b
    refine Fin.ext ?_
    fin_cases q <;> fin_cases b <;> rfl
  refine congrArg x13 (funext fun a => Fin.ext ?_)
  change D.start (ix3 n l d) _ a + D.batchCoord (ix3 n l d) a + D.offCoord (ix3 n l d) a = _
  rw [GatherDims.batchCoord_eq_zero _ _ _ List.not_mem_nil, Nat.add_zero]
  fin_cases a
  · rw [GatherDims.offCoord_eq_zero _ _ _ (fun h => ((GatherDims.mem_sKept _ _).mp h).1 (by decide)), Nat.add_zero]
    unfold GatherDims.start
    rw [dif_pos (by decide)]
    have h0 := (congrArg (val_main_v501 (F := Ideal) x0 x1 x2 x3 x4 x5 x6 x7 x8 x9 x10 x11 x12 x13) (hsi 0)).trans (where_apply x0 x1 x2 x3 x4 x5 x6 x7 x8 x9 x10 x11 x12 x13 n l 0)
    refine (congrArg (fun w : BitVec 32 => min w.toInt.toNat 2) h0).trans ?_
    rw [if_pos (by decide), hs _ (by omega)]
    exact min_eq_left (by omega)
  · rw [GatherDims.offCoord_eq_zero _ _ _ (fun h => ((GatherDims.mem_sKept _ _).mp h).1 (by decide)), Nat.add_zero]
    unfold GatherDims.start
    rw [dif_pos (by decide)]
    have h1 := (congrArg (val_main_v501 (F := Ideal) x0 x1 x2 x3 x4 x5 x6 x7 x8 x9 x10 x11 x12 x13) (hsi 1)).trans (where_apply x0 x1 x2 x3 x4 x5 x6 x7 x8 x9 x10 x11 x12 x13 n l 1)
    refine (congrArg (fun w : BitVec 32 => min w.toInt.toNat 255) h1).trans ?_
    rw [if_neg (by decide), hs _ (by omega)]
    exact min_eq_left (by omega)
  · unfold GatherDims.start GatherDims.offCoord
    rw [dif_neg (by decide), dif_pos (by decide), Nat.zero_add]
    rfl

/-- The loss: the mean of the squared errors and a quarter of the same. -/
theorem loss_apply :
    val_main_v518 (F := Ideal) x0 x1 x2 x3 x4 x5 x6 x7 x8 x9 x10 x11 x12 x13 ix0
      = Ideal.div (∑ n, ∑ l, ∑ d,
            (val_main_v502 (F := Ideal) x0 x1 x2 x3 x4 x5 x6 x7 x8 x9 x10 x11 x12 x13 (ix3 n l d)
                - val_main_v464 (F := Ideal) x0 x1 x2 x3 x4 x5 x6 x7 x8 x9 x10 x11 x12 (ix3 n l d))
              * (val_main_v502 (F := Ideal) x0 x1 x2 x3 x4 x5 x6 x7 x8 x9 x10 x11 x12 x13 (ix3 n l d)
                - val_main_v464 (F := Ideal) x0 x1 x2 x3 x4 x5 x6 x7 x8 x9 x10 x11 x12 (ix3 n l d)) * dimBit (l : Fin 3) d)
          (Ideal.ofBits .f32 1186988032#32)
        + Ideal.ofBits .f32 1048576000#32 * Ideal.div (∑ n, ∑ l, ∑ d,
            (val_main_v464 (F := Ideal) x0 x1 x2 x3 x4 x5 x6 x7 x8 x9 x10 x11 x12 (ix3 n l d)
                - val_main_v502 (F := Ideal) x0 x1 x2 x3 x4 x5 x6 x7 x8 x9 x10 x11 x12 x13 (ix3 n l d))
              * (val_main_v464 (F := Ideal) x0 x1 x2 x3 x4 x5 x6 x7 x8 x9 x10 x11 x12 (ix3 n l d)
                - val_main_v502 (F := Ideal) x0 x1 x2 x3 x4 x5 x6 x7 x8 x9 x10 x11 x12 x13 (ix3 n l d)) * dimBit (l : Fin 3) d)
          (Ideal.ofBits .f32 1186988032#32) := by
  pointwise [val_main_v518, val_main_v517, val_main_cst_30, val_main_v516, val_main_cst_29, val_main_v515,
    val_main_cst_28, val_main_v514, val_main_v513, val_main_v512, val_main_v511, val_main_v510, val_main_v509,
    val_main_cst_27, val_main_v508, val_main_cst_26, val_main_v507, val_main_v506, val_main_v505, val_main_v504,
    val_main_v503]
  simp only [dim_apply]

/-- The code moved to its entry. -/
theorem moved_apply (n : Fin 256) (l : Fin 3) (d : Fin 32) :
    val_main_v520 (F := Ideal) x0 x1 x2 x3 x4 x5 x6 x7 x8 x9 x10 x11 x12 x13 (ix3 n l d)
      = val_main_v464 (F := Ideal) x0 x1 x2 x3 x4 x5 x6 x7 x8 x9 x10 x11 x12 (ix3 n l d)
        + (val_main_v502 (F := Ideal) x0 x1 x2 x3 x4 x5 x6 x7 x8 x9 x10 x11 x12 x13 (ix3 n l d)
          - val_main_v464 (F := Ideal) x0 x1 x2 x3 x4 x5 x6 x7 x8 x9 x10 x11 x12 (ix3 n l d)) := by
  pointwise [val_main_v520, val_main_v519]

end Cert.RefTail

end
-- ==== Proof.Tail.lean ====
/-
  The kernel's last region through the run: its features are the reference's, and so its codes; its results are read off
  the region's arrays by the transpositions that follow it.
-/
module

public import proofs.«01_k».proof.Proof.Chain
public import proofs.«01_k».proof.Proof.Region4
public import proofs.«01_k».proof.Proof.RefTail

@[expose] public section

set_option maxRecDepth 16384

noncomputable section

namespace Cert.Layers

open Idealize.ShloMosaic Idealize.ShloMosaic.TcCoe Idealize.SL.Sem Cert.Spec Cert.KernelIdeal Cert.KernelIdeal.Gen
open Cert.ReferenceIdeal.Read (val_main_v451 val_main_v457 val_main_v464)

/-- The position of the reference's row that the kernel's row holds at `k`: the kernel's order is row, column, channel. -/
def place (k : Fin 4096) : Fin 4096 := ⟨k.val % 256 * 16 + k.val / 1024 * 4 + k.val / 256 % 4, by omega⟩

/-- Where the kernel's row holds position `x` of the reference's. -/
def unplace (x : Fin 4096) : Fin 4096 := ⟨x.val / 4 % 4 * 1024 + x.val % 4 * 256 + x.val / 16, by omega⟩

theorem place_digits (k : Fin 4096) : (place k).val / 16 = k.val % 256 ∧ (place k).val / 4 % 4 = k.val / 1024
    ∧ (place k).val % 4 = k.val / 256 % 4 := by
  have hk := k.isLt
  have h : (place k).val = k.val % 256 * 16 + k.val / 1024 * 4 + k.val / 256 % 4 := rfl
  have h' : k.val / 1024 = k.val / 256 / 4 := by rw [Nat.div_div_eq_div_mul]
  rw [h, h']
  have hr : k.val % 256 < 256 := by omega
  have hq : k.val / 256 < 16 := by omega
  generalize k.val / 256 = q at *
  generalize k.val % 256 = r at *
  refine ⟨?_, ?_, ?_⟩ <;> omega

theorem unplace_digits (x : Fin 4096) : (unplace x).val % 256 = x.val / 16 ∧ (unplace x).val / 1024 = x.val / 4 % 4
    ∧ (unplace x).val / 256 % 4 = x.val % 4 := by
  have := x.isLt
  have h : (unplace x).val = x.val / 4 % 4 * 1024 + x.val % 4 * 256 + x.val / 16 := rfl
  have hp : x.val / 4 % 4 < 4 := by omega
  have hq : x.val % 4 < 4 := by omega
  have hr : x.val / 16 < 256 := by omega
  rw [h]
  generalize x.val / 4 % 4 = p at *
  generalize x.val % 4 = q at *
  generalize x.val / 16 = r at *
  refine ⟨?_, ?_, ?_⟩ <;> omega

/-- The two orders are one set of positions. -/
def placeEquiv : Fin 4096 ≃ Fin 4096 where
  toFun := place
  invFun := unplace
  left_inv k := Fin.ext (by
    obtain ⟨h1, h2, h3⟩ := place_digits k
    change (place k).val / 4 % 4 * 1024 + (place k).val % 4 * 256 + (place k).val / 16 = k.val
    rw [h1, h2, h3]
    omega)
  right_inv x := Fin.ext (by
    obtain ⟨h1, h2, h3⟩ := unplace_digits x
    change (unplace x).val % 256 * 16 + (unplace x).val / 1024 * 4 + (unplace x).val / 256 % 4 = x.val
    rw [h1, h2, h3]
    omega)

variable (m : (ℓ : Loc nD τ sig) → Buf (Elt Ideal) ℓ) (ρ : Dev nD → PrngReg) (c : Dev nD)

/-- The row that the last region reads. -/
theorem row4 : (W17 m ρ c (Proc.devRef .tc main_v50) : _) = flat (W16 m ρ c (Proc.devRef .tc main_v49)) :=
  read_flat (W16 m ρ c)

theorem weights4 : (W17 m ρ c (Proc.devRef .tc main_v53) : _) = wproj (a9 m c) :=
  (read_wproj (W16 m ρ c)).trans (congrArg wproj (W16_args m ρ c main_arg9 (by decide)))

theorem bias4 : (W17 m ρ c (Proc.devRef .tc main_v54) : _) = brow3 (a10 m c) :=
  (read_bproj (W16 m ρ c)).trans (congrArg brow3 (W16_args m ρ c main_arg10 (by decide)))

/-- The features: the kernel's sum in its own order is the reference's. -/
theorem feat_same (n j : Fin 256) :
    feat (W17 m ρ c (Proc.devRef .tc main_v50)) (W17 m ρ c (Proc.devRef .tc main_v53))
        (W17 m ρ c (Proc.devRef .tc main_v54)) n j
      = val_main_v457 (F := Ideal) (a0 m c) (a1 m c) (a2 m c) (a3 m c) (a4 m c) (a5 m c) (a6 m c) (a7 m c) (a8 m c)
          (a9 m c) (a10 m c) (ix2 n j) := by
  rw [RefTail.feat_apply, row4, weights4, bias4]
  unfold feat
  congr 1
  · refine Eq.trans ?_ (Equiv.sum_comp placeEquiv _)
    refine Finset.sum_congr rfl fun k _ => ?_
    obtain ⟨h1, h2, h3⟩ := place_digits k
    rw [flat_apply, wproj_apply, same3 m ρ c, rd4_eq (val_main_v451 (F := Ideal) (a0 m c) (a1 m c) (a2 m c) (a3 m c)
      (a4 m c) (a5 m c) (a6 m c) (a7 m c) (a8 m c)), rd2_eq (a9 m c)]
    change _ = rd4 _ n.val ((place k).val / 16) ((place k).val / 4 % 4) ((place k).val % 4) * rd2 _ j.val (place k).val
    rw [h1, h2, h3]
    rfl
  · rw [rd2_eq (brow3 (a10 m c)), rd1_eq (a10 m c)]
    exact rd2_brow3 _ _

/-- The codes are the reference's. -/
theorem code_same (l : Fin 3) (n : Fin 256) (d : Fin 32) :
    codeAt (W17 m ρ c (Proc.devRef .tc main_v50)) (W17 m ρ c (Proc.devRef .tc main_v53))
        (W17 m ρ c (Proc.devRef .tc main_v54)) (a11 m c) (a12 m c) l n d
      = val_main_v464 (F := Ideal) (a0 m c) (a1 m c) (a2 m c) (a3 m c) (a4 m c) (a5 m c) (a6 m c) (a7 m c) (a8 m c)
          (a9 m c) (a10 m c) (a11 m c) (a12 m c) (ix3 n l d) := by
  rw [RefTail.code_apply]
  unfold codeAt
  rw [funext fun j => feat_same m ρ c n j]

/-! ## The results, read off the last region's arrays -/

theorem read_v56 (V : Valuation τ sig (Elt Ideal)) (n : Fin 256) (l : Fin 3) (d : Fin 32) :
    (StableHlo.after hostOps5 V (Proc.devRef .tc main_v56) : S256x3x32.Idx → EReal) (ix3 n l d)
      = (V (Proc.devRef .tc main_v55_0) : S3x256x32.Idx → EReal) (ix3 l n d) := by
  refine (congrFun (show StableHlo.after hostOps5 V (Proc.devRef .tc main_v56)
    = transpose S256x3x32 [1, 0, 2] (V (Proc.devRef .tc main_v55_0) : S3x256x32.Idx → EReal)
        transposes_S3x256x32_S256x3x32_1_0_2 from rfl) (ix3 n l d)).trans ?_
  pointwise []

theorem read_v57 (V : Valuation τ sig (Elt Ideal)) (n : Fin 256) (l : Fin 3) (d : Fin 32) :
    (StableHlo.after hostOps5 V (Proc.devRef .tc main_v57) : S256x3x32.Idx → EReal) (ix3 n l d)
      = (V (Proc.devRef .tc main_v55_1) : S3x256x32.Idx → EReal) (ix3 l n d) := by
  refine (congrFun (show StableHlo.after hostOps5 V (Proc.devRef .tc main_v57)
    = transpose S256x3x32 [1, 0, 2] (V (Proc.devRef .tc main_v55_1) : S3x256x32.Idx → EReal)
        transposes_S3x256x32_S256x3x32_1_0_2 from rfl) (ix3 n l d)).trans ?_
  pointwise []

theorem read_v58 (V : Valuation τ sig (Elt Ideal)) (n : Fin 256) (l : Fin 3) :
    (StableHlo.after hostOps5 V (Proc.devRef .tc main_v58) : S256x3.Idx → BitVec 32) (ix2 n l)
      = (V (Proc.devRef .tc main_v55_2) : S3x256.Idx → BitVec 32) (ix2 l n) := by
  refine (congrFun (show StableHlo.after hostOps5 V (Proc.devRef .tc main_v58)
    = transpose S256x3 [1, 0] (V (Proc.devRef .tc main_v55_2) : S3x256.Idx → BitVec 32)
        transposes_S3x256_S256x3_1_0 from rfl) (ix2 n l)).trans ?_
  pointwise []

theorem read_v59 (V : Valuation τ sig (Elt Ideal)) :
    (StableHlo.after hostOps5 V (Proc.devRef .tc main_v59) : S_.Idx → EReal) ix0
      = (V (Proc.devRef .tc main_v55_3) : S1x1.Idx → EReal) (ix2 0 0) := by
  refine (congrFun (show StableHlo.after hostOps5 V (Proc.devRef .tc main_v59)
    = shapeCast S_ (V (Proc.devRef .tc main_v55_3) : S1x1.Idx → EReal) shapeCasts_S1x1_S_ from rfl) ix0).trans ?_
  pointwise []

/-- The last region's arguments among the program's own. -/
theorem args4 : (W17 m ρ c (Proc.devRef .tc main_arg11) : S3x256x32.Idx → EReal) = a11 m c
    ∧ (W17 m ρ c (Proc.devRef .tc main_arg12) : S3x32.Idx → EReal) = a12 m c
    ∧ (W17 m ρ c (Proc.devRef .tc main_arg13) : S3x256x32.Idx → EReal) = a13 m c :=
  ⟨W17_args m ρ c main_arg11 (by decide), W17_args m ρ c main_arg12 (by decide), W17_args m ρ c main_arg13 (by decide)⟩

/-- The row, weights and bias of the last region. -/
abbrev r50 : S256x4096.Idx → EReal := W17 m ρ c (Proc.devRef .tc main_v50)
abbrev r53 : S4096x256.Idx → EReal := W17 m ρ c (Proc.devRef .tc main_v53)
abbrev r54 : S1x256.Idx → EReal := W17 m ρ c (Proc.devRef .tc main_v54)

/-- The kernel's result 4, the codes. -/
theorem out_v57 (n : Fin 256) (l : Fin 3) (d : Fin 32) :
    (W19 m ρ c (Proc.devRef .tc main_v57) : S256x3x32.Idx → EReal) (ix3 n l d)
      = codeAt (r50 m ρ c) (r53 m ρ c) (r54 m ρ c) (a11 m c) (a12 m c) l n d := by
  refine (read_v57 (W18 m ρ c) n l d).trans ((congrFun ((W18_arr m ρ c 7).trans (arr4_7 (V17 m ρ) c)) (ix3 l n d)).trans ?_)
  refine (out7 _ _ _ _ _ _ l n d).trans ?_
  obtain ⟨h1, h2, _⟩ := args4 m ρ c
  exact congrArg₂ (fun u v => codeAt (r50 m ρ c) (r53 m ρ c) (r54 m ρ c) u v l n d) h1 h2

/-- The kernel's result 1, the codes moved to their entries. -/
theorem out_v56 (n : Fin 256) (l : Fin 3) (d : Fin 32) :
    (W19 m ρ c (Proc.devRef .tc main_v56) : S256x3x32.Idx → EReal) (ix3 n l d)
      = moved (r50 m ρ c) (r53 m ρ c) (r54 m ρ c) (a11 m c) (a12 m c) (a13 m c) l n d := by
  refine (read_v56 (W18 m ρ c) n l d).trans ((congrFun ((W18_arr m ρ c 6).trans (arr4_6 (V17 m ρ) c)) (ix3 l n d)).trans ?_)
  refine (out6 _ _ _ _ _ _ l n d).trans ?_
  obtain ⟨h1, h2, h3⟩ := args4 m ρ c
  change moved (r50 m ρ c) (r53 m ρ c) (r54 m ρ c) (W17 m ρ c (Proc.devRef .tc main_arg11))
    (W17 m ρ c (Proc.devRef .tc main_arg12)) (W17 m ρ c (Proc.devRef .tc main_arg13)) l n d = _
  rw [h1, h2, h3]

/-- The kernel's result 2, the entries' numbers. -/
theorem out_v58 (n : Fin 256) (l : Fin 3) :
    (W19 m ρ c (Proc.devRef .tc main_v58) : S256x3.Idx → BitVec 32) (ix2 n l)
      = BitVec.ofNat 32 (pickAt (r50 m ρ c) (r53 m ρ c) (r54 m ρ c) (a11 m c) (a12 m c) (a13 m c) l n).val := by
  refine (read_v58 (W18 m ρ c) n l).trans ((congrFun ((W18_arr m ρ c 8).trans (arr4_8 (V17 m ρ) c)) (ix2 l n)).trans ?_)
  refine (out8 _ _ _ _ _ _ l n).trans ?_
  obtain ⟨h1, h2, h3⟩ := args4 m ρ c
  change BitVec.ofNat 32 (pickAt (r50 m ρ c) (r53 m ρ c) (r54 m ρ c) (W17 m ρ c (Proc.devRef .tc main_arg11))
    (W17 m ρ c (Proc.devRef .tc main_arg12)) (W17 m ρ c (Proc.devRef .tc main_arg13)) l n).val = _
  rw [h1, h2, h3]

/-- The kernel's result 3, the loss. -/
theorem out_v59 : (W19 m ρ c (Proc.devRef .tc main_v59) : S_.Idx → EReal) ix0
      = lossOf (r50 m ρ c) (r53 m ρ c) (r54 m ρ c) (a11 m c) (a12 m c) (a13 m c) := by
  refine (read_v59 (W18 m ρ c)).trans ((congrFun ((W18_arr m ρ c 9).trans (arr4_9 (V17 m ρ) c)) (ix2 0 0)).trans ?_)
  refine (out9 _ _ _ _ _ _).trans ?_
  obtain ⟨h1, h2, h3⟩ := args4 m ρ c
  change lossOf (r50 m ρ c) (r53 m ρ c) (r54 m ρ c) (W17 m ρ c (Proc.devRef .tc main_arg11))
    (W17 m ρ c (Proc.devRef .tc main_arg12)) (W17 m ρ c (Proc.devRef .tc main_arg13)) = _
  rw [h1, h2, h3]

end Cert.Layers

end
-- ==== Proof.Same.lean ====
/-
  Under real arguments the two programs choose the same entries and have the same loss, and so all four results are equal.
-/
module

public import proofs.«01_k».proof.Proof.Tail
public import proofs.«01_k».proof.Proof.Finite

@[expose] public section

set_option maxRecDepth 16384

noncomputable section

namespace Cert.RefTail

open Idealize.ShloMosaic Idealize.ShloMosaic.TcCoe Cert.Spec Cert.ReferenceIdeal Cert.ReferenceIdeal.Gen
  Cert.ReferenceIdeal.Read

/-- The mean of the squared errors and a quarter of it, summed row by row, are the levels' sums at one factor. -/
theorem loss_levels (e q : Fin 256 → Fin 3 → Fin 32 → EReal) (he : ∀ n l d, IsReal (e n l d))
    (hq : ∀ n l d, IsReal (q n l d)) :
    Ideal.div (∑ n, ∑ l : Fin 3, ∑ d, (q n l d - e n l d) * (q n l d - e n l d) * dimBit l d)
        (Ideal.ofBits .f32 1186988032#32)
      + Ideal.ofBits .f32 1048576000#32
        * Ideal.div (∑ n, ∑ l : Fin 3, ∑ d, (e n l d - q n l d) * (e n l d - q n l d) * dimBit l d)
            (Ideal.ofBits .f32 1186988032#32)
      = ((∑ n, ∑ d, (e n 0 d - q n 0 d) * (e n 0 d - q n 0 d) * dimBit 0 d)
          + (∑ n, ∑ d, (e n 1 d - q n 1 d) * (e n 1 d - q n 1 d) * dimBit 1 d)
          + (∑ n, ∑ d, (e n 2 d - q n 2 d) * (e n 2 d - q n 2 d) * dimBit 2 d)) * ((5 / 98304 : ℝ) : EReal) := by
  choose e' he' using he
  choose q' hq' using hq
  choose b' hb' using fun (l : ℕ) (d : Fin 32) => IsReal.dimBit l d
  have hn : ((24576 : ℝ) : EReal) ≠ 0 := by
    rw [← EReal.coe_zero, Ne, EReal.coe_eq_coe_iff]
    norm_num
  have hs : ∀ n, ∑ l : Fin 3, ∑ d, (q' n l d - e' n l d) * (q' n l d - e' n l d) * b' l d
      = (∑ d, (e' n 0 d - q' n 0 d) * (e' n 0 d - q' n 0 d) * b' 0 d)
        + (∑ d, (e' n 1 d - q' n 1 d) * (e' n 1 d - q' n 1 d) * b' 1 d)
        + ∑ d, (e' n 2 d - q' n 2 d) * (e' n 2 d - q' n 2 d) * b' 2 d := fun n => by
    have h : ∀ (l : Fin 3) d, (q' n l d - e' n l d) * (q' n l d - e' n l d) = (e' n l d - q' n l d) * (e' n l d - q' n l d) :=
      fun l d => by ring
    simp only [h]
    exact Fin.sum_univ_three _
  have hs' : ∀ n, ∑ l : Fin 3, ∑ d, (e' n l d - q' n l d) * (e' n l d - q' n l d) * b' l d
      = (∑ d, (e' n 0 d - q' n 0 d) * (e' n 0 d - q' n 0 d) * b' 0 d)
        + (∑ d, (e' n 1 d - q' n 1 d) * (e' n 1 d - q' n 1 d) * b' 1 d)
        + ∑ d, (e' n 2 d - q' n 2 d) * (e' n 2 d - q' n 2 d) * b' 2 d := fun n => Fin.sum_univ_three _
  simp only [he', hq', hb', count_eq, quarter_eq, Ideal.div, if_neg hn, ← EReal.coe_inv, ← EReal.coe_mul, ← coe_sum,
    ← EReal.coe_sub, ← EReal.coe_add]
  rw [EReal.coe_eq_coe_iff]
  simp only [hs, hs', Finset.sum_add_distrib]
  ring

variable {x0 : S256x3x64x64.Idx → EReal} {x1 : S32x3x4x4.Idx → EReal} {x2 : S32.Idx → EReal}
  {x3 : S64x32x4x4.Idx → EReal} {x4 : S64.Idx → EReal} {x5 : S128x64x4x4.Idx → EReal} {x6 : S128.Idx → EReal}
  {x7 : S256x128x4x4.Idx → EReal} {x8 : S256.Idx → EReal} {x9 : S256x4096.Idx → EReal} {x10 : S256.Idx → EReal}
  {x11 : S3x256x32.Idx → EReal} {x12 : S3x32.Idx → EReal} {x13 : S3x256x32.Idx → EReal}

/-- Layer 1 of the reference is real. -/
theorem real0 (h0 : ∀ i, IsReal (x0 i)) (h1 : ∀ i, IsReal (x1 i)) (h2 : ∀ i, IsReal (x2 i))
    (i : S256x32x32x32.Idx) : IsReal (val_main_v127 (F := Ideal) x0 x1 x2 i) := by
  obtain ⟨b, o, y, z, rfl⟩ : ∃ (b : Fin 256) (o : Fin 32) (y z : Fin 32), i = ix4 b o y z :=
    ⟨i 0, i 1, i 2, i 3, eq_ix4 i⟩
  rw [RefLayers.layer0]
  exact IsReal.gelu (IsReal.conv (fun _ _ _ _ => IsReal.rd4 h0 _ _ _ _) (fun _ _ _ _ => IsReal.rd4 h1 _ _ _ _)
    (fun _ => IsReal.rd1 h2 _) _ _ _ _)

/-- Layer 2 of the reference is real. -/
theorem real1 (h0 : ∀ i, IsReal (x0 i)) (h1 : ∀ i, IsReal (x1 i)) (h2 : ∀ i, IsReal (x2 i)) (h3 : ∀ i, IsReal (x3 i))
    (h4 : ∀ i, IsReal (x4 i))
    (i : S256x64x16x16.Idx) : IsReal (val_main_v235 (F := Ideal) x0 x1 x2 x3 x4 i) := by
  obtain ⟨b, o, y, z, rfl⟩ : ∃ (b : Fin 256) (o : Fin 64) (y z : Fin 16), i = ix4 b o y z :=
    ⟨i 0, i 1, i 2, i 3, eq_ix4 i⟩
  rw [RefLayers.layer1]
  exact IsReal.gelu (IsReal.conv (fun _ _ _ _ => IsReal.rd4 (real0 h0 h1 h2) _ _ _ _) (fun _ _ _ _ => IsReal.rd4 h3 _ _ _ _)
    (fun _ => IsReal.rd1 h4 _) _ _ _ _)

/-- Layer 3 of the reference is real. -/
theorem real2 (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i))
    (i : S256x128x8x8.Idx) : IsReal (val_main_v343 (F := Ideal) x0 x1 x2 x3 x4 x5 x6 i) := by
  obtain ⟨b, o, y, z, rfl⟩ : ∃ (b : Fin 256) (o : Fin 128) (y z : Fin 8), i = ix4 b o y z :=
    ⟨i 0, i 1, i 2, i 3, eq_ix4 i⟩
  rw [RefLayers.layer2]
  exact IsReal.gelu (IsReal.conv (fun _ _ _ _ => IsReal.rd4 (real1 h0 h1 h2 h3 h4) _ _ _ _) (fun _ _ _ _ => IsReal.rd4 h5 _ _ _ _)
    (fun _ => IsReal.rd1 h6 _) _ _ _ _)

/-- Layer 4 of the reference is real. -/
theorem real3 (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (h8 : ∀ i, IsReal (x8 i))
    (i : S256x256x4x4.Idx) : IsReal (val_main_v451 (F := Ideal) x0 x1 x2 x3 x4 x5 x6 x7 x8 i) := by
  obtain ⟨b, o, y, z, rfl⟩ : ∃ (b : Fin 256) (o : Fin 256) (y z : Fin 4), i = ix4 b o y z :=
    ⟨i 0, i 1, i 2, i 3, eq_ix4 i⟩
  rw [RefLayers.layer3]
  exact IsReal.gelu (IsReal.conv (fun _ _ _ _ => IsReal.rd4 (real2 h0 h1 h2 h3 h4 h5 h6) _ _ _ _) (fun _ _ _ _ => IsReal.rd4 h7 _ _ _ _)
    (fun _ => IsReal.rd1 h8 _) _ _ _ _)

/-- The features are real. -/
theorem real_feat (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) (h10 : ∀ i, IsReal (x10 i))
    (n j : Fin 256) : IsReal (val_main_v457 (F := Ideal) x0 x1 x2 x3 x4 x5 x6 x7 x8 x9 x10 (ix2 n j)) := by
  rw [feat_apply]
  exact (IsReal.sum fun x _ => (real3 h0 h1 h2 h3 h4 h5 h6 h7 h8 _).mul (h9 _)).add (h10 _)

/-- The codes are real. -/
theorem real_code (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) (h10 : ∀ i, IsReal (x10 i)) (h11 : ∀ i, IsReal (x11 i))
    (h12 : ∀ i, IsReal (x12 i))
    (n : Fin 256) (l : Fin 3) (d : Fin 32) :
    IsReal (val_main_v464 (F := Ideal) x0 x1 x2 x3 x4 x5 x6 x7 x8 x9 x10 x11 x12 (ix3 n l d)) := by
  rw [code_apply]
  exact ((IsReal.sum fun j _ => (real_feat h0 h1 h2 h3 h4 h5 h6 h7 h8 h9 h10 n j).mul (h11 _)).add (h12 _)).mul (IsReal.dimBit _ _)

end Cert.RefTail

namespace Cert.Layers

open Idealize.ShloMosaic Idealize.ShloMosaic.TcCoe Idealize.SL.Sem Cert.Spec Cert.KernelIdeal Cert.KernelIdeal.Gen
open Cert.ReferenceIdeal.Read (val_main_v464 val_main_v485 val_main_v502 val_main_v518 val_main_v520)

variable (m : (ℓ : Loc nD τ sig) → Buf (Elt Ideal) ℓ) (ρ : Dev nD → PrngReg) (c : Dev nD)

/-- Every argument on device `c` is real. -/
def Reals : Prop :=
  (∀ i, IsReal (a0 m c i)) ∧ (∀ i, IsReal (a1 m c i)) ∧ (∀ i, IsReal (a2 m c i)) ∧ (∀ i, IsReal (a3 m c i)) ∧ (∀ i, IsReal (a4 m c i)) ∧ (∀ i, IsReal (a5 m c i)) ∧ (∀ i, IsReal (a6 m c i))
    ∧ (∀ i, IsReal (a7 m c i)) ∧ (∀ i, IsReal (a8 m c i)) ∧ (∀ i, IsReal (a9 m c i)) ∧ (∀ i, IsReal (a10 m c i)) ∧ (∀ i, IsReal (a11 m c i)) ∧ (∀ i, IsReal (a12 m c i)) ∧ (∀ i, IsReal (a13 m c i))

variable {m c}

theorem Reals.code (h : Reals m c) (n : Fin 256) (l : Fin 3) (d : Fin 32) :
    IsReal (val_main_v464 (F := Ideal) (a0 m c) (a1 m c) (a2 m c) (a3 m c) (a4 m c) (a5 m c) (a6 m c) (a7 m c) (a8 m c)
      (a9 m c) (a10 m c) (a11 m c) (a12 m c) (ix3 n l d)) := by
  obtain ⟨h0, h1, h2, h3, h4, h5, h6, h7, h8, h9, h10, h11, h12, h13⟩ := h
  exact RefTail.real_code h0 h1 h2 h3 h4 h5 h6 h7 h8 h9 h10 h11 h12 n l d

theorem Reals.entry (h : Reals m c) (i : S3x256x32.Idx) : IsReal (a13 m c i) := by
  obtain ⟨h0, h1, h2, h3, h4, h5, h6, h7, h8, h9, h10, h11, h12, h13⟩ := h
  exact h13 i

/-- The two programs choose the same entry: their distances differ by the code's own square. -/
theorem pick_same (h : Reals m c) (n : Fin 256) (l : Fin 3) :
    RefTail.pickRef (a0 m c) (a1 m c) (a2 m c) (a3 m c) (a4 m c) (a5 m c) (a6 m c) (a7 m c) (a8 m c)
        (a9 m c) (a10 m c) (a11 m c) (a12 m c) (a13 m c) n l
      = pickAt (r50 m ρ c) (r53 m ρ c) (r54 m ρ c) (a11 m c) (a12 m c) (a13 m c) l n := by
  unfold pickAt RefTail.pickRef pick
  rw [show codeAt (r50 m ρ c) (r53 m ρ c) (r54 m ρ c) (a11 m c) (a12 m c) l n = _ from funext (code_same m ρ c l n)]
  obtain ⟨s, a, hs⟩ := dist_eq_code (l := l) (fun d => h.code n l d) (fun k d => h.entry (ix3 l k d))
  refine first_add_left _ _ s a (fun k => (hs k).1) fun k => ?_
  rw [RefTail.dist_apply]
  exact (hs k).2

theorem near_same (h : Reals m c) (n : Fin 256) (l : Fin 3) (d : Fin 32) :
    val_main_v502 (F := Ideal) (a0 m c) (a1 m c) (a2 m c) (a3 m c) (a4 m c) (a5 m c) (a6 m c) (a7 m c) (a8 m c)
        (a9 m c) (a10 m c) (a11 m c) (a12 m c) (a13 m c) (ix3 n l d)
      = a13 m c (ix3 l (pickAt (r50 m ρ c) (r53 m ρ c) (r54 m ρ c) (a11 m c) (a12 m c) (a13 m c) l n) d) := by
  rw [RefTail.near_apply, pick_same ρ h]

/-- Result 1: the codes moved to their entries. -/
theorem moved_same (h : Reals m c) :
    (W19 m ρ c (Proc.devRef .tc main_v56) : S256x3x32.Idx → EReal)
      = val_main_v520 (F := Ideal) (a0 m c) (a1 m c) (a2 m c) (a3 m c) (a4 m c) (a5 m c) (a6 m c) (a7 m c) (a8 m c)
          (a9 m c) (a10 m c) (a11 m c) (a12 m c) (a13 m c) := by
  funext i
  obtain ⟨n, l, d, rfl⟩ : ∃ (n : Fin 256) (l : Fin 3) (d : Fin 32), i = ix3 n l d := ⟨i 0, i 1, i 2, eq_ix3 i⟩
  rw [out_v56 m ρ c n l d, RefTail.moved_apply, near_same ρ h, ← code_same m ρ c l n d]
  rfl

/-- Result 2: the entries' numbers. -/
theorem index_same (h : Reals m c) :
    (W19 m ρ c (Proc.devRef .tc main_v58) : S256x3.Idx → BitVec 32)
      = val_main_v485 (F := Ideal) (a0 m c) (a1 m c) (a2 m c) (a3 m c) (a4 m c) (a5 m c) (a6 m c) (a7 m c) (a8 m c)
          (a9 m c) (a10 m c) (a11 m c) (a12 m c) (a13 m c) := by
  funext i
  obtain ⟨n, l, rfl⟩ : ∃ (n : Fin 256) (l : Fin 3), i = ix2 n l := ⟨i 0, i 1, eq_ix2 i⟩
  rw [out_v58 m ρ c n l, RefTail.pick_apply, pick_same ρ h]

/-- Result 3: the loss. -/
theorem loss_same (h : Reals m c) :
    (W19 m ρ c (Proc.devRef .tc main_v59) : S_.Idx → EReal)
      = val_main_v518 (F := Ideal) (a0 m c) (a1 m c) (a2 m c) (a3 m c) (a4 m c) (a5 m c) (a6 m c) (a7 m c) (a8 m c)
          (a9 m c) (a10 m c) (a11 m c) (a12 m c) (a13 m c) := by
  funext i
  obtain rfl : i = ix0 := funext fun a => a.elim0
  rw [out_v59 m ρ c, RefTail.loss_apply,
    RefTail.loss_levels (fun n l d => val_main_v464 (F := Ideal) (a0 m c) (a1 m c) (a2 m c) (a3 m c) (a4 m c) (a5 m c) (a6 m c)
      (a7 m c) (a8 m c) (a9 m c) (a10 m c) (a11 m c) (a12 m c) (ix3 n l d))
      (fun n l d => val_main_v502 (F := Ideal) (a0 m c) (a1 m c) (a2 m c) (a3 m c) (a4 m c) (a5 m c) (a6 m c)
        (a7 m c) (a8 m c) (a9 m c) (a10 m c) (a11 m c) (a12 m c) (a13 m c) (ix3 n l d))
      (fun n l d => h.code n l d) (fun n l d => by rw [near_same ρ h]; exact h.entry _)]
  have e : ∀ l : Fin 3, errAt (r50 m ρ c) (r53 m ρ c) (r54 m ρ c) (a11 m c) (a12 m c) (a13 m c) l
      = ∑ n, ∑ d, (val_main_v464 (F := Ideal) (a0 m c) (a1 m c) (a2 m c) (a3 m c) (a4 m c) (a5 m c) (a6 m c)
          (a7 m c) (a8 m c) (a9 m c) (a10 m c) (a11 m c) (a12 m c) (ix3 n l d)
          - val_main_v502 (F := Ideal) (a0 m c) (a1 m c) (a2 m c) (a3 m c) (a4 m c) (a5 m c) (a6 m c)
          (a7 m c) (a8 m c) (a9 m c) (a10 m c) (a11 m c) (a12 m c) (a13 m c) (ix3 n l d))
        * (val_main_v464 (F := Ideal) (a0 m c) (a1 m c) (a2 m c) (a3 m c) (a4 m c) (a5 m c) (a6 m c)
          (a7 m c) (a8 m c) (a9 m c) (a10 m c) (a11 m c) (a12 m c) (ix3 n l d)
          - val_main_v502 (F := Ideal) (a0 m c) (a1 m c) (a2 m c) (a3 m c) (a4 m c) (a5 m c) (a6 m c)
          (a7 m c) (a8 m c) (a9 m c) (a10 m c) (a11 m c) (a12 m c) (a13 m c) (ix3 n l d)) * dimBit l d := fun l => by
    unfold errAt err
    refine Finset.sum_congr rfl fun n _ => Finset.sum_congr rfl fun d _ => ?_
    rw [near_same ρ h, ← code_same m ρ c l n d]
    rfl
  unfold lossOf
  rw [e 0, e 1, e 2]
  rfl

/-- Result 4: the codes. -/
theorem codes_same :
    (W19 m ρ c (Proc.devRef .tc main_v57) : S256x3x32.Idx → EReal)
      = val_main_v464 (F := Ideal) (a0 m c) (a1 m c) (a2 m c) (a3 m c) (a4 m c) (a5 m c) (a6 m c) (a7 m c) (a8 m c)
          (a9 m c) (a10 m c) (a11 m c) (a12 m c) := by
  funext i
  obtain ⟨n, l, d, rfl⟩ : ∃ (n : Fin 256) (l : Fin 3) (d : Fin 32), i = ix3 n l d := ⟨i 0, i 1, i 2, eq_ix3 i⟩
  rw [out_v57 m ρ c n l d, code_same m ρ c l n d]

/-- All four results, the reference's at arguments equal to the kernel's. -/
theorem results_same (h : Reals m c)
    {y0 : S256x3x64x64.Idx → EReal} {y1 : S32x3x4x4.Idx → EReal} {y2 : S32.Idx → EReal}
    {y3 : S64x32x4x4.Idx → EReal} {y4 : S64.Idx → EReal} {y5 : S128x64x4x4.Idx → EReal}
    {y6 : S128.Idx → EReal} {y7 : S256x128x4x4.Idx → EReal} {y8 : S256.Idx → EReal}
    {y9 : S256x4096.Idx → EReal} {y10 : S256.Idx → EReal} {y11 : S3x256x32.Idx → EReal}
    {y12 : S3x32.Idx → EReal} {y13 : S3x256x32.Idx → EReal}
    (e0 : y0 = a0 m c) (e1 : y1 = a1 m c) (e2 : y2 = a2 m c) (e3 : y3 = a3 m c) (e4 : y4 = a4 m c)
    (e5 : y5 = a5 m c) (e6 : y6 = a6 m c) (e7 : y7 = a7 m c) (e8 : y8 = a8 m c) (e9 : y9 = a9 m c)
    (e10 : y10 = a10 m c) (e11 : y11 = a11 m c) (e12 : y12 = a12 m c) (e13 : y13 = a13 m c) :
    val_main_v520 (F := Ideal) y0 y1 y2 y3 y4 y5 y6 y7 y8 y9 y10 y11 y12 y13 = (W19 m ρ c (Proc.devRef .tc main_v56) : S256x3x32.Idx → EReal)
    ∧ val_main_v485 (F := Ideal) y0 y1 y2 y3 y4 y5 y6 y7 y8 y9 y10 y11 y12 y13 = (W19 m ρ c (Proc.devRef .tc main_v58) : S256x3.Idx → BitVec 32)
    ∧ val_main_v518 (F := Ideal) y0 y1 y2 y3 y4 y5 y6 y7 y8 y9 y10 y11 y12 y13 = (W19 m ρ c (Proc.devRef .tc main_v59) : S_.Idx → EReal)
    ∧ val_main_v464 (F := Ideal) y0 y1 y2 y3 y4 y5 y6 y7 y8 y9 y10 y11 y12 = (W19 m ρ c (Proc.devRef .tc main_v57) : S256x3x32.Idx → EReal) := by
  subst e0 e1 e2 e3 e4 e5 e6 e7 e8 e9 e10 e11 e12 e13
  exact ⟨(moved_same ρ h).symm, (index_same ρ h).symm, (loss_same ρ h).symm, (codes_same ρ).symm⟩

end Cert.Layers

end
-- ==== Proof.lean ====
/-
  The claims: the frames of the three programs, the named constant of the kernel's loss, and the equality of all four
  results of the kernel and of the reference over the reals.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite_and_no_tie
public import proofs.«01_k».proof.Proof.KernelRun
public import proofs.«01_k».proof.Proof.Precondition
public import proofs.«01_k».proof.Proof.Same

@[expose] public section

set_option maxRecDepth 16384

noncomputable section

namespace Cert.Proof

open Idealize.ShloMosaic Idealize.ShloMosaic.TcCoe Idealize.SL.Sem

/-- The reference declares no semaphore. -/
theorem no_sem (g : SemLoc Cert.ReferenceIdeal.sig) : False := by
  revert g
  decide

/-- The reference's frame: its arguments end unchanged and its counters, of which there are none, at zero. -/
theorem reference_frame : Cert.quiescent_ReferenceIdeal := fun m g _ =>
  (θ_run _ _ _).mono (fun _ h => ⟨fun c => (h c).2.2.2.2, funext fun s => (no_sem s.2).elim⟩)
    (Cert.ReferenceIdeal.Value.run m g)

open Cert.KernelIdeal Cert.KernelIdeal.Gen in
/-- Under the precondition every argument of the kernel is real. -/
theorem reals_of_pre (m : (ℓ : Loc nD τ sig) → Buf (Elt Ideal) ℓ) (h : Cert.Pre_KernelIdeal m) (c : Dev nD) :
    Cert.Layers.Reals m c := by
  obtain ⟨h0, h1, h2, h3, h4, h5, h6, h7, h8, h9, h10, h11, h12, h13⟩ := Cert.Bounds.reals (h c)
  exact ⟨h0, h1, h2, h3, h4, h5, h6, h7, h8, h9, h10, h11, h12, h13⟩

open Cert.KernelIdeal Cert.KernelIdeal.Gen in
/-- The kernel's run, its results at the last boundary's contents and its arguments unchanged. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v56) = W19 m g c (Proc.devRef .tc main_v56)
      ∧ r.2.mem ((c.tc : Thread nD τ).loc main_v58) = W19 m g c (Proc.devRef .tc main_v58)
      ∧ r.2.mem ((c.tc : Thread nD τ).loc main_v59) = W19 m g c (Proc.devRef .tc main_v59)
      ∧ r.2.mem ((c.tc : Thread nD τ).loc main_v57) = W19 m g c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
      ⟨h c _ (mem_uc main_v56 (by decide)), h c _ (mem_uc main_v58 (by decide)), h c _ (mem_uc main_v59 (by decide)),
       h c _ (mem_uc main_v57 (by decide)),
       (h c _ (mem_uc main_arg0 (by decide))).trans (W19_main_arg0 m g c),
       (h c _ (mem_uc main_arg1 (by decide))).trans (W19_main_arg1 m g c),
       (h c _ (mem_uc main_arg2 (by decide))).trans (W19_main_arg2 m g c),
       (h c _ (mem_uc main_arg3 (by decide))).trans (W19_main_arg3 m g c),
       (h c _ (mem_uc main_arg4 (by decide))).trans (W19_main_arg4 m g c),
       (h c _ (mem_uc main_arg5 (by decide))).trans (W19_main_arg5 m g c),
       (h c _ (mem_uc main_arg6 (by decide))).trans (W19_main_arg6 m g c),
       (h c _ (mem_uc main_arg7 (by decide))).trans (W19_main_arg7 m g c),
       (h c _ (mem_uc main_arg8 (by decide))).trans (W19_main_arg8 m g c),
       (h c _ (mem_uc main_arg9 (by decide))).trans (W19_main_arg9 m g c),
       (h c _ (mem_uc main_arg10 (by decide))).trans (W19_main_arg10 m g c),
       (h c _ (mem_uc main_arg11 (by decide))).trans (W19_main_arg11 m g c),
       (h c _ (mem_uc main_arg12 (by decide))).trans (W19_main_arg12 m g c),
       (h c _ (mem_uc main_arg13 (by decide))).trans (W19_main_arg13 m g c)⟩)
    (Cert.Layers.run_contents m g)

/-- The kernel and the reference end with equal results over the reals. -/
theorem equal_results : Cert.algebraic_KernelIdeal_ReferenceIdeal := fun m g m' g' hpre hargs =>
  ⟨fun c => Cert.KernelIdeal.Gen.W19 m g c (Proc.devRef .tc Cert.KernelIdeal.main_v56),
   fun c => Cert.KernelIdeal.Gen.W19 m g c (Proc.devRef .tc Cert.KernelIdeal.main_v58),
   fun c => Cert.KernelIdeal.Gen.W19 m g c (Proc.devRef .tc Cert.KernelIdeal.main_v59),
   fun c => Cert.KernelIdeal.Gen.W19 m g c (Proc.devRef .tc Cert.KernelIdeal.main_v57),
   kernel_run m g,
   (θ_run _ _ _).mono (fun _ hr c => by
      obtain ⟨h0, h1, h2, h3, h4, h5, h6, h7, h8, h9, h10, h11, h12, h13⟩ := hargs c
      obtain ⟨s0, s1, s2, s3⟩ := Cert.Layers.results_same g (reals_of_pre m hpre c) h0 h1 h2 h3 h4 h5 h6 h7 h8 h9 h10 h11 h12 h13
      obtain ⟨q0, q1, q2, q3, hrest⟩ := hr c
      exact ⟨q0.trans ((Cert.ReferenceIdeal.Read.val_main_v520_eq (StableHlo.launchContents m' c)).trans s0),
        q1.trans ((Cert.ReferenceIdeal.Read.val_main_v485_eq (StableHlo.launchContents m' c)).trans s1),
        q2.trans ((Cert.ReferenceIdeal.Read.val_main_v518_eq (StableHlo.launchContents m' c)).trans s2),
        q3.trans ((Cert.ReferenceIdeal.Read.val_main_v464_eq (StableHlo.launchContents m' c)).trans s3), hrest⟩)
    (Cert.ReferenceIdeal.Value.run m' g')⟩

theorem claim : Cert.Claim :=
  ⟨Cert.Kernel.Gen.facts, Cert.KernelIdeal.Gen.facts, Cert.ReferenceIdeal.Gen.facts, Cert.Pre_finite_and_no_tie.Gen.facts,
   fun m g _ => Cert.Kernel.Gen.frame m g, fun m g _ => Cert.Kernel.Gen.frame m g,
   fun m g _ => Cert.KernelIdeal.Gen.frame m g, reference_frame, fun m g _ => reference_frame m g trivial,
   IdealRules.named_const.statement Cert.KernelIdeal.κ "loss_scale" .f32 0x38555555#32 ((5 / 98304 : ℝ) : EReal) rfl,
   equal_results⟩

end Cert.Proof

end
